-- ==== Defs.lean ====
def Pre_Residual (m : (ℓ : Loc Cert.Residual.nD Cert.Residual.τ Cert.Residual.sig) → Buf (Elt Bits) ℓ) : Prop :=
  True

def Pre_ResidualIdeal (m : (ℓ : Loc Cert.ResidualIdeal.nD Cert.ResidualIdeal.τ Cert.ResidualIdeal.sig) → Buf (Elt Ideal) ℓ) : Prop :=
  True

def Pre_ResidualReferenceIdeal (m : (ℓ : Loc Cert.ResidualReferenceIdeal.nD Cert.ResidualReferenceIdeal.τ Cert.ResidualReferenceIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjIdeal_gain_bounded [hPre_gain_bounded : Cert.Pre_gain_bounded.Facts] (m : (ℓ : Loc Cert.ProjIdeal.nD Cert.ProjIdeal.τ Cert.ProjIdeal.sig) → Buf (Elt Ideal) ℓ) : Prop :=
  ∀ c : Dev Cert.ProjIdeal.nD,
    (Cert.Pre_gain_bounded.fn (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3))) = (fun _ => 1#1)

def Pre_ProjReferenceIdeal (m : (ℓ : Loc Cert.ProjReferenceIdeal.nD Cert.ProjReferenceIdeal.τ Cert.ProjReferenceIdeal.sig) → Buf (Elt Ideal) ℓ) : Prop :=
  True

def Pre_ProjReferenceIdeal_gain_bounded [hPre_gain_bounded : Cert.Pre_gain_bounded.Facts] (m : (ℓ : Loc Cert.ProjReferenceIdeal.nD Cert.ProjReferenceIdeal.τ Cert.ProjReferenceIdeal.sig) → Buf (Elt Ideal) ℓ) : Prop :=
  ∀ c : Dev Cert.ProjReferenceIdeal.nD,
    (Cert.Pre_gain_bounded.fn (F := Ideal) (m ((c.tc : Thread Cert.ProjReferenceIdeal.nD Cert.ProjReferenceIdeal.τ).loc Cert.ProjReferenceIdeal.main_arg0)) (m ((c.tc : Thread Cert.ProjReferenceIdeal.nD Cert.ProjReferenceIdeal.τ).loc Cert.ProjReferenceIdeal.main_arg1)) (m ((c.tc : Thread Cert.ProjReferenceIdeal.nD Cert.ProjReferenceIdeal.τ).loc Cert.ProjReferenceIdeal.main_arg2)) (m ((c.tc : Thread Cert.ProjReferenceIdeal.nD Cert.ProjReferenceIdeal.τ).loc Cert.ProjReferenceIdeal.main_arg3))) = (fun _ => 1#1)

def quiescent_Residual [hResidual : Cert.Residual.Facts] : Prop :=
  ∀ (m : (ℓ : Loc Cert.Residual.nD Cert.Residual.τ Cert.Residual.sig) → Buf (Elt Bits) ℓ) (g : Dev Cert.Residual.nD → PrngReg), Pre_Residual m →
    θ_run (Cert.Residual.defs (F := Bits)) (onTc (τ := Cert.Residual.τ) (Cert.Residual.main (F := Bits))) ⟨m, fun _ => 0, g⟩ (fun r => (∀ c : Dev Cert.Residual.nD,
      r.2.mem ((c.tc : Thread Cert.Residual.nD Cert.Residual.τ).loc Cert.Residual.main_arg0) = m ((c.tc : Thread Cert.Residual.nD Cert.Residual.τ).loc Cert.Residual.main_arg0)
      ∧ r.2.mem ((c.tc : Thread Cert.Residual.nD Cert.Residual.τ).loc Cert.Residual.main_arg1) = m ((c.tc : Thread Cert.Residual.nD Cert.Residual.τ).loc Cert.Residual.main_arg1)
      ∧ r.2.mem ((c.tc : Thread Cert.Residual.nD Cert.Residual.τ).loc Cert.Residual.main_arg2) = m ((c.tc : Thread Cert.Residual.nD Cert.Residual.τ).loc Cert.Residual.main_arg2)
      ∧ r.2.mem ((c.tc : Thread Cert.Residual.nD Cert.Residual.τ).loc Cert.Residual.main_arg3) = m ((c.tc : Thread Cert.Residual.nD Cert.Residual.τ).loc Cert.Residual.main_arg3)
      ∧ r.2.mem ((c.tc : Thread Cert.Residual.nD Cert.Residual.τ).loc Cert.Residual.main_arg4) = m ((c.tc : Thread Cert.Residual.nD Cert.Residual.τ).loc Cert.Residual.main_arg4)
      ∧ r.2.mem ((c.tc : Thread Cert.Residual.nD Cert.Residual.τ).loc Cert.Residual.main_arg5) = m ((c.tc : Thread Cert.Residual.nD Cert.Residual.τ).loc Cert.Residual.main_arg5))
      ∧ r.2.sem = fun _ => 0)

def quiescent_ResidualIdeal [hResidualIdeal : Cert.ResidualIdeal.Facts] : Prop :=
  ∀ (m : (ℓ : Loc Cert.ResidualIdeal.nD Cert.ResidualIdeal.τ Cert.ResidualIdeal.sig) → Buf (Elt Ideal) ℓ) (g : Dev Cert.ResidualIdeal.nD → PrngReg), Pre_ResidualIdeal m →
    θ_run (Cert.ResidualIdeal.defs (F := Ideal)) (onTc (τ := Cert.ResidualIdeal.τ) (Cert.ResidualIdeal.main (F := Ideal))) ⟨m, fun _ => 0, g⟩ (fun r => (∀ c : Dev Cert.ResidualIdeal.nD,
      r.2.mem ((c.tc : Thread Cert.ResidualIdeal.nD Cert.ResidualIdeal.τ).loc Cert.ResidualIdeal.main_arg0) = m ((c.tc : Thread Cert.ResidualIdeal.nD Cert.ResidualIdeal.τ).loc Cert.ResidualIdeal.main_arg0)
      ∧ r.2.mem ((c.tc : Thread Cert.ResidualIdeal.nD Cert.ResidualIdeal.τ).loc Cert.ResidualIdeal.main_arg1) = m ((c.tc : Thread Cert.ResidualIdeal.nD Cert.ResidualIdeal.τ).loc Cert.ResidualIdeal.main_arg1)
      ∧ r.2.mem ((c.tc : Thread Cert.ResidualIdeal.nD Cert.ResidualIdeal.τ).loc Cert.ResidualIdeal.main_arg2) = m ((c.tc : Thread Cert.ResidualIdeal.nD Cert.ResidualIdeal.τ).loc Cert.ResidualIdeal.main_arg2)
      ∧ r.2.mem ((c.tc : Thread Cert.ResidualIdeal.nD Cert.ResidualIdeal.τ).loc Cert.ResidualIdeal.main_arg3) = m ((c.tc : Thread Cert.ResidualIdeal.nD Cert.ResidualIdeal.τ).loc Cert.ResidualIdeal.main_arg3)
      ∧ r.2.mem ((c.tc : Thread Cert.ResidualIdeal.nD Cert.ResidualIdeal.τ).loc Cert.ResidualIdeal.main_arg4) = m ((c.tc : Thread Cert.ResidualIdeal.nD Cert.ResidualIdeal.τ).loc Cert.ResidualIdeal.main_arg4)
      ∧ r.2.mem ((c.tc : Thread Cert.ResidualIdeal.nD Cert.ResidualIdeal.τ).loc Cert.ResidualIdeal.main_arg5) = m ((c.tc : Thread Cert.ResidualIdeal.nD Cert.ResidualIdeal.τ).loc Cert.ResidualIdeal.main_arg5))
      ∧ r.2.sem = fun _ => 0)

def quiescent_ResidualReferenceIdeal [hResidualReferenceIdeal : Cert.ResidualReferenceIdeal.Facts] : Prop :=
  ∀ (m : (ℓ : Loc Cert.ResidualReferenceIdeal.nD Cert.ResidualReferenceIdeal.τ Cert.ResidualReferenceIdeal.sig) → Buf (Elt Ideal) ℓ) (g : Dev Cert.ResidualReferenceIdeal.nD → PrngReg), Pre_ResidualReferenceIdeal m →
    θ_run (Cert.ResidualReferenceIdeal.defs (F := Ideal)) (onTc (τ := Cert.ResidualReferenceIdeal.τ) (Cert.ResidualReferenceIdeal.main (F := Ideal))) ⟨m, fun _ => 0, g⟩ (fun r => (∀ c : Dev Cert.ResidualReferenceIdeal.nD,
      r.2.mem ((c.tc : Thread Cert.ResidualReferenceIdeal.nD Cert.ResidualReferenceIdeal.τ).loc Cert.ResidualReferenceIdeal.main_arg0) = m ((c.tc : Thread Cert.ResidualReferenceIdeal.nD Cert.ResidualReferenceIdeal.τ).loc Cert.ResidualReferenceIdeal.main_arg0)
      ∧ r.2.mem ((c.tc : Thread Cert.ResidualReferenceIdeal.nD Cert.ResidualReferenceIdeal.τ).loc Cert.ResidualReferenceIdeal.main_arg1) = m ((c.tc : Thread Cert.ResidualReferenceIdeal.nD Cert.ResidualReferenceIdeal.τ).loc Cert.ResidualReferenceIdeal.main_arg1)
      ∧ r.2.mem ((c.tc : Thread Cert.ResidualReferenceIdeal.nD Cert.ResidualReferenceIdeal.τ).loc Cert.ResidualReferenceIdeal.main_arg2) = m ((c.tc : Thread Cert.ResidualReferenceIdeal.nD Cert.ResidualReferenceIdeal.τ).loc Cert.ResidualReferenceIdeal.main_arg2)
      ∧ r.2.mem ((c.tc : Thread Cert.ResidualReferenceIdeal.nD Cert.ResidualReferenceIdeal.τ).loc Cert.ResidualReferenceIdeal.main_arg3) = m ((c.tc : Thread Cert.ResidualReferenceIdeal.nD Cert.ResidualReferenceIdeal.τ).loc Cert.ResidualReferenceIdeal.main_arg3)
      ∧ r.2.mem ((c.tc : Thread Cert.ResidualReferenceIdeal.nD Cert.ResidualReferenceIdeal.τ).loc Cert.ResidualReferenceIdeal.main_arg4) = m ((c.tc : Thread Cert.ResidualReferenceIdeal.nD Cert.ResidualReferenceIdeal.τ).loc Cert.ResidualReferenceIdeal.main_arg4)
      ∧ r.2.mem ((c.tc : Thread Cert.ResidualReferenceIdeal.nD Cert.ResidualReferenceIdeal.τ).loc Cert.ResidualReferenceIdeal.main_arg5) = m ((c.tc : Thread Cert.ResidualReferenceIdeal.nD Cert.ResidualReferenceIdeal.τ).loc Cert.ResidualReferenceIdeal.main_arg5))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ r.2.sem = fun _ => 0)

def quiescent_ProjIdeal_pre_gain_bounded [hProjIdeal : Cert.ProjIdeal.Facts] [hPre_gain_bounded : Cert.Pre_gain_bounded.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal_gain_bounded m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3))
      ∧ r.2.sem = fun _ => 0)

def quiescent_ProjReferenceIdeal_pre_gain_bounded [hProjReferenceIdeal : Cert.ProjReferenceIdeal.Facts] [hPre_gain_bounded : Cert.Pre_gain_bounded.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal_gain_bounded m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3))
      ∧ r.2.sem = fun _ => 0)

def preserves_Residual_ResidualIdeal : Prop :=
  True

def algebraic_ResidualIdeal_ResidualReferenceIdeal [hResidualIdeal : Cert.ResidualIdeal.Facts] [hResidualReferenceIdeal : Cert.ResidualReferenceIdeal.Facts] : Prop :=
  ∀ (m : (ℓ : Loc Cert.ResidualIdeal.nD Cert.ResidualIdeal.τ Cert.ResidualIdeal.sig) → Buf (Elt Ideal) ℓ) (g : Dev Cert.ResidualIdeal.nD → PrngReg)
    (m' : (ℓ : Loc Cert.ResidualReferenceIdeal.nD Cert.ResidualReferenceIdeal.τ Cert.ResidualReferenceIdeal.sig) → Buf (Elt Ideal) ℓ) (g' : Dev Cert.ResidualReferenceIdeal.nD → PrngReg), Pre_ResidualIdeal m →
    (∀ c : Dev Cert.ResidualIdeal.nD,
      m' ((c.tc : Thread Cert.ResidualReferenceIdeal.nD Cert.ResidualReferenceIdeal.τ).loc Cert.ResidualReferenceIdeal.main_arg0) = m ((c.tc : Thread Cert.ResidualIdeal.nD Cert.ResidualIdeal.τ).loc Cert.ResidualIdeal.main_arg0)
      ∧ m' ((c.tc : Thread Cert.ResidualReferenceIdeal.nD Cert.ResidualReferenceIdeal.τ).loc Cert.ResidualReferenceIdeal.main_arg1) = m ((c.tc : Thread Cert.ResidualIdeal.nD Cert.ResidualIdeal.τ).loc Cert.ResidualIdeal.main_arg1)
      ∧ m' ((c.tc : Thread Cert.ResidualReferenceIdeal.nD Cert.ResidualReferenceIdeal.τ).loc Cert.ResidualReferenceIdeal.main_arg2) = m ((c.tc : Thread Cert.ResidualIdeal.nD Cert.ResidualIdeal.τ).loc Cert.ResidualIdeal.main_arg2)
      ∧ m' ((c.tc : Thread Cert.ResidualReferenceIdeal.nD Cert.ResidualReferenceIdeal.τ).loc Cert.ResidualReferenceIdeal.main_arg3) = m ((c.tc : Thread Cert.ResidualIdeal.nD Cert.ResidualIdeal.τ).loc Cert.ResidualIdeal.main_arg3)
      ∧ m' ((c.tc : Thread Cert.ResidualReferenceIdeal.nD Cert.ResidualReferenceIdeal.τ).loc Cert.ResidualReferenceIdeal.main_arg4) = m ((c.tc : Thread Cert.ResidualIdeal.nD Cert.ResidualIdeal.τ).loc Cert.ResidualIdeal.main_arg4)
      ∧ m' ((c.tc : Thread Cert.ResidualReferenceIdeal.nD Cert.ResidualReferenceIdeal.τ).loc Cert.ResidualReferenceIdeal.main_arg5) = m ((c.tc : Thread Cert.ResidualIdeal.nD Cert.ResidualIdeal.τ).loc Cert.ResidualIdeal.main_arg5)) →
    ∃ (v0 : (c : Dev Cert.ResidualIdeal.nD) → Buf (Elt Ideal) ((c.tc : Thread Cert.ResidualIdeal.nD Cert.ResidualIdeal.τ).loc Cert.ResidualIdeal.main_v0_0)) (v1 : (c : Dev Cert.ResidualIdeal.nD) → Buf (Elt Ideal) ((c.tc : Thread Cert.ResidualIdeal.nD Cert.ResidualIdeal.τ).loc Cert.ResidualIdeal.main_v0_1)),
      θ_run (Cert.ResidualIdeal.defs (F := Ideal)) (onTc (τ := Cert.ResidualIdeal.τ) (Cert.ResidualIdeal.main (F := Ideal))) ⟨m, fun _ => 0, g⟩ (fun r => ∀ c : Dev Cert.ResidualIdeal.nD,
          r.2.mem ((c.tc : Thread Cert.ResidualIdeal.nD Cert.ResidualIdeal.τ).loc Cert.ResidualIdeal.main_v0_0) = v0 c
          ∧ r.2.mem ((c.tc : Thread Cert.ResidualIdeal.nD Cert.ResidualIdeal.τ).loc Cert.ResidualIdeal.main_v0_1) = v1 c
          ∧ r.2.mem ((c.tc : Thread Cert.ResidualIdeal.nD Cert.ResidualIdeal.τ).loc Cert.ResidualIdeal.main_arg0) = m ((c.tc : Thread Cert.ResidualIdeal.nD Cert.ResidualIdeal.τ).loc Cert.ResidualIdeal.main_arg0)
          ∧ r.2.mem ((c.tc : Thread Cert.ResidualIdeal.nD Cert.ResidualIdeal.τ).loc Cert.ResidualIdeal.main_arg1) = m ((c.tc : Thread Cert.ResidualIdeal.nD Cert.ResidualIdeal.τ).loc Cert.ResidualIdeal.main_arg1)
          ∧ r.2.mem ((c.tc : Thread Cert.ResidualIdeal.nD Cert.ResidualIdeal.τ).loc Cert.ResidualIdeal.main_arg2) = m ((c.tc : Thread Cert.ResidualIdeal.nD Cert.ResidualIdeal.τ).loc Cert.ResidualIdeal.main_arg2)
          ∧ r.2.mem ((c.tc : Thread Cert.ResidualIdeal.nD Cert.ResidualIdeal.τ).loc Cert.ResidualIdeal.main_arg3) = m ((c.tc : Thread Cert.ResidualIdeal.nD Cert.ResidualIdeal.τ).loc Cert.ResidualIdeal.main_arg3)
          ∧ r.2.mem ((c.tc : Thread Cert.ResidualIdeal.nD Cert.ResidualIdeal.τ).loc Cert.ResidualIdeal.main_arg4) = m ((c.tc : Thread Cert.ResidualIdeal.nD Cert.ResidualIdeal.τ).loc Cert.ResidualIdeal.main_arg4)
          ∧ r.2.mem ((c.tc : Thread Cert.ResidualIdeal.nD Cert.ResidualIdeal.τ).loc Cert.ResidualIdeal.main_arg5) = m ((c.tc : Thread Cert.ResidualIdeal.nD Cert.ResidualIdeal.τ).loc Cert.ResidualIdeal.main_arg5))
      ∧ θ_run (Cert.ResidualReferenceIdeal.defs (F := Ideal)) (onTc (τ := Cert.ResidualReferenceIdeal.τ) (Cert.ResidualReferenceIdeal.main (F := Ideal))) ⟨m', fun _ => 0, g'⟩ (fun r => ∀ c : Dev Cert.ResidualReferenceIdeal.nD,
          r.2.mem ((c.tc : Thread Cert.ResidualReferenceIdeal.nD Cert.ResidualReferenceIdeal.τ).loc Cert.ResidualReferenceIdeal.main_v0_0) = v0 c
          ∧ r.2.mem ((c.tc : Thread Cert.ResidualReferenceIdeal.nD Cert.ResidualReferenceIdeal.τ).loc Cert.ResidualReferenceIdeal.main_v0_1) = v1 c
          ∧ r.2.mem ((c.tc : Thread Cert.ResidualReferenceIdeal.nD Cert.ResidualReferenceIdeal.τ).loc Cert.ResidualReferenceIdeal.main_arg0) = m' ((c.tc : Thread Cert.ResidualReferenceIdeal.nD Cert.ResidualReferenceIdeal.τ).loc Cert.ResidualReferenceIdeal.main_arg0)
          ∧ r.2.mem ((c.tc : Thread Cert.ResidualReferenceIdeal.nD Cert.ResidualReferenceIdeal.τ).loc Cert.ResidualReferenceIdeal.main_arg1) = m' ((c.tc : Thread Cert.ResidualReferenceIdeal.nD Cert.ResidualReferenceIdeal.τ).loc Cert.ResidualReferenceIdeal.main_arg1)
          ∧ r.2.mem ((c.tc : Thread Cert.ResidualReferenceIdeal.nD Cert.ResidualReferenceIdeal.τ).loc Cert.ResidualReferenceIdeal.main_arg2) = m' ((c.tc : Thread Cert.ResidualReferenceIdeal.nD Cert.ResidualReferenceIdeal.τ).loc Cert.ResidualReferenceIdeal.main_arg2)
          ∧ r.2.mem ((c.tc : Thread Cert.ResidualReferenceIdeal.nD Cert.ResidualReferenceIdeal.τ).loc Cert.ResidualReferenceIdeal.main_arg3) = m' ((c.tc : Thread Cert.ResidualReferenceIdeal.nD Cert.ResidualReferenceIdeal.τ).loc Cert.ResidualReferenceIdeal.main_arg3)
          ∧ r.2.mem ((c.tc : Thread Cert.ResidualReferenceIdeal.nD Cert.ResidualReferenceIdeal.τ).loc Cert.ResidualReferenceIdeal.main_arg4) = m' ((c.tc : Thread Cert.ResidualReferenceIdeal.nD Cert.ResidualReferenceIdeal.τ).loc Cert.ResidualReferenceIdeal.main_arg4)
          ∧ r.2.mem ((c.tc : Thread Cert.ResidualReferenceIdeal.nD Cert.ResidualReferenceIdeal.τ).loc Cert.ResidualReferenceIdeal.main_arg5) = m' ((c.tc : Thread Cert.ResidualReferenceIdeal.nD Cert.ResidualReferenceIdeal.τ).loc Cert.ResidualReferenceIdeal.main_arg5))

def preserves_Proj_ProjIdeal : Prop :=
  True

def algebraic_ProjIdeal_ProjReferenceIdeal_pre_gain_bounded [hProjIdeal : Cert.ProjIdeal.Facts] [hProjReferenceIdeal : Cert.ProjReferenceIdeal.Facts] [hPre_gain_bounded : Cert.Pre_gain_bounded.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal_gain_bounded m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)
      ∧ m' ((c.tc : Thread Cert.ProjReferenceIdeal.nD Cert.ProjReferenceIdeal.τ).loc Cert.ProjReferenceIdeal.main_arg2) = m ((c.tc : Thread Cert.ProjIdeal.nD Cert.ProjIdeal.τ).loc Cert.ProjIdeal.main_arg2)
      ∧ m' ((c.tc : Thread Cert.ProjReferenceIdeal.nD Cert.ProjReferenceIdeal.τ).loc Cert.ProjReferenceIdeal.main_arg3) = m ((c.tc : Thread Cert.ProjIdeal.nD Cert.ProjIdeal.τ).loc Cert.ProjIdeal.main_arg3)) →
    ∃ (v0 : (c : Dev Cert.ProjIdeal.nD) → Buf (Elt Ideal) ((c.tc : Thread Cert.ProjIdeal.nD Cert.ProjIdeal.τ).loc Cert.ProjIdeal.main_v0_0)) (v1 : (c : Dev Cert.ProjIdeal.nD) → Buf (Elt Ideal) ((c.tc : Thread Cert.ProjIdeal.nD Cert.ProjIdeal.τ).loc Cert.ProjIdeal.main_v0_1)) (v2 : (c : Dev Cert.ProjIdeal.nD) → Buf (Elt Ideal) ((c.tc : Thread Cert.ProjIdeal.nD Cert.ProjIdeal.τ).loc Cert.ProjIdeal.main_v0_2)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v0_0) = v0 c
          ∧ r.2.mem ((c.tc : Thread Cert.ProjIdeal.nD Cert.ProjIdeal.τ).loc Cert.ProjIdeal.main_v0_1) = v1 c
          ∧ r.2.mem ((c.tc : Thread Cert.ProjIdeal.nD Cert.ProjIdeal.τ).loc Cert.ProjIdeal.main_v0_2) = v2 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v0_0) = v0 c
          ∧ r.2.mem ((c.tc : Thread Cert.ProjReferenceIdeal.nD Cert.ProjReferenceIdeal.τ).loc Cert.ProjReferenceIdeal.main_v0_1) = v1 c
          ∧ r.2.mem ((c.tc : Thread Cert.ProjReferenceIdeal.nD Cert.ProjReferenceIdeal.τ).loc Cert.ProjReferenceIdeal.main_v0_2) = v2 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2)
          ∧ r.2.mem ((c.tc : Thread Cert.ProjReferenceIdeal.nD Cert.ProjReferenceIdeal.τ).loc Cert.ProjReferenceIdeal.main_arg3) = m' ((c.tc : Thread Cert.ProjReferenceIdeal.nD Cert.ProjReferenceIdeal.τ).loc Cert.ProjReferenceIdeal.main_arg3))

def Claim : Prop :=
  ∃ (hResidual : Cert.Residual.Facts) (hResidualIdeal : Cert.ResidualIdeal.Facts) (hResidualReferenceIdeal : Cert.ResidualReferenceIdeal.Facts) (hProj : Cert.Proj.Facts) (hProjIdeal : Cert.ProjIdeal.Facts) (hProjReferenceIdeal : Cert.ProjReferenceIdeal.Facts) (hPre_gain_bounded : Cert.Pre_gain_bounded.Facts),
    quiescent_Residual (hResidual := hResidual)
    ∧ quiescent_ResidualIdeal (hResidualIdeal := hResidualIdeal)
    ∧ quiescent_ResidualReferenceIdeal (hResidualReferenceIdeal := hResidualReferenceIdeal)
    ∧ quiescent_Proj (hProj := hProj)
    ∧ quiescent_ProjIdeal (hProjIdeal := hProjIdeal)
    ∧ quiescent_ProjIdeal_pre_gain_bounded (hProjIdeal := hProjIdeal) (hPre_gain_bounded := hPre_gain_bounded)
    ∧ quiescent_ProjReferenceIdeal (hProjReferenceIdeal := hProjReferenceIdeal)
    ∧ quiescent_ProjReferenceIdeal_pre_gain_bounded (hProjReferenceIdeal := hProjReferenceIdeal) (hPre_gain_bounded := hPre_gain_bounded)
    ∧ preserves_Residual_ResidualIdeal
    ∧ algebraic_ResidualIdeal_ResidualReferenceIdeal (hResidualIdeal := hResidualIdeal) (hResidualReferenceIdeal := hResidualReferenceIdeal)
    ∧ preserves_Proj_ProjIdeal
    ∧ algebraic_ProjIdeal_ProjReferenceIdeal_pre_gain_bounded (hProjIdeal := hProjIdeal) (hProjReferenceIdeal := hProjReferenceIdeal) (hPre_gain_bounded := hPre_gain_bounded)
-- ==== Pre_gain_bounded.lean ====
abbrev S21x48 : Shape := ⟨2, ![21, 48]⟩
abbrev S2624x6144 : Shape := ⟨2, ![2624, 6144]⟩
abbrev S1x6144 : Shape := ⟨2, ![1, 6144]⟩
abbrev S3072x6144 : Shape := ⟨2, ![3072, 6144]⟩
abbrev S_ : Shape := ⟨0, ![]⟩

class Facts : Prop where
  bcast_S_S1x6144 : S_.BroadcastsInDim S1x6144 (![] : Fin 0 → Fin S1x6144.rank)

variable [Facts]

def fn {F : FTy → Type} [FloatOps F] (main_arg0 : FVec F S21x48 .f32) (main_arg1 : FVec F S2624x6144 .fp8e4m3) (main_arg2 : FVec F S1x6144 .f32) (main_arg3 : FVec F S3072x6144 .f32) : IVec S1x6144 1 :=
  let main_v0 : FVec F S1x6144 .f32 := Host.absf main_arg2
  let main_cst : FVec F S_ .f32 := constant S_ .f32 0x7149F2CA#32
  let main_v1 : FVec F S1x6144 .f32 := broadcastInDim S1x6144 ![] bcast_S_S1x6144 main_cst
  let main_v2 : IVec S1x6144 1 := cmpf .ole main_v0 main_v1
  main_v2
-- ==== Residual.lean ====
abbrev S16x48 : Shape := ⟨2, ![16, 48]⟩
abbrev S3072x2048 : Shape := ⟨2, ![3072, 2048]⟩
abbrev S3072x16 : Shape := ⟨2, ![3072, 16]⟩
abbrev S2048x6144 : Shape := ⟨2, ![2048, 6144]⟩
abbrev S3072x6144 : Shape := ⟨2, ![3072, 6144]⟩
abbrev S512x2048 : Shape := ⟨2, ![512, 2048]⟩
abbrev S512x16 : Shape := ⟨2, ![512, 16]⟩
abbrev S2048x1024 : Shape := ⟨2, ![2048, 1024]⟩
abbrev S512x1024 : Shape := ⟨2, ![512, 1024]⟩
abbrev S1x1 : Shape := ⟨2, ![1, 1]⟩
abbrev S128x128 : Shape := ⟨2, ![128, 128]⟩
abbrev S512x1 : Shape := ⟨2, ![512, 1]⟩
abbrev S512x128 : Shape := ⟨2, ![512, 128]⟩

abbrev nBuf : Space → Nat
  | .hbm => 8
  | .vmem => 15
  | .smem => 1
  | _ => 0

abbrev bufTy : (tb : Table) → Fin (tcTables nBuf tb) → BufTy
  | .hbm, ⟨0, _⟩ => ⟨S16x48, .f32⟩
  | .hbm, ⟨1, _⟩ => ⟨S3072x2048, .fp8e4m3⟩
  | .hbm, ⟨2, _⟩ => ⟨S3072x16, .f32⟩
  | .hbm, ⟨3, _⟩ => ⟨S2048x6144, .fp8e4m3⟩
  | .hbm, ⟨4, _⟩ => ⟨S3072x6144, .bf16⟩
  | .hbm, ⟨5, _⟩ => ⟨S3072x6144, .f32⟩
  | .hbm, ⟨6, _⟩ => ⟨S3072x6144, .f32⟩
  | .hbm, ⟨7, _⟩ => ⟨S3072x6144, .bf16⟩
  | .local _ .vmem, ⟨0, _⟩ => ⟨S512x2048, .fp8e4m3⟩
  | .local _ .vmem, ⟨1, _⟩ => ⟨S512x2048, .fp8e4m3⟩
  | .local _ .vmem, ⟨2, _⟩ => ⟨S512x16, .f32⟩
  | .local _ .vmem, ⟨3, _⟩ => ⟨S512x16, .f32⟩
  | .local _ .vmem, ⟨4, _⟩ => ⟨S2048x1024, .fp8e4m3⟩
  | .local _ .vmem, ⟨5, _⟩ => ⟨S2048x1024, .fp8e4m3⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S2048x1024, .bf16⟩
  | .local _ .smem, ⟨0, _⟩ => ⟨S16x48, .f32⟩
  | _, _ => ⟨S16x48, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![6, 6], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_off1 (i : grid0.Coords) (c0_i32_29 : BitVec 32) : Fin 2 → Nat :=
  let c0_30 : Index := 0#32
  let arg0 : BitVec 32 := BitVec.ofNat 32 (i 0).val
  let c8_i32 : BitVec 32 := 8#32
  let v127 : BitVec 32 := Scalar.muli arg0 c8_i32
  let v128 : BitVec 32 := Scalar.addi v127 c0_i32_29
  let v129 : Index := Scalar.indexCast v128
  ![0, v129.toNat]
def k0_off2 (i : grid0.Coords) (c0_i32_78 : BitVec 32) : Fin 2 → Nat :=
  let c1 : Index := 1#32
  let arg0 : BitVec 32 := BitVec.ofNat 32 (i 0).val
  let c8_i32_77 : BitVec 32 := 8#32
  let v223 : BitVec 32 := Scalar.muli arg0 c8_i32_77
  let v224 : BitVec 32 := Scalar.addi v223 c0_i32_78
  let v225 : Index := Scalar.indexCast v224
  ![1, v225.toNat]
def k0_off3 (i : grid0.Coords) (c0_i32_133 : BitVec 32) : Fin 2 → Nat :=
  let c2 : Index := 2#32
  let arg0 : BitVec 32 := BitVec.ofNat 32 (i 0).val
  let c8_i32_132 : BitVec 32 := 8#32
  let v319 : BitVec 32 := Scalar.muli arg0 c8_i32_132
  let v320 : BitVec 32 := Scalar.addi v319 c0_i32_133
  let v321 : Index := Scalar.indexCast v320
  ![2, v321.toNat]
def k0_off4 (i : grid0.Coords) (c0_i32_188 : BitVec 32) : Fin 2 → Nat :=
  let c3 : Index := 3#32
  let arg0 : BitVec 32 := BitVec.ofNat 32 (i 0).val
  let c8_i32_187 : BitVec 32 := 8#32
  let v415 : BitVec 32 := Scalar.muli arg0 c8_i32_187
  let v416 : BitVec 32 := Scalar.addi v415 c0_i32_188
  let v417 : Index := Scalar.indexCast v416
  ![3, v417.toNat]
def k0_off5 (i : grid0.Coords) (c0_i32_243 : BitVec 32) : Fin 2 → Nat :=
  let c4 : Index := 4#32
  let arg0 : BitVec 32 := BitVec.ofNat 32 (i 0).val
  let c8_i32_242 : BitVec 32 := 8#32
  let v511 : BitVec 32 := Scalar.muli arg0 c8_i32_242
  let v512 : BitVec 32 := Scalar.addi v511 c0_i32_243
  let v513 : Index := Scalar.indexCast v512
  ![4, v513.toNat]
def k0_off6 (i : grid0.Coords) (c0_i32_298 : BitVec 32) : Fin 2 → Nat :=
  let c5 : Index := 5#32
  let arg0 : BitVec 32 := BitVec.ofNat 32 (i 0).val
  let c8_i32_297 : BitVec 32 := 8#32
  let v607 : BitVec 32 := Scalar.muli arg0 c8_i32_297
  let v608 : BitVec 32 := Scalar.addi v607 c0_i32_298
  let v609 : Index := Scalar.indexCast v608
  ![5, v609.toNat]
def k0_off7 (i : grid0.Coords) (c0_i32_353 : BitVec 32) : Fin 2 → Nat :=
  let c6 : Index := 6#32
  let arg0 : BitVec 32 := BitVec.ofNat 32 (i 0).val
  let c8_i32_352 : BitVec 32 := 8#32
  let v703 : BitVec 32 := Scalar.muli arg0 c8_i32_352
  let v704 : BitVec 32 := Scalar.addi v703 c0_i32_353
  let v705 : Index := Scalar.indexCast v704
  ![6, v705.toNat]
def k0_off8 (i : grid0.Coords) (c0_i32_408 : BitVec 32) : Fin 2 → Nat :=
  let c7 : Index := 7#32
  let arg0 : BitVec 32 := BitVec.ofNat 32 (i 0).val
  let c8_i32_407 : BitVec 32 := 8#32
  let v799 : BitVec 32 := Scalar.muli arg0 c8_i32_407
  let v800 : BitVec 32 := Scalar.addi v799 c0_i32_408
  let v801 : Index := Scalar.indexCast v800
  ![7, v801.toNat]
def k0_off9 (i : grid0.Coords) (c0_i32_463 : BitVec 32) : Fin 2 → Nat :=
  let c8 : Index := 8#32
  let arg0 : BitVec 32 := BitVec.ofNat 32 (i 0).val
  let c8_i32_462 : BitVec 32 := 8#32
  let v895 : BitVec 32 := Scalar.muli arg0 c8_i32_462
  let v896 : BitVec 32 := Scalar.addi v895 c0_i32_463
  let v897 : Index := Scalar.indexCast v896
  ![8, v897.toNat]
def k0_off10 (i : grid0.Coords) (c0_i32_518 : BitVec 32) : Fin 2 → Nat :=
  let c9 : Index := 9#32
  let arg0 : BitVec 32 := BitVec.ofNat 32 (i 0).val
  let c8_i32_517 : BitVec 32 := 8#32
  let v991 : BitVec 32 := Scalar.muli arg0 c8_i32_517
  let v992 : BitVec 32 := Scalar.addi v991 c0_i32_518
  let v993 : Index := Scalar.indexCast v992
  ![9, v993.toNat]
def k0_off11 (i : grid0.Coords) (c0_i32_573 : BitVec 32) : Fin 2 → Nat :=
  let c10 : Index := 10#32
  let arg0 : BitVec 32 := BitVec.ofNat 32 (i 0).val
  let c8_i32_572 : BitVec 32 := 8#32
  let v1087 : BitVec 32 := Scalar.muli arg0 c8_i32_572
  let v1088 : BitVec 32 := Scalar.addi v1087 c0_i32_573
  let v1089 : Index := Scalar.indexCast v1088
  ![10, v1089.toNat]
def k0_off12 (i : grid0.Coords) (c0_i32_628 : BitVec 32) : Fin 2 → Nat :=
  let c11 : Index := 11#32
  let arg0 : BitVec 32 := BitVec.ofNat 32 (i 0).val
  let c8_i32_627 : BitVec 32 := 8#32
  let v1183 : BitVec 32 := Scalar.muli arg0 c8_i32_627
  let v1184 : BitVec 32 := Scalar.addi v1183 c0_i32_628
  let v1185 : Index := Scalar.indexCast v1184
  ![11, v1185.toNat]
def k0_off13 (i : grid0.Coords) (c0_i32_683 : BitVec 32) : Fin 2 → Nat :=
  let c12 : Index := 12#32
  let arg0 : BitVec 32 := BitVec.ofNat 32 (i 0).val
  let c8_i32_682 : BitVec 32 := 8#32
  let v1279 : BitVec 32 := Scalar.muli arg0 c8_i32_682
  let v1280 : BitVec 32 := Scalar.addi v1279 c0_i32_683
  let v1281 : Index := Scalar.indexCast v1280
  ![12, v1281.toNat]
def k0_off14 (i : grid0.Coords) (c0_i32_738 : BitVec 32) : Fin 2 → Nat :=
  let c13 : Index := 13#32
  let arg0 : BitVec 32 := BitVec.ofNat 32 (i 0).val
  let c8_i32_737 : BitVec 32 := 8#32
  let v1375 : BitVec 32 := Scalar.muli arg0 c8_i32_737
  let v1376 : BitVec 32 := Scalar.addi v1375 c0_i32_738
  let v1377 : Index := Scalar.indexCast v1376
  ![13, v1377.toNat]
def k0_off15 (i : grid0.Coords) (c0_i32_793 : BitVec 32) : Fin 2 → Nat :=
  let c14 : Index := 14#32
  let arg0 : BitVec 32 := BitVec.ofNat 32 (i 0).val
  let c8_i32_792 : BitVec 32 := 8#32
  let v1471 : BitVec 32 := Scalar.muli arg0 c8_i32_792
  let v1472 : BitVec 32 := Scalar.addi v1471 c0_i32_793
  let v1473 : Index := Scalar.indexCast v1472
  ![14, v1473.toNat]
def k0_off16 (i : grid0.Coords) (c0_i32_848 : BitVec 32) : Fin 2 → Nat :=
  let c15 : Index := 15#32
  let arg0 : BitVec 32 := BitVec.ofNat 32 (i 0).val
  let c8_i32_847 : BitVec 32 := 8#32
  let v1567 : BitVec 32 := Scalar.muli arg0 c8_i32_847
  let v1568 : BitVec 32 := Scalar.addi v1567 c0_i32_848
  let v1569 : Index := Scalar.indexCast v1568
  ![15, v1569.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .smem S16x48 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S512x2048 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x1024 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ResidualReferenceIdeal.lean ====
abbrev S16x48 : Shape := ⟨2, ![16, 48]⟩
abbrev S3072x2048 : Shape := ⟨2, ![3072, 2048]⟩
abbrev S3072x16 : Shape := ⟨2, ![3072, 16]⟩
abbrev S2048x6144 : Shape := ⟨2, ![2048, 6144]⟩
abbrev S3072x6144 : Shape := ⟨2, ![3072, 6144]⟩
abbrev S3072x16x1 : Shape := ⟨3, ![3072, 16, 1]⟩
abbrev S3072x16x128 : Shape := ⟨3, ![3072, 16, 128]⟩
abbrev S16x48x1 : Shape := ⟨3, ![16, 48, 1]⟩
abbrev S16x48x128 : Shape := ⟨3, ![16, 48, 128]⟩
abbrev S16x6144 : Shape := ⟨2, ![16, 6144]⟩
abbrev S16x128x6144 : Shape := ⟨3, ![16, 128, 6144]⟩
abbrev S16x1x6144 : Shape := ⟨3, ![16, 1, 6144]⟩

abbrev nBuf : Space → Nat
  | .hbm => 8
  | .vmem => 8
  | .smem => 0
  | _ => 0

abbrev bufTy : (tb : Table) → Fin (tcTables nBuf tb) → BufTy
  | .hbm, ⟨0, _⟩ => ⟨S16x48, .f32⟩
  | .hbm, ⟨1, _⟩ => ⟨S3072x2048, .fp8e4m3⟩
  | .hbm, ⟨2, _⟩ => ⟨S3072x16, .f32⟩
  | .hbm, ⟨3, _⟩ => ⟨S2048x6144, .fp8e4m3⟩
  | .hbm, ⟨4, _⟩ => ⟨S3072x6144, .bf16⟩
  | .hbm, ⟨5, _⟩ => ⟨S3072x6144, .f32⟩
  | .hbm, ⟨6, _⟩ => ⟨S3072x6144, .f32⟩
  | .hbm, ⟨7, _⟩ => ⟨S3072x6144, .bf16⟩
  | .local _ .vmem, ⟨0, _⟩ => ⟨S16x48, .f32⟩
  | .local _ .vmem, ⟨1, _⟩ => ⟨S3072x2048, .fp8e4m3⟩
  | .local _ .vmem, ⟨2, _⟩ => ⟨S3072x16, .f32⟩
  | .local _ .vmem, ⟨3, _⟩ => ⟨S2048x6144, .fp8e4m3⟩
  | .local _ .vmem, ⟨4, _⟩ => ⟨S3072x6144, .bf16⟩
  | .local _ .vmem, ⟨5, _⟩ => ⟨S3072x6144, .f32⟩
  | .local _ .vmem, ⟨6, _⟩ => ⟨S3072x6144, .f32⟩
  | .local _ .vmem, ⟨7, _⟩ => ⟨S3072x6144, .bf16⟩
  | _, _ => ⟨S16x48, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S16x48 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3072x2048 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3072x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x6144 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3072x6144 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3072x6144 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3072x6144 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S3072x6144 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proj.lean ====
abbrev S21x48 : Shape := ⟨2, ![21, 48]⟩
abbrev S2624x6144 : Shape := ⟨2, ![2624, 6144]⟩
abbrev S1x6144 : Shape := ⟨2, ![1, 6144]⟩
abbrev S3072x6144 : Shape := ⟨2, ![3072, 6144]⟩
abbrev S48x3072 : Shape := ⟨2, ![48, 3072]⟩
abbrev S2624x3072 : Shape := ⟨2, ![2624, 3072]⟩
abbrev S256x6144 : Shape := ⟨2, ![256, 6144]⟩
abbrev S48x256 : Shape := ⟨2, ![48, 256]⟩
abbrev S2624x256 : Shape := ⟨2, ![2624, 256]⟩
abbrev S5248x512 : Shape := ⟨2, ![5248, 512]⟩
abbrev S256x128 : Shape := ⟨2, ![256, 128]⟩
abbrev S2 : Shape := ⟨1, ![2]⟩
abbrev S1 : Shape := ⟨1, ![1]⟩
abbrev S_ : Shape := ⟨0, ![]⟩
abbrev S2624x512 : Shape := ⟨2, ![2624, 512]⟩
abbrev S1x1 : Shape := ⟨2, ![1, 1]⟩
abbrev S128x128 : Shape := ⟨2, ![128, 128]⟩
abbrev S64x128 : Shape := ⟨2, ![64, 128]⟩
abbrev S32x128 : Shape := ⟨2, ![32, 128]⟩
abbrev S32 : Shape := ⟨1, ![32]⟩
abbrev S32x1 : Shape := ⟨2, ![32, 1]⟩
abbrev S1x128 : Shape := ⟨2, ![1, 128]⟩
abbrev S128x256 : Shape := ⟨2, ![128, 256]⟩
abbrev S656x6144 : Shape := ⟨2, ![656, 6144]⟩
abbrev S656x256 : Shape := ⟨2, ![656, 256]⟩

abbrev nBuf : Space → Nat
  | .hbm => 7
  | .vmem => 13
  | .smem => 1
  | _ => 0

abbrev bufTy : (tb : Table) → Fin (tcTables nBuf tb) → BufTy
  | .hbm, ⟨0, _⟩ => ⟨S21x48, .f32⟩
  | .hbm, ⟨1, _⟩ => ⟨S2624x6144, .fp8e4m3⟩
  | .hbm, ⟨2, _⟩ => ⟨S1x6144, .f32⟩
  | .hbm, ⟨3, _⟩ => ⟨S3072x6144, .f32⟩
  | .hbm, ⟨4, _⟩ => ⟨S3072x6144, .fp8e4m3⟩
  | .hbm, ⟨5, _⟩ => ⟨S48x3072, .f32⟩
  | .hbm, ⟨6, _⟩ => ⟨S2624x3072, .bf16⟩
  | .local _ .vmem, ⟨0, _⟩ => ⟨S1x6144, .f32⟩
  | .local _ .vmem, ⟨1, _⟩ => ⟨S256x6144, .f32⟩
  | .local _ .vmem, ⟨2, _⟩ => ⟨S256x6144, .f32⟩
  | .local _ .vmem, ⟨3, _⟩ => ⟨S256x6144, .fp8e4m3⟩
  | .local _ .vmem, ⟨4, _⟩ => ⟨S256x6144, .fp8e4m3⟩
  | .local _ .vmem, ⟨5, _⟩ => ⟨S48x256, .f32⟩
  | .local _ .vmem, ⟨6, _⟩ => ⟨S48x256, .f32⟩
  | .local _ .vmem, ⟨7, _⟩ => ⟨S2624x256, .bf16⟩
  | .local _ .vmem, ⟨8, _⟩ => ⟨S2624x256, .bf16⟩
  | .local _ .vmem, ⟨9, _⟩ => ⟨S2624x6144, .bf16⟩
  | .local _ .vmem, ⟨10, _⟩ => ⟨S5248x512, .fp8e4m3⟩
  | .local _ .vmem, ⟨11, _⟩ => ⟨S256x6144, .bf16⟩
  | .local _ .vmem, ⟨12, _⟩ => ⟨S256x128, .f32⟩
  | .local _ .smem, ⟨0, _⟩ => ⟨S21x48, .f32⟩
  | _, _ => ⟨S21x48, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![12], ![false]⟩

@[reducible] def k0_t1_loop : Scf.Loop 32 :=
  let c0_i32_1 : BitVec 32 := 0#32
  let c8_i32 : BitVec 32 := 8#32
  let v3 : BitVec 32 := Scalar.addi c0_i32_1 c8_i32
  let c1_i32 : BitVec 32 := 1#32
  ⟨c0_i32_1, v3, c1_i32⟩
def k0_mult1 (k0_t1 : Fin k0_t1_loop.trips) : BitVec 32 :=
  let c0_i32_1 : BitVec 32 := 0#32
  let c1_i32 : BitVec 32 := 1#32
  let arg13 : BitVec 32 := Scf.iv c0_i32_1 c1_i32 k0_t1
  let c32_i32 : BitVec 32 := 32#32
  let v9 : BitVec 32 := Scalar.muli arg13 c32_i32
  v9
def k0_off1 (k0_t1 : Fin k0_t1_loop.trips) : Fin 2 → Nat :=
  let c0_i32_1 : BitVec 32 := 0#32
  let c1_i32 : BitVec 32 := 1#32
  let arg13 : BitVec 32 := Scf.iv c0_i32_1 c1_i32 k0_t1
  let c32_i32 : BitVec 32 := 32#32
  let v9 : BitVec 32 := Scalar.muli arg13 c32_i32
  let v10 : BitVec 32 := v9
  let v12 : Index := Scalar.indexCast v10
  let c0_9 : Index := 0#32
  ![v12.toNat, 0]
def k0_off2 (k0_t1 : Fin k0_t1_loop.trips) : Fin 2 → Nat :=
  let c0_i32_1 : BitVec 32 := 0#32
  let c1_i32 : BitVec 32 := 1#32
  let arg13 : BitVec 32 := Scf.iv c0_i32_1 c1_i32 k0_t1
  let c32_i32 : BitVec 32 := 32#32
  let v9 : BitVec 32 := Scalar.muli arg13 c32_i32
  let v10 : BitVec 32 := v9
  let v16 : Index := Scalar.indexCast v10
  let c128 : Index := 128#32
  ![v16.toNat, 128]
def k0_off3 (k0_t1 : Fin k0_t1_loop.trips) : Fin 2 → Nat :=
  let c0_i32_1 : BitVec 32 := 0#32
  let c1_i32 : BitVec 32 := 1#32
  let arg13 : BitVec 32 := Scf.iv c0_i32_1 c1_i32 k0_t1
  let c32_i32 : BitVec 32 := 32#32
  let v9 : BitVec 32 := Scalar.muli arg13 c32_i32
  let v10 : BitVec 32 := v9
  let v20 : Index := Scalar.indexCast v10
  let c256 : Index := 256#32
  ![v20.toNat, 256]
def k0_off4 (k0_t1 : Fin k0_t1_loop.trips) : Fin 2 → Nat :=
  let c0_i32_1 : BitVec 32 := 0#32
  let c1_i32 : BitVec 32 := 1#32
  let arg13 : BitVec 32 := Scf.iv c0_i32_1 c1_i32 k0_t1
  let c32_i32 : BitVec 32 := 32#32
  let v9 : BitVec 32 := Scalar.muli arg13 c32_i32
  let v10 : BitVec 32 := v9
  let v24 : Index := Scalar.indexCast v10
  let c384 : Index := 384#32
  ![v24.toNat, 384]
def k0_off5 (k0_t1 : Fin k0_t1_loop.trips) : Fin 2 → Nat :=
  let c0_i32_1 : BitVec 32 := 0#32
  let c1_i32 : BitVec 32 := 1#32
  let arg13 : BitVec 32 := Scf.iv c0_i32_1 c1_i32 k0_t1
  let c32_i32 : BitVec 32 := 32#32
  let v9 : BitVec 32 := Scalar.muli arg13 c32_i32
  let v10 : BitVec 32 := v9
  let v28 : Index := Scalar.indexCast v10
  let c512 : Index := 512#32
  ![v28.toNat, 512]
def k0_off6 (k0_t1 : Fin k0_t1_loop.trips) : Fin 2 → Nat :=
  let c0_i32_1 : BitVec 32 := 0#32
  let c1_i32 : BitVec 32 := 1#32
  let arg13 : BitVec 32 := Scf.iv c0_i32_1 c1_i32 k0_t1
  let c32_i32 : BitVec 32 := 32#32
  let v9 : BitVec 32 := Scalar.muli arg13 c32_i32
  let v10 : BitVec 32 := v9
  let v32 : Index := Scalar.indexCast v10
  let c640 : Index := 640#32
  ![v32.toNat, 640]
def k0_off7 (k0_t1 : Fin k0_t1_loop.trips) : Fin 2 → Nat :=
  let c0_i32_1 : BitVec 32 := 0#32
  let c1_i32 : BitVec 32 := 1#32
  let arg13 : BitVec 32 := Scf.iv c0_i32_1 c1_i32 k0_t1
  let c32_i32 : BitVec 32 := 32#32
  let v9 : BitVec 32 := Scalar.muli arg13 c32_i32
  let v10 : BitVec 32 := v9
  let v36 : Index := Scalar.indexCast v10
  let c768 : Index := 768#32
  ![v36.toNat, 768]
def k0_off8 (k0_t1 : Fin k0_t1_loop.trips) : Fin 2 → Nat :=
  let c0_i32_1 : BitVec 32 := 0#32
  let c1_i32 : BitVec 32 := 1#32
  let arg13 : BitVec 32 := Scf.iv c0_i32_1 c1_i32 k0_t1
  let c32_i32 : BitVec 32 := 32#32
  let v9 : BitVec 32 := Scalar.muli arg13 c32_i32
  let v10 : BitVec 32 := v9
  let v40 : Index := Scalar.indexCast v10
  let c896 : Index := 896#32
  ![v40.toNat, 896]
def k0_off9 (k0_t1 : Fin k0_t1_loop.trips) : Fin 2 → Nat :=
  let c0_i32_1 : BitVec 32 := 0#32
  let c1_i32 : BitVec 32 := 1#32
  let arg13 : BitVec 32 := Scf.iv c0_i32_1 c1_i32 k0_t1
  let c32_i32 : BitVec 32 := 32#32
  let v9 : BitVec 32 := Scalar.muli arg13 c32_i32
  let v10 : BitVec 32 := v9
  let v44 : Index := Scalar.indexCast v10
  let c1024 : Index := 1024#32
  ![v44.toNat, 1024]
def k0_off10 (k0_t1 : Fin k0_t1_loop.trips) : Fin 2 → Nat :=
  let c0_i32_1 : BitVec 32 := 0#32
  let c1_i32 : BitVec 32 := 1#32
  let arg13 : BitVec 32 := Scf.iv c0_i32_1 c1_i32 k0_t1
  let c32_i32 : BitVec 32 := 32#32
  let v9 : BitVec 32 := Scalar.muli arg13 c32_i32
  let v10 : BitVec 32 := v9
  let v48 : Index := Scalar.indexCast v10
  let c1152 : Index := 1152#32
  ![v48.toNat, 1152]
def k0_off11 (k0_t1 : Fin k0_t1_loop.trips) : Fin 2 → Nat :=
  let c0_i32_1 : BitVec 32 := 0#32
  let c1_i32 : BitVec 32 := 1#32
  let arg13 : BitVec 32 := Scf.iv c0_i32_1 c1_i32 k0_t1
  let c32_i32 : BitVec 32 := 32#32
  let v9 : BitVec 32 := Scalar.muli arg13 c32_i32
  let v10 : BitVec 32 := v9
  let v52 : Index := Scalar.indexCast v10
  let c1280 : Index := 1280#32
  ![v52.toNat, 1280]
def k0_off12 (k0_t1 : Fin k0_t1_loop.trips) : Fin 2 → Nat :=
  let c0_i32_1 : BitVec 32 := 0#32
  let c1_i32 : BitVec 32 := 1#32
  let arg13 : BitVec 32 := Scf.iv c0_i32_1 c1_i32 k0_t1
  let c32_i32 : BitVec 32 := 32#32
  let v9 : BitVec 32 := Scalar.muli arg13 c32_i32
  let v10 : BitVec 32 := v9
  let v56 : Index := Scalar.indexCast v10
  let c1408 : Index := 1408#32
  ![v56.toNat, 1408]
def k0_off13 (k0_t1 : Fin k0_t1_loop.trips) : Fin 2 → Nat :=
  let c0_i32_1 : BitVec 32 := 0#32
  let c1_i32 : BitVec 32 := 1#32
  let arg13 : BitVec 32 := Scf.iv c0_i32_1 c1_i32 k0_t1
  let c32_i32 : BitVec 32 := 32#32
  let v9 : BitVec 32 := Scalar.muli arg13 c32_i32
  let v10 : BitVec 32 := v9
  let v60 : Index := Scalar.indexCast v10
  let c1536 : Index := 1536#32
  ![v60.toNat, 1536]
def k0_off14 (k0_t1 : Fin k0_t1_loop.trips) : Fin 2 → Nat :=
  let c0_i32_1 : BitVec 32 := 0#32
  let c1_i32 : BitVec 32 := 1#32
  let arg13 : BitVec 32 := Scf.iv c0_i32_1 c1_i32 k0_t1
  let c32_i32 : BitVec 32 := 32#32
  let v9 : BitVec 32 := Scalar.muli arg13 c32_i32
  let v10 : BitVec 32 := v9
  let v64 : Index := Scalar.indexCast v10
  let c1664 : Index := 1664#32
  ![v64.toNat, 1664]
def k0_off15 (k0_t1 : Fin k0_t1_loop.trips) : Fin 2 → Nat :=
  let c0_i32_1 : BitVec 32 := 0#32
  let c1_i32 : BitVec 32 := 1#32
  let arg13 : BitVec 32 := Scf.iv c0_i32_1 c1_i32 k0_t1
  let c32_i32 : BitVec 32 := 32#32
  let v9 : BitVec 32 := Scalar.muli arg13 c32_i32
  let v10 : BitVec 32 := v9
  let v68 : Index := Scalar.indexCast v10
  let c1792 : Index := 1792#32
  ![v68.toNat, 1792]
def k0_off16 (k0_t1 : Fin k0_t1_loop.trips) : Fin 2 → Nat :=
  let c0_i32_1 : BitVec 32 := 0#32
  let c1_i32 : BitVec 32 := 1#32
  let arg13 : BitVec 32 := Scf.iv c0_i32_1 c1_i32 k0_t1
  let c32_i32 : BitVec 32 := 32#32
  let v9 : BitVec 32 := Scalar.muli arg13 c32_i32
  let v10 : BitVec 32 := v9
  let v72 : Index := Scalar.indexCast v10
  let c1920 : Index := 1920#32
  ![v72.toNat, 1920]
def k0_off17 (k0_t1 : Fin k0_t1_loop.trips) : Fin 2 → Nat :=
  let c0_i32_1 : BitVec 32 := 0#32
  let c1_i32 : BitVec 32 := 1#32
  let arg13 : BitVec 32 := Scf.iv c0_i32_1 c1_i32 k0_t1
  let c32_i32 : BitVec 32 := 32#32
  let v9 : BitVec 32 := Scalar.muli arg13 c32_i32
  let v10 : BitVec 32 := v9
  let v76 : Index := Scalar.indexCast v10
  let c2048 : Index := 2048#32
  ![v76.toNat, 2048]
def k0_off18 (k0_t1 : Fin k0_t1_loop.trips) : Fin 2 → Nat :=
  let c0_i32_1 : BitVec 32 := 0#32
  let c1_i32 : BitVec 32 := 1#32
  let arg13 : BitVec 32 := Scf.iv c0_i32_1 c1_i32 k0_t1
  let c32_i32 : BitVec 32 := 32#32
  let v9 : BitVec 32 := Scalar.muli arg13 c32_i32
  let v10 : BitVec 32 := v9
  let v80 : Index := Scalar.indexCast v10
  let c2176 : Index := 2176#32
  ![v80.toNat, 2176]
def k0_off19 (k0_t1 : Fin k0_t1_loop.trips) : Fin 2 → Nat :=
  let c0_i32_1 : BitVec 32 := 0#32
  let c1_i32 : BitVec 32 := 1#32
  let arg13 : BitVec 32 := Scf.iv c0_i32_1 c1_i32 k0_t1
  let c32_i32 : BitVec 32 := 32#32
  let v9 : BitVec 32 := Scalar.muli arg13 c32_i32
  let v10 : BitVec 32 := v9
  let v84 : Index := Scalar.indexCast v10
  let c2304 : Index := 2304#32
  ![v84.toNat, 2304]
def k0_off20 (k0_t1 : Fin k0_t1_loop.trips) : Fin 2 → Nat :=
  let c0_i32_1 : BitVec 32 := 0#32
  let c1_i32 : BitVec 32 := 1#32
  let arg13 : BitVec 32 := Scf.iv c0_i32_1 c1_i32 k0_t1
  let c32_i32 : BitVec 32 := 32#32
  let v9 : BitVec 32 := Scalar.muli arg13 c32_i32
  let v10 : BitVec 32 := v9
  let v88 : Index := Scalar.indexCast v10
  let c2432 : Index := 2432#32
  ![v88.toNat, 2432]
def k0_off21 (k0_t1 : Fin k0_t1_loop.trips) : Fin 2 → Nat :=
  let c0_i32_1 : BitVec 32 := 0#32
  let c1_i32 : BitVec 32 := 1#32
  let arg13 : BitVec 32 := Scf.iv c0_i32_1 c1_i32 k0_t1
  let c32_i32 : BitVec 32 := 32#32
  let v9 : BitVec 32 := Scalar.muli arg13 c32_i32
  let v10 : BitVec 32 := v9
  let v92 : Index := Scalar.indexCast v10
  let c2560 : Index := 2560#32
  ![v92.toNat, 2560]
def k0_off22 (k0_t1 : Fin k0_t1_loop.trips) : Fin 2 → Nat :=
  let c0_i32_1 : BitVec 32 := 0#32
  let c1_i32 : BitVec 32 := 1#32
  let arg13 : BitVec 32 := Scf.iv c0_i32_1 c1_i32 k0_t1
  let c32_i32 : BitVec 32 := 32#32
  let v9 : BitVec 32 := Scalar.muli arg13 c32_i32
  let v10 : BitVec 32 := v9
  let v96 : Index := Scalar.indexCast v10
  let c2688 : Index := 2688#32
  ![v96.toNat, 2688]
def k0_off23 (k0_t1 : Fin k0_t1_loop.trips) : Fin 2 → Nat :=
  let c0_i32_1 : BitVec 32 := 0#32
  let c1_i32 : BitVec 32 := 1#32
  let arg13 : BitVec 32 := Scf.iv c0_i32_1 c1_i32 k0_t1
  let c32_i32 : BitVec 32 := 32#32
  let v9 : BitVec 32 := Scalar.muli arg13 c32_i32
  let v10 : BitVec 32 := v9
  let v100 : Index := Scalar.indexCast v10
  let c2816 : Index := 2816#32
  ![v100.toNat, 2816]
def k0_off24 (k0_t1 : Fin k0_t1_loop.trips) : Fin 2 → Nat :=
  let c0_i32_1 : BitVec 32 := 0#32
  let c1_i32 : BitVec 32 := 1#32
  let arg13 : BitVec 32 := Scf.iv c0_i32_1 c1_i32 k0_t1
  let c32_i32 : BitVec 32 := 32#32
  let v9 : BitVec 32 := Scalar.muli arg13 c32_i32
  let v10 : BitVec 32 := v9
  let v104 : Index := Scalar.indexCast v10
  let c2944 : Index := 2944#32
  ![v104.toNat, 2944]
def k0_off25 (k0_t1 : Fin k0_t1_loop.trips) : Fin 2 → Nat :=
  let c0_i32_1 : BitVec 32 := 0#32
  let c1_i32 : BitVec 32 := 1#32
  let arg13 : BitVec 32 := Scf.iv c0_i32_1 c1_i32 k0_t1
  let c32_i32 : BitVec 32 := 32#32
  let v9 : BitVec 32 := Scalar.muli arg13 c32_i32
  let v10 : BitVec 32 := v9
  let v108 : Index := Scalar.indexCast v10
  let c3072 : Index := 3072#32
  ![v108.toNat, 3072]
def k0_off26 (k0_t1 : Fin k0_t1_loop.trips) : Fin 2 → Nat :=
  let c0_i32_1 : BitVec 32 := 0#32
  let c1_i32 : BitVec 32 := 1#32
  let arg13 : BitVec 32 := Scf.iv c0_i32_1 c1_i32 k0_t1
  let c32_i32 : BitVec 32 := 32#32
  let v9 : BitVec 32 := Scalar.muli arg13 c32_i32
  let v10 : BitVec 32 := v9
  let v112 : Index := Scalar.indexCast v10
  let c3200 : Index := 3200#32
  ![v112.toNat, 3200]
def k0_off27 (k0_t1 : Fin k0_t1_loop.trips) : Fin 2 → Nat :=
  let c0_i32_1 : BitVec 32 := 0#32
  let c1_i32 : BitVec 32 := 1#32
  let arg13 : BitVec 32 := Scf.iv c0_i32_1 c1_i32 k0_t1
  let c32_i32 : BitVec 32 := 32#32
  let v9 : BitVec 32 := Scalar.muli arg13 c32_i32
  let v10 : BitVec 32 := v9
  let v116 : Index := Scalar.indexCast v10
  let c3328 : Index := 3328#32
  ![v116.toNat, 3328]
def k0_off28 (k0_t1 : Fin k0_t1_loop.trips) : Fin 2 → Nat :=
  let c0_i32_1 : BitVec 32 := 0#32
  let c1_i32 : BitVec 32 := 1#32
  let arg13 : BitVec 32 := Scf.iv c0_i32_1 c1_i32 k0_t1
  let c32_i32 : BitVec 32 := 32#32
  let v9 : BitVec 32 := Scalar.muli arg13 c32_i32
  let v10 : BitVec 32 := v9
  let v120 : Index := Scalar.indexCast v10
  let c3456 : Index := 3456#32
  ![v120.toNat, 3456]
def k0_off29 (k0_t1 : Fin k0_t1_loop.trips) : Fin 2 → Nat :=
  let c0_i32_1 : BitVec 32 := 0#32
  let c1_i32 : BitVec 32 := 1#32
  let arg13 : BitVec 32 := Scf.iv c0_i32_1 c1_i32 k0_t1
  let c32_i32 : BitVec 32 := 32#32
  let v9 : BitVec 32 := Scalar.muli arg13 c32_i32
  let v10 : BitVec 32 := v9
  let v124 : Index := Scalar.indexCast v10
  let c3584 : Index := 3584#32
  ![v124.toNat, 3584]
def k0_off30 (k0_t1 : Fin k0_t1_loop.trips) : Fin 2 → Nat :=
  let c0_i32_1 : BitVec 32 := 0#32
  let c1_i32 : BitVec 32 := 1#32
  let arg13 : BitVec 32 := Scf.iv c0_i32_1 c1_i32 k0_t1
  let c32_i32 : BitVec 32 := 32#32
  let v9 : BitVec 32 := Scalar.muli arg13 c32_i32
  let v10 : BitVec 32 := v9
  let v128 : Index := Scalar.indexCast v10
  let c3712 : Index := 3712#32
  ![v128.toNat, 3712]
def k0_off31 (k0_t1 : Fin k0_t1_loop.trips) : Fin 2 → Nat :=
  let c0_i32_1 : BitVec 32 := 0#32
  let c1_i32 : BitVec 32 := 1#32
  let arg13 : BitVec 32 := Scf.iv c0_i32_1 c1_i32 k0_t1
  let c32_i32 : BitVec 32 := 32#32
  let v9 : BitVec 32 := Scalar.muli arg13 c32_i32
  let v10 : BitVec 32 := v9
  let v132 : Index := Scalar.indexCast v10
  let c3840 : Index := 3840#32
  ![v132.toNat, 3840]
def k0_off32 (k0_t1 : Fin k0_t1_loop.trips) : Fin 2 → Nat :=
  let c0_i32_1 : BitVec 32 := 0#32
  let c1_i32 : BitVec 32 := 1#32
  let arg13 : BitVec 32 := Scf.iv c0_i32_1 c1_i32 k0_t1
  let c32_i32 : BitVec 32 := 32#32
  let v9 : BitVec 32 := Scalar.muli arg13 c32_i32
  let v10 : BitVec 32 := v9
  let v136 : Index := Scalar.indexCast v10
  let c3968 : Index := 3968#32
  ![v136.toNat, 3968]
def k0_off33 (k0_t1 : Fin k0_t1_loop.trips) : Fin 2 → Nat :=
  let c0_i32_1 : BitVec 32 := 0#32
  let c1_i32 : BitVec 32 := 1#32
  let arg13 : BitVec 32 := Scf.iv c0_i32_1 c1_i32 k0_t1
  let c32_i32 : BitVec 32 := 32#32
  let v9 : BitVec 32 := Scalar.muli arg13 c32_i32
  let v10 : BitVec 32 := v9
  let v140 : Index := Scalar.indexCast v10
  let c4096 : Index := 4096#32
  ![v140.toNat, 4096]
def k0_off34 (k0_t1 : Fin k0_t1_loop.trips) : Fin 2 → Nat :=
  let c0_i32_1 : BitVec 32 := 0#32
  let c1_i32 : BitVec 32 := 1#32
  let arg13 : BitVec 32 := Scf.iv c0_i32_1 c1_i32 k0_t1
  let c32_i32 : BitVec 32 := 32#32
  let v9 : BitVec 32 := Scalar.muli arg13 c32_i32
  let v10 : BitVec 32 := v9
  let v144 : Index := Scalar.indexCast v10
  let c4224 : Index := 4224#32
  ![v144.toNat, 4224]
def k0_off35 (k0_t1 : Fin k0_t1_loop.trips) : Fin 2 → Nat :=
  let c0_i32_1 : BitVec 32 := 0#32
  let c1_i32 : BitVec 32 := 1#32
  let arg13 : BitVec 32 := Scf.iv c0_i32_1 c1_i32 k0_t1
  let c32_i32 : BitVec 32 := 32#32
  let v9 : BitVec 32 := Scalar.muli arg13 c32_i32
  let v10 : BitVec 32 := v9
  let v148 : Index := Scalar.indexCast v10
  let c4352 : Index := 4352#32
  ![v148.toNat, 4352]
def k0_off36 (k0_t1 : Fin k0_t1_loop.trips) : Fin 2 → Nat :=
  let c0_i32_1 : BitVec 32 := 0#32
  let c1_i32 : BitVec 32 := 1#32
  let arg13 : BitVec 32 := Scf.iv c0_i32_1 c1_i32 k0_t1
  let c32_i32 : BitVec 32 := 32#32
  let v9 : BitVec 32 := Scalar.muli arg13 c32_i32
  let v10 : BitVec 32 := v9
  let v152 : Index := Scalar.indexCast v10
  let c4480 : Index := 4480#32
  ![v152.toNat, 4480]
def k0_off37 (k0_t1 : Fin k0_t1_loop.trips) : Fin 2 → Nat :=
  let c0_i32_1 : BitVec 32 := 0#32
  let c1_i32 : BitVec 32 := 1#32
  let arg13 : BitVec 32 := Scf.iv c0_i32_1 c1_i32 k0_t1
  let c32_i32 : BitVec 32 := 32#32
  let v9 : BitVec 32 := Scalar.muli arg13 c32_i32
  let v10 : BitVec 32 := v9
  let v156 : Index := Scalar.indexCast v10
  let c4608 : Index := 4608#32
  ![v156.toNat, 4608]
def k0_off38 (k0_t1 : Fin k0_t1_loop.trips) : Fin 2 → Nat :=
  let c0_i32_1 : BitVec 32 := 0#32
  let c1_i32 : BitVec 32 := 1#32
  let arg13 : BitVec 32 := Scf.iv c0_i32_1 c1_i32 k0_t1
  let c32_i32 : BitVec 32 := 32#32
  let v9 : BitVec 32 := Scalar.muli arg13 c32_i32
  let v10 : BitVec 32 := v9
  let v160 : Index := Scalar.indexCast v10
  let c4736 : Index := 4736#32
  ![v160.toNat, 4736]
def k0_off39 (k0_t1 : Fin k0_t1_loop.trips) : Fin 2 → Nat :=
  let c0_i32_1 : BitVec 32 := 0#32
  let c1_i32 : BitVec 32 := 1#32
  let arg13 : BitVec 32 := Scf.iv c0_i32_1 c1_i32 k0_t1
  let c32_i32 : BitVec 32 := 32#32
  let v9 : BitVec 32 := Scalar.muli arg13 c32_i32
  let v10 : BitVec 32 := v9
  let v164 : Index := Scalar.indexCast v10
  let c4864 : Index := 4864#32
  ![v164.toNat, 4864]
def k0_off40 (k0_t1 : Fin k0_t1_loop.trips) : Fin 2 → Nat :=
  let c0_i32_1 : BitVec 32 := 0#32
  let c1_i32 : BitVec 32 := 1#32
  let arg13 : BitVec 32 := Scf.iv c0_i32_1 c1_i32 k0_t1
  let c32_i32 : BitVec 32 := 32#32
  let v9 : BitVec 32 := Scalar.muli arg13 c32_i32
  let v10 : BitVec 32 := v9
  let v168 : Index := Scalar.indexCast v10
  let c4992 : Index := 4992#32
  ![v168.toNat, 4992]
def k0_off41 (k0_t1 : Fin k0_t1_loop.trips) : Fin 2 → Nat :=
  let c0_i32_1 : BitVec 32 := 0#32
  let c1_i32 : BitVec 32 := 1#32
  let arg13 : BitVec 32 := Scf.iv c0_i32_1 c1_i32 k0_t1
  let c32_i32 : BitVec 32 := 32#32
  let v9 : BitVec 32 := Scalar.muli arg13 c32_i32
  let v10 : BitVec 32 := v9
  let v172 : Index := Scalar.indexCast v10
  let c5120 : Index := 5120#32
  ![v172.toNat, 5120]
def k0_off42 (k0_t1 : Fin k0_t1_loop.trips) : Fin 2 → Nat :=
  let c0_i32_1 : BitVec 32 := 0#32
  let c1_i32 : BitVec 32 := 1#32
  let arg13 : BitVec 32 := Scf.iv c0_i32_1 c1_i32 k0_t1
  let c32_i32 : BitVec 32 := 32#32
  let v9 : BitVec 32 := Scalar.muli arg13 c32_i32
  let v10 : BitVec 32 := v9
  let v176 : Index := Scalar.indexCast v10
  let c5248 : Index := 5248#32
  ![v176.toNat, 5248]
def k0_off43 (k0_t1 : Fin k0_t1_loop.trips) : Fin 2 → Nat :=
  let c0_i32_1 : BitVec 32 := 0#32
  let c1_i32 : BitVec 32 := 1#32
  let arg13 : BitVec 32 := Scf.iv c0_i32_1 c1_i32 k0_t1
  let c32_i32 : BitVec 32 := 32#32
  let v9 : BitVec 32 := Scalar.muli arg13 c32_i32
  let v10 : BitVec 32 := v9
  let v180 : Index := Scalar.indexCast v10
  let c5376 : Index := 5376#32
  ![v180.toNat, 5376]
def k0_off44 (k0_t1 : Fin k0_t1_loop.trips) : Fin 2 → Nat :=
  let c0_i32_1 : BitVec 32 := 0#32
  let c1_i32 : BitVec 32 := 1#32
  let arg13 : BitVec 32 := Scf.iv c0_i32_1 c1_i32 k0_t1
  let c32_i32 : BitVec 32 := 32#32
  let v9 : BitVec 32 := Scalar.muli arg13 c32_i32
  let v10 : BitVec 32 := v9
  let v184 : Index := Scalar.indexCast v10
  let c5504 : Index := 5504#32
  ![v184.toNat, 5504]
def k0_off45 (k0_t1 : Fin k0_t1_loop.trips) : Fin 2 → Nat :=
  let c0_i32_1 : BitVec 32 := 0#32
  let c1_i32 : BitVec 32 := 1#32
  let arg13 : BitVec 32 := Scf.iv c0_i32_1 c1_i32 k0_t1
  let c32_i32 : BitVec 32 := 32#32
  let v9 : BitVec 32 := Scalar.muli arg13 c32_i32
  let v10 : BitVec 32 := v9
  let v188 : Index := Scalar.indexCast v10
  let c5632 : Index := 5632#32
  ![v188.toNat, 5632]
def k0_off46 (k0_t1 : Fin k0_t1_loop.trips) : Fin 2 → Nat :=
  let c0_i32_1 : BitVec 32 := 0#32
  let c1_i32 : BitVec 32 := 1#32
  let arg13 : BitVec 32 := Scf.iv c0_i32_1 c1_i32 k0_t1
  let c32_i32 : BitVec 32 := 32#32
  let v9 : BitVec 32 := Scalar.muli arg13 c32_i32
  let v10 : BitVec 32 := v9
  let v192 : Index := Scalar.indexCast v10
  let c5760 : Index := 5760#32
  ![v192.toNat, 5760]
def k0_off47 (k0_t1 : Fin k0_t1_loop.trips) : Fin 2 → Nat :=
  let c0_i32_1 : BitVec 32 := 0#32
  let c1_i32 : BitVec 32 := 1#32
  let arg13 : BitVec 32 := Scf.iv c0_i32_1 c1_i32 k0_t1
  let c32_i32 : BitVec 32 := 32#32
  let v9 : BitVec 32 := Scalar.muli arg13 c32_i32
  let v10 : BitVec 32 := v9
  let v196 : Index := Scalar.indexCast v10
  let c5888 : Index := 5888#32
  ![v196.toNat, 5888]
def k0_off48 (k0_t1 : Fin k0_t1_loop.trips) : Fin 2 → Nat :=
  let c0_i32_1 : BitVec 32 := 0#32
  let c1_i32 : BitVec 32 := 1#32
  let arg13 : BitVec 32 := Scf.iv c0_i32_1 c1_i32 k0_t1
  let c32_i32 : BitVec 32 := 32#32
  let v9 : BitVec 32 := Scalar.muli arg13 c32_i32
  let v10 : BitVec 32 := v9
  let v200 : Index := Scalar.indexCast v10
  let c6016 : Index := 6016#32
  ![v200.toNat, 6016]
def k0_off49 (k0_t1 : Fin k0_t1_loop.trips) : Fin 2 → Nat :=
  let c0_i32_1 : BitVec 32 := 0#32
  let c1_i32 : BitVec 32 := 1#32
  let arg13 : BitVec 32 := Scf.iv c0_i32_1 c1_i32 k0_t1
  let c32_i32 : BitVec 32 := 32#32
  let v9 : BitVec 32 := Scalar.muli arg13 c32_i32
  let v10 : BitVec 32 := v9
  let v5977 : Index := Scalar.indexCast v10
  let c0_1984 : Index := 0#32
  ![v5977.toNat, 0]
@[reducible] def k0_t2_loop : Scf.Loop 32 :=
  let c0_i32_6 : BitVec 32 := 0#32
  let c4_i32 : BitVec 32 := 4#32
  let v8 : BitVec 32 := Scalar.addi c0_i32_6 c4_i32
  let c1_i32_7 : BitVec 32 := 1#32
  ⟨c0_i32_6, v8, c1_i32_7⟩
def k0_mult2 (k0_t2 : Fin k0_t2_loop.trips) : BitVec 32 :=
  let c0_i32_6 : BitVec 32 := 0#32
  let c1_i32_7 : BitVec 32 := 1#32
  let arg13 : BitVec 32 := Scf.iv c0_i32_6 c1_i32_7 k0_t2
  let c656_i32 : BitVec 32 := 656#32
  let v9 : BitVec 32 := Scalar.muli arg13 c656_i32
  v9
def k0_off50 (k0_t2 : Fin k0_t2_loop.trips) : Fin 2 → Nat :=
  let c0_i32_6 : BitVec 32 := 0#32
  let c1_i32_7 : BitVec 32 := 1#32
  let arg13 : BitVec 32 := Scf.iv c0_i32_6 c1_i32_7 k0_t2
  let c656_i32 : BitVec 32 := 656#32
  let v9 : BitVec 32 := Scalar.muli arg13 c656_i32
  let v10 : BitVec 32 := v9
  let v11 : Index := Scalar.indexCast v10
  let c0_9 : Index := 0#32
  ![v11.toNat, 0]
def k0_off51 (k0_t2 : Fin k0_t2_loop.trips) : Fin 2 → Nat :=
  let c0_i32_6 : BitVec 32 := 0#32
  let c1_i32_7 : BitVec 32 := 1#32
  let arg13 : BitVec 32 := Scf.iv c0_i32_6 c1_i32_7 k0_t2
  let c656_i32 : BitVec 32 := 656#32
  let v9 : BitVec 32 := Scalar.muli arg13 c656_i32
  let v10 : BitVec 32 := v9
  let v16 : Index := Scalar.indexCast v10
  let c0_12 : Index := 0#32
  ![v16.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .smem S21x48 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x6144 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x6144 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S48x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2624x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ProjReferenceIdeal.lean ====
abbrev S21x48 : Shape := ⟨2, ![21, 48]⟩
abbrev S2624x6144 : Shape := ⟨2, ![2624, 6144]⟩
abbrev S1x6144 : Shape := ⟨2, ![1, 6144]⟩
abbrev S3072x6144 : Shape := ⟨2, ![3072, 6144]⟩
abbrev S48x3072 : Shape := ⟨2, ![48, 3072]⟩
abbrev S2624x3072 : Shape := ⟨2, ![2624, 3072]⟩
abbrev S3072 : Shape := ⟨1, ![3072]⟩
abbrev S3072x1 : Shape := ⟨2, ![3072, 1]⟩
abbrev S3072x48x128 : Shape := ⟨3, ![3072, 48, 128]⟩
abbrev S3072x48 : Shape := ⟨2, ![3072, 48]⟩
abbrev S3072x48x1 : Shape := ⟨3, ![3072, 48, 1]⟩
abbrev S21x1x48 : Shape := ⟨3, ![21, 1, 48]⟩
abbrev S21x128x48 : Shape := ⟨3, ![21, 128, 48]⟩
abbrev S2688x48 : Shape := ⟨2, ![2688, 48]⟩
abbrev S2624x48 : Shape := ⟨2, ![2624, 48]⟩
abbrev S2624x48x1 : Shape := ⟨3, ![2624, 48, 1]⟩
abbrev S2624x48x128 : Shape := ⟨3, ![2624, 48, 128]⟩
abbrev S6144x3072 : Shape := ⟨2, ![6144, 3072]⟩

abbrev nBuf : Space → Nat
  | .hbm => 7
  | .vmem => 7
  | .smem => 0
  | _ => 0

abbrev bufTy : (tb : Table) → Fin (tcTables nBuf tb) → BufTy
  | .hbm, ⟨0, _⟩ => ⟨S21x48, .f32⟩
  | .hbm, ⟨1, _⟩ => ⟨S2624x6144, .fp8e4m3⟩
  | .hbm, ⟨2, _⟩ => ⟨S1x6144, .f32⟩
  | .hbm, ⟨3, _⟩ => ⟨S3072x6144, .f32⟩
  | .hbm, ⟨4, _⟩ => ⟨S3072x6144, .fp8e4m3⟩
  | .hbm, ⟨5, _⟩ => ⟨S48x3072, .f32⟩
  | .hbm, ⟨6, _⟩ => ⟨S2624x3072, .bf16⟩
  | .local _ .vmem, ⟨0, _⟩ => ⟨S21x48, .f32⟩
  | .local _ .vmem, ⟨1, _⟩ => ⟨S2624x6144, .fp8e4m3⟩
  | .local _ .vmem, ⟨2, _⟩ => ⟨S1x6144, .f32⟩
  | .local _ .vmem, ⟨3, _⟩ => ⟨S3072x6144, .f32⟩
  | .local _ .vmem, ⟨4, _⟩ => ⟨S3072x6144, .fp8e4m3⟩
  | .local _ .vmem, ⟨5, _⟩ => ⟨S48x3072, .f32⟩
  | .local _ .vmem, ⟨6, _⟩ => ⟨S2624x3072, .bf16⟩
  | _, _ => ⟨S21x48, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S21x48 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2624x6144 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3072x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3072x6144 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S48x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2624x3072 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.FloatRuns.lean ====
/- The projecting call's whole-body runs with every output NAMED. The certificate generated for this call forgets what
   the outputs hold, because one loop of the body reads a scratch that the loop before it filled. These modules restate that
   certificate (same statements, same proofs) and take the one step by hand: between the two loops the scratch is shown to be
   covered by the first loop's stores, so that what it held before is not part of what the second loop reads.
   This module: what the runs share (names of the windows' blocks, the conditions of the cases). -/
module

public import proofs.«01_k».proof.Proof.Gen.Proj.Launch
public import proofs.«01_k».proof.Proof.Gen.Proj.Skeleton
public import proofs.«01_k».proof.Proof.Gen.Proj.Loops
public import proofs.«01_k».proof.Proof.Gen.Proj.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.FloatRun

open Cert.Proj Cert.Proj.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_Proj`, Defs.lean, at any `F`). -/
theorem frame_of (dats : (p : Fin 1) → (c : Dev nD) → Dat τ (Elt F) Unit ℕ (Pipeline.UD sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).1 1).trans (((dats 0 c).arrAt_in 1 rfl _).trans ((hA c 1).trans (V_main_arg2 m c))),
      ((h c).1 2).trans (((dats 0 c).arrAt_in 2 rfl _).trans ((hA c 2).trans (V_main_arg3 m c)))⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 12 = 0 :=
  (fun t => by
    have ht : t.val < 12 := Nat.lt_of_lt_of_eq t.isLt N_0
    have e0 : (grid0.coords t 0).val = t.val / 1 % 12 := Pipeline.Grid.coords_val t 0 (by decide) rfl
    simp only [cond0_0, e0]
    word_cmp
   : ∀ t : Fin grid0.N, cond0_0 (grid0.coords t) ↔ t.val % 12 = 0)

/-! ## The kernel body on any staging memrefs: a subtype the run finds -/

/-- One staging buffer of output window 3, through which its contents are stated (`View.read_writes_of_cover`: the
    choice does not matter). -/
abbrev VO0_3 : View sig .tc .vmem S256x6144 .fp8e4m3 := (Memref.whole cc0_stg3_0 : Memref sig .tc .vmem S256x6144 .fp8e4m3).view
/-- One staging buffer of output window 4, through which its contents are stated (`View.read_writes_of_cover`: the
    choice does not matter). -/
abbrev VO0_4 : View sig .tc .vmem S48x256 .f32 := (Memref.whole cc0_stg4_0 : Memref sig .tc .vmem S48x256 .f32).view
/-- One staging buffer of output window 5, through which its contents are stated (`View.read_writes_of_cover`: the
    choice does not matter). -/
abbrev VO0_5 : View sig .tc .vmem S2624x256 .bf16 := (Memref.whole cc0_stg5_0 : Memref sig .tc .vmem S2624x256 .bf16).view
/-- Each window's current staging memref at point `t`, spelled as the pipeline passes it (`bodyAt0`), and its wholeness. -/
abbrev ms0_0 (t : Fin cfg0.N) : Memref sig .tc .smem S21x48 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x6144 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x6144 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x6144 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S48x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2624x256 .bf16 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S2624x6144 .bf16 := Memref.whole cc0_scratch0
abbrev scM0_1 : Memref sig .tc .vmem S5248x512 .fp8e4m3 := Memref.whole cc0_scratch1
abbrev scM0_2 : Memref sig .tc .vmem S256x6144 .bf16 := Memref.whole cc0_scratch2
abbrev scM0_3 : Memref sig .tc .vmem S256x128 .f32 := Memref.whole cc0_scratch3
/-- The scratch `arg8` the kernel carries between points, as a view: what it holds is stated through it. -/
abbrev VS0_0 : View sig .tc .vmem S2624x6144 .bf16 := scM0_0.view
/-- The operands left in HBM that the body copies into scratch itself, whole. -/
abbrev hbM0_0 : Memref sig .tc .hbm S2624x6144 .fp8e4m3 := Memref.whole main_arg1
/-- Memref `M`'s buffer on core `c`: its contents type, and it held whole at `f` — behind this abbreviation, so that the
    run's rewriting of the goal leaves `Memref.view` intact (the form the executor reads a held buffer in). -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA semaphores, cell by cell (their numbers in the pool): the kernel's own semaphores for the launch
    (`Pipeline.OwnSemFacts`: none is a window's). -/
abbrev osem0 : Fin 2 → SemLoc sig := fun j => (![SemLoc.dma 10, SemLoc.dma 11] : Fin 2 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 10) 0 ∗ semVal ((c : Thread nD τ), SemLoc.dma 11) 0) := by
  rw [Pipeline.ownSems0_eq_of_list c osem0 [0, 1] (by decide) (by decide)]; rfl
/-- The HBM operands the body moves, as references: unscoped, no window's array (`Pipeline.restRefs`). -/
def H0 : Finset (Ref sig .tc) := {main_arg1}
theorem H0_sub : H0 ⊆ Pipeline.restRefs sig spec0 := by decide
/-- Their points-tos at the launch contents, listed. -/
theorem hbmPts0_eq (c : Dev nD) :
    (bigSep H0 (fun b => ((c : Thread nD τ).loc b) ↦{fullShare} V m c b) : sProp 𝕄) = iprop(hbPt0 c hbM0_0 (V m c main_arg1)) := by
  rw [BI.bigSep_eq_bigSepL_of_eq [main_arg1] (by decide) (by decide)]; rfl

/-- The invariant of a body with transfers of its own, `Pipeline.ΦD`, conjunct by conjunct: the scratch operands owned at
    some contents, the generator register at some state, the own cells at zero, the HBM operands at their launch
    contents — what the body obligation hands the run and takes back. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r) ∗ iprop(semVal ((c : Thread nD τ), SemLoc.dma 10) 0 ∗ semVal ((c : Thread nD τ), SemLoc.dma 11) 0) ∗ iprop(hbPt0 c hbM0_0 (V m c main_arg1))) := by
  rw [Pipeline.ΦD_eq, scopedRest0_eq, ownSems00_eq, hbmPts0_eq]; simp only [scM0_0, scM0_1, scM0_2, scM0_3, owns_whole]; try rfl

end Cert.FloatRun

end
-- ==== Proof.FloatRun.lean ====
/- The step between the projecting call's two loops: the scratch of dequantised activations is covered by the
   quantising loop's stores. -/
module

public import proofs.«01_k».proof.Proof.FloatRuns

@[expose] public section

-- membership in a rectangle of production extents (`View.cover_of_tiled`): the elaborator's structural look
-- recurses once per coordinate of the long axes
set_option maxRecDepth 16384

noncomputable section

namespace Cert.FloatRun

open Cert.Proj Cert.Proj.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- A whole buffer after listed writes that reach every element of it holds those writes over an arbitrary content:
    nothing of what it held before is left. -/
theorem writes_eq_junk {κ : Kind} {sp : Space} {s : Shape} {e : EltTy} {b : Memref sig κ sp s e} (hw : b.IsWhole)
    (f : b.view.ty.Contents (Elt F)) (L : List (View.Piece (Elt F) s e)) (hc : ∀ y, ∃ p ∈ L, y ∈ p.1.set) :
    b.view.writes (Elt F) f L = b.view.writes (Elt F) b.view.junk L := by
  obtain ⟨b, rfl, rfl, rfl, h⟩ := hw; cases h
  funext y
  exact View.read_writes_apply_eq (View.whole b) f (View.whole b) (View.whole b).junk y L (hc y)

/-- The quantising loop's trips fill the scratch of dequantised activations whole. -/
theorem dequantised_cover (𝒱 : Variants) (c : Dev nD) (bd : Option 𝒱.V) (i : grid0.Coords) (arg1 : Memref sig .tc .smem S21x48 .f32) (harg1 : arg1.IsWhole) (arg2 : Memref sig .tc .hbm S2624x6144 .fp8e4m3) (harg2 : arg2.IsWhole) (arg3 : Memref sig .tc .vmem S1x6144 .f32) (harg3 : arg3.IsWhole) (arg4 : Memref sig .tc .vmem S256x6144 .f32) (harg4 : arg4.IsWhole) (arg5 : Memref sig .tc .vmem S256x6144 .fp8e4m3) (harg5 : arg5.IsWhole) (arg6 : Memref sig .tc .vmem S48x256 .f32) (harg6 : arg6.IsWhole) (arg7 : Memref sig .tc .vmem S2624x256 .bf16) (harg7 : arg7.IsWhole) (arg8 : Memref sig .tc .vmem S2624x6144 .bf16) (harg8 : arg8.IsWhole) (arg9 : Memref sig .tc .vmem S5248x512 .fp8e4m3) (harg9 : arg9.IsWhole) (arg10 : Memref sig .tc .vmem S256x6144 .bf16) (harg10 : arg10.IsWhole) (arg11 : Memref sig .tc .vmem S256x128 .f32) (harg11 : arg11.IsWhole) (arg12 : DmaSems sig S2) (X_arg3 : BufTy.Contents (Elt F) arg3.view.ty) (X_arg4 : BufTy.Contents (Elt F) arg4.view.ty) :
    ∀ y, ∃ p ∈ (pb_k0_t1 (F := F) 𝒱 c bd i arg1 harg1 arg2 harg2 arg3 harg3 arg4 harg4 arg5 harg5 arg6 harg6 arg7 harg7 arg8 harg8 arg9 harg9 arg10 harg10 arg11 harg11 arg12 X_arg3 X_arg4 (Scf.trips k0_t1_loop.lb k0_t1_loop.ub k0_t1_loop.st)).2.1, y ∈ p.1.set :=
  View.cover_of_tiledL (pb_k0_t1 (F := F) 𝒱 c bd i arg1 harg1 arg2 harg2 arg3 harg3 arg4 harg4 arg5 harg5 arg6 harg6 arg7 harg7 arg8 harg8 arg9 harg9 arg10 harg10 arg11 harg11 arg12 X_arg3 X_arg4 (Scf.trips k0_t1_loop.lb k0_t1_loop.ub k0_t1_loop.st)).2.1 S32x128.size (by sl_kernel_rfl)

/-- After the quantising loop the scratch of dequantised activations holds the loop's writes over an arbitrary
    content. -/
theorem dequantised_writes (𝒱 : Variants) (c : Dev nD) (bd : Option 𝒱.V) (i : grid0.Coords) (arg1 : Memref sig .tc .smem S21x48 .f32) (harg1 : arg1.IsWhole) (arg2 : Memref sig .tc .hbm S2624x6144 .fp8e4m3) (harg2 : arg2.IsWhole) (arg3 : Memref sig .tc .vmem S1x6144 .f32) (harg3 : arg3.IsWhole) (arg4 : Memref sig .tc .vmem S256x6144 .f32) (harg4 : arg4.IsWhole) (arg5 : Memref sig .tc .vmem S256x6144 .fp8e4m3) (harg5 : arg5.IsWhole) (arg6 : Memref sig .tc .vmem S48x256 .f32) (harg6 : arg6.IsWhole) (arg7 : Memref sig .tc .vmem S2624x256 .bf16) (harg7 : arg7.IsWhole) (arg8 : Memref sig .tc .vmem S2624x6144 .bf16) (harg8 : arg8.IsWhole) (arg9 : Memref sig .tc .vmem S5248x512 .fp8e4m3) (harg9 : arg9.IsWhole) (arg10 : Memref sig .tc .vmem S256x6144 .bf16) (harg10 : arg10.IsWhole) (arg11 : Memref sig .tc .vmem S256x128 .f32) (harg11 : arg11.IsWhole) (arg12 : DmaSems sig S2) (X_arg3 : BufTy.Contents (Elt F) arg3.view.ty) (X_arg4 : BufTy.Contents (Elt F) arg4.view.ty) (f : BufTy.Contents (Elt F) arg10.view.ty) :
    arg10.view.writes (Elt F) f (pb_k0_t1 (F := F) 𝒱 c bd i arg1 harg1 arg2 harg2 arg3 harg3 arg4 harg4 arg5 harg5 arg6 harg6 arg7 harg7 arg8 harg8 arg9 harg9 arg10 harg10 arg11 harg11 arg12 X_arg3 X_arg4 (Scf.trips k0_t1_loop.lb k0_t1_loop.ub k0_t1_loop.st)).2.1
      = arg10.view.writes (Elt F) arg10.view.junk (pb_k0_t1 (F := F) 𝒱 c bd i arg1 harg1 arg2 harg2 arg3 harg3 arg4 harg4 arg5 harg5 arg6 harg6 arg7 harg7 arg8 harg8 arg9 harg9 arg10 harg10 arg11 harg11 arg12 X_arg3 X_arg4 (Scf.trips k0_t1_loop.lb k0_t1_loop.ub k0_t1_loop.st)).2.1 :=
  writes_eq_junk harg10 f _ (dequantised_cover 𝒱 c bd i arg1 harg1 arg2 harg2 arg3 harg3 arg4 harg4 arg5 harg5 arg6 harg6 arg7 harg7 arg8 harg8 arg9 harg9 arg10 harg10 arg11 harg11 arg12 X_arg3 X_arg4)

end Cert.FloatRun

end
-- ==== Proof.FloatRunB.lean ====
/- The whole-body run of the projecting call in case B (the other points: the weights are found dequantised). -/
module

public import proofs.«01_k».proof.Proof.FloatRun

@[expose] public section

-- membership in a rectangle of production extents (`View.cover_of_tiled`): the elaborator's structural look
-- recurses once per coordinate of the long axes
set_option maxRecDepth 16384

noncomputable section

namespace Cert.FloatRun

open Cert.Proj Cert.Proj.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

-- (the run's proof term is large: the definition's epilogue — `abstractNestedProofs` — walks it past the default budget)
set_option backward.proofsInPublic true in
set_option maxHeartbeats 1000000 in
/-- What the body's stores leave in each output's staging memref, as pieces (last first) IN CASE B (`scf.if` 0 not taken: points 1, 2, … 11: 11 of 12), WITH the
    proof that on whole staging memrefs — the inputs' at their contents, the other outputs' at
    anything, a carried scratch at the contents the point before left (`xs·`) or at anything, the other scratch at anything, the HBM operands it copies whole at their launch contents `fh·`, its DMA cells at zero and the core's `owes`, the body runs to the continuation holding the inputs' as they were,
    a carried scratch it stored into with its pieces written (`LS·`), the other scratch at some contents, the HBM operands and the cells as they were (each transfer lent the operand's block, listed the scratch's delivery and was waited for), the waits recorded in `owes`, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .smem S21x48 .f32) (harg1 : arg1.IsWhole) (arg3 : Memref sig .tc .vmem S1x6144 .f32) (harg3 : arg3.IsWhole) (arg4 : Memref sig .tc .vmem S256x6144 .f32) (harg4 : arg4.IsWhole) (arg5 : Memref sig .tc .vmem S256x6144 .fp8e4m3) (harg5 : arg5.IsWhole) (arg6 : Memref sig .tc .vmem S48x256 .f32) (harg6 : arg6.IsWhole) (arg7 : Memref sig .tc .vmem S2624x256 .bf16) (harg7 : arg7.IsWhole) (arg8 : Memref sig .tc .vmem S2624x6144 .bf16) (harg8 : arg8.IsWhole) (arg9 : Memref sig .tc .vmem S5248x512 .fp8e4m3) (harg9 : arg9.IsWhole) (arg10 : Memref sig .tc .vmem S256x6144 .bf16) (harg10 : arg10.IsWhole) (arg11 : Memref sig .tc .vmem S256x128 .f32) (harg11 : arg11.IsWhole) (hc0 : ¬cond0_0 i)
    (x0 : Vec F S21x48 .f32) (x1 : Vec F S1x6144 .f32) (x2 : Vec F S256x6144 .f32) (xs0 : Vec F S2624x6144 .bf16) (fh0 : HbBuf0 (F := F) c hbM0_0) :
    Σ' (L3 : List (View.Piece (Elt F) S256x6144 .fp8e4m3)), Σ' (L4 : List (View.Piece (Elt F) S48x256 .f32)), Σ' (L5 : List (View.Piece (Elt F) S2624x256 .bf16)), Σ' (LS0 : List (View.Piece (Elt F) S2624x6144 .bf16)), { LT1 : List (View.Piece (Elt F) S5248x512 .fp8e4m3) //
      ∀ (W : Waits sig Unit) (K : PUnit → sProp 𝕄),
        iprop(owns (c : Thread nD τ) arg1 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs0 ∗ (∃ d, owns (c : Thread nD τ) arg9 fullShare d) ∗ (∃ d, owns (c : Thread nD τ) arg10 fullShare d) ∗ (∃ d, owns (c : Thread nD τ) arg11 fullShare d) ∗ semVal ((c : Thread nD τ), SemLoc.dma 10) 0 ∗ semVal ((c : Thread nD τ), SemLoc.dma 11) 0 ∗ hbPt0 c hbM0_0 fh0 ∗ owes (c : Thread nD τ) 0 W
            ∗ (iprop(owns (c : Thread nD τ) arg1 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ owns (c : Thread nD τ) arg8 fullShare xs0 ∗ (∃ d, owns (c : Thread nD τ) arg9 fullShare d) ∗ (∃ d, owns (c : Thread nD τ) arg10 fullShare d) ∗ (∃ d, owns (c : Thread nD τ) arg11 fullShare d) ∗ semVal ((c : Thread nD τ), SemLoc.dma 10) 0 ∗ semVal ((c : Thread nD τ), SemLoc.dma 11) 0 ∗ hbPt0 c hbM0_0 fh0 ∗ (∃ W', owes (c : Thread nD τ) 0 W')) -∗ K ⟨⟩))
          ⊢ wp frame (wpE (defs₀ (F := F)) Variants.none c none) Set.univ (cc0_proj i arg1 harg1 (Memref.whole main_arg1) (Memref.isWhole_whole _) arg3 harg3 arg4 harg4 arg5 harg5 arg6 harg6 arg7 harg7 arg8 harg8 arg9 harg9 arg10 harg10 arg11 harg11 cc0_scratch4) K } := by
  refine ⟨?_, ?_, ?_, [], [], fun W K => ?run⟩
  case run =>
    simp only [cc0_proj_eq_skeleton]; unfold cc0_proj_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%fs0, %hfs0, HS0⟩, ⟨%ds1, %fs1, -, HS1⟩, ⟨%ds2, %fs2, -, HS2⟩, ⟨%ds3, %fs3, -, HS3⟩, Hq0, Hq1, Hh0, HW, Hk⟩
    obtain rfl := harg1.eq_unread hf0; obtain rfl := harg3.eq_unread hf1; obtain rfl := harg4.eq_unread hf2; obtain rfl := harg8.eq_unread hfs0
    have hrd0 : ∀ (𝒱 : Variants) (c : Dev nD) (bd : Option 𝒱.V) (i : grid0.Coords) (arg1 : Memref sig .tc .smem S21x48 .f32) (harg1 : arg1.IsWhole) (arg2 : Memref sig .tc .hbm S2624x6144 .fp8e4m3) (harg2 : arg2.IsWhole) (arg3 : Memref sig .tc .vmem S1x6144 .f32) (harg3 : arg3.IsWhole) (arg4 : Memref sig .tc .vmem S256x6144 .f32) (harg4 : arg4.IsWhole) (arg5 : Memref sig .tc .vmem S256x6144 .fp8e4m3) (harg5 : arg5.IsWhole) (arg6 : Memref sig .tc .vmem S48x256 .f32) (harg6 : arg6.IsWhole) (arg7 : Memref sig .tc .vmem S2624x256 .bf16) (harg7 : arg7.IsWhole) (arg8 : Memref sig .tc .vmem S2624x6144 .bf16) (harg8 : arg8.IsWhole) (arg9 : Memref sig .tc .vmem S5248x512 .fp8e4m3) (harg9 : arg9.IsWhole) (arg10 : Memref sig .tc .vmem S256x6144 .bf16) (harg10 : arg10.IsWhole) (arg11 : Memref sig .tc .vmem S256x128 .f32) (harg11 : arg11.IsWhole) (arg12 : DmaSems sig S2) (X_arg3 : BufTy.Contents (Elt F) arg3.view.ty) (X_arg4 : BufTy.Contents (Elt F) arg4.view.ty) (hrdF : BufTy.Contents (Elt F) arg11.view.ty) (hrdB : LoadRect S256x128), arg11.view.readAt (Elt F) hrdB (arg11.view.writes (Elt F) hrdF (pb_k0_t1 (F := F) 𝒱 c bd i arg1 harg1 arg2 harg2 arg3 harg3 arg4 harg4 arg5 harg5 arg6 harg6 arg7 harg7 arg8 harg8 arg9 harg9 arg10 harg10 arg11 harg11 arg12 X_arg3 X_arg4 (Scf.trips k0_t1_loop.lb k0_t1_loop.ub k0_t1_loop.st)).2.2) = arg11.view.readCov (pb_k0_t1 (F := F) 𝒱 c bd i arg1 harg1 arg2 harg2 arg3 harg3 arg4 harg4 arg5 harg5 arg6 harg6 arg7 harg7 arg8 harg8 arg9 harg9 arg10 harg10 arg11 harg11 arg12 X_arg3 X_arg4 (Scf.trips k0_t1_loop.lb k0_t1_loop.ub k0_t1_loop.st)).2.2 hrdB := fun 𝒱 c bd i arg1 harg1 arg2 harg2 arg3 harg3 arg4 harg4 arg5 harg5 arg6 harg6 arg7 harg7 arg8 harg8 arg9 harg9 arg10 harg10 arg11 harg11 arg12 X_arg3 X_arg4 hrdF hrdB => View.readAt_writes_of_cover _ hrdF _ hrdB (fun hrdJ => View.cover_of_tiledL (pb_k0_t1 (F := F) 𝒱 c bd i arg1 harg1 arg2 harg2 arg3 harg3 arg4 harg4 arg5 harg5 arg6 harg6 arg7 harg7 arg8 harg8 arg9 harg9 arg10 harg10 arg11 harg11 arg12 X_arg3 X_arg4 (Scf.trips k0_t1_loop.lb k0_t1_loop.ub k0_t1_loop.st)).2.2 S32x128.size (by sl_kernel_rfl) (hrdB.idx hrdJ))
    set_option sl_exec.maxSteps 5 in sl_exec (disch := first | sl_exact hc0)
    -- between the two loops: what the scratch held before the first is not part of what the second reads
    rw [dequantised_writes]
    sl_exec (disch := first | sl_exact hc0)
    sl_step
    iapply Hk
    isplitl [H0]
    · iexists _; isplitr; · ipureintro; exact harg1.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [H5]; · iexists _; iexact H5
    isplitl [HS0]
    · iexists _; isplitr; · ipureintro; exact harg8.read_unread _
      iexact HS0
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [Hq0]; · iexact Hq0
    isplitl [Hq1]; · iexact Hq1
    isplitl [Hh0]; · iexact Hh0
    iexists _; iexact HW

end Cert.FloatRun

end
-- ==== Proof.FloatRunA.lean ====
/- The whole-body run of the projecting call in case A (the first point of a core's column of points: the weights are dequantised). -/
module

public import proofs.«01_k».proof.Proof.FloatRunB

@[expose] public section

-- membership in a rectangle of production extents (`View.cover_of_tiled`): the elaborator's structural look
-- recurses once per coordinate of the long axes
set_option maxRecDepth 16384

noncomputable section

namespace Cert.FloatRun

open Cert.Proj Cert.Proj.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

-- (the run's proof term is large: the definition's epilogue — `abstractNestedProofs` — walks it past the default budget)
set_option backward.proofsInPublic true in
set_option maxHeartbeats 23128000 in set_option sl_exec.dmaWindow true in set_option sl_exec.dmaWindowSet true in
/-- What the body's stores leave in each output's staging memref, as pieces (last first) IN CASE A (`scf.if` 0 taken: points 0), WITH the
    proof that on whole staging memrefs — the inputs' at their contents, the other outputs' at
    anything, a carried scratch at the contents the point before left (`xs·`) or at anything, the other scratch at anything, the HBM operands it copies whole at their launch contents `fh·`, its DMA cells at zero and the core's `owes`, the body runs to the continuation holding the inputs' as they were,
    a carried scratch it stored into with its pieces written (`LS·`), a scratch it stored into and does not carry with its pieces (`LT·`) written over some contents, the other scratch at some contents, the HBM operands and the cells as they were (each transfer lent the operand's block, listed the scratch's delivery and was waited for), the waits recorded in `owes`, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .smem S21x48 .f32) (harg1 : arg1.IsWhole) (arg3 : Memref sig .tc .vmem S1x6144 .f32) (harg3 : arg3.IsWhole) (arg4 : Memref sig .tc .vmem S256x6144 .f32) (harg4 : arg4.IsWhole) (arg5 : Memref sig .tc .vmem S256x6144 .fp8e4m3) (harg5 : arg5.IsWhole) (arg6 : Memref sig .tc .vmem S48x256 .f32) (harg6 : arg6.IsWhole) (arg7 : Memref sig .tc .vmem S2624x256 .bf16) (harg7 : arg7.IsWhole) (arg8 : Memref sig .tc .vmem S2624x6144 .bf16) (harg8 : arg8.IsWhole) (arg9 : Memref sig .tc .vmem S5248x512 .fp8e4m3) (harg9 : arg9.IsWhole) (arg10 : Memref sig .tc .vmem S256x6144 .bf16) (harg10 : arg10.IsWhole) (arg11 : Memref sig .tc .vmem S256x128 .f32) (harg11 : arg11.IsWhole) (hc0 : cond0_0 i)
    (x0 : Vec F S21x48 .f32) (x1 : Vec F S1x6144 .f32) (x2 : Vec F S256x6144 .f32) (fh0 : HbBuf0 (F := F) c hbM0_0) :
    Σ' (L3 : List (View.Piece (Elt F) S256x6144 .fp8e4m3)), Σ' (L4 : List (View.Piece (Elt F) S48x256 .f32)), Σ' (L5 : List (View.Piece (Elt F) S2624x256 .bf16)), Σ' (LS0 : List (View.Piece (Elt F) S2624x6144 .bf16)), { LT1 : List (View.Piece (Elt F) S5248x512 .fp8e4m3) //
      ∀ (W : Waits sig Unit) (K : PUnit → sProp 𝕄),
        iprop(owns (c : Thread nD τ) arg1 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ semVal ((c : Thread nD τ), SemLoc.dma 10) 0 ∗ semVal ((c : Thread nD τ), SemLoc.dma 11) 0 ∗ hbPt0 c hbM0_0 fh0 ∗ owes (c : Thread nD τ) 0 W
            ∗ (iprop(owns (c : Thread nD τ) arg1 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LT1) ∗ (∃ d, owns (c : Thread nD τ) arg10 fullShare d) ∗ (∃ d, owns (c : Thread nD τ) arg11 fullShare d) ∗ semVal ((c : Thread nD τ), SemLoc.dma 10) 0 ∗ semVal ((c : Thread nD τ), SemLoc.dma 11) 0 ∗ hbPt0 c hbM0_0 fh0 ∗ (∃ W', owes (c : Thread nD τ) 0 W')) -∗ K ⟨⟩))
          ⊢ wp frame (wpE (defs₀ (F := F)) Variants.none c none) Set.univ (cc0_proj i arg1 harg1 (Memref.whole main_arg1) (Memref.isWhole_whole _) arg3 harg3 arg4 harg4 arg5 harg5 arg6 harg6 arg7 harg7 arg8 harg8 arg9 harg9 arg10 harg10 arg11 harg11 cc0_scratch4) K } := by
  refine ⟨?_, ?_, ?_, ?_, ?_, fun W K => ?run⟩
  case run =>
    simp only [cc0_proj_eq_skeleton]; unfold cc0_proj_skel
    simp only [k0_part273_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part274_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part275_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part276_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part277_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%ds0, %fs0, -, HS0⟩, ⟨%ds1, %fs1, -, HS1⟩, ⟨%ds2, %fs2, -, HS2⟩, ⟨%ds3, %fs3, -, HS3⟩, Hq0, Hq1, Hh0, HW, Hk⟩
    obtain rfl := harg1.eq_unread hf0; obtain rfl := harg3.eq_unread hf1; obtain rfl := harg4.eq_unread hf2
    have hrd0 : ∀ (𝒱 : Variants) (c : Dev nD) (bd : Option 𝒱.V) (i : grid0.Coords) (arg1 : Memref sig .tc .smem S21x48 .f32) (harg1 : arg1.IsWhole) (arg2 : Memref sig .tc .hbm S2624x6144 .fp8e4m3) (harg2 : arg2.IsWhole) (arg3 : Memref sig .tc .vmem S1x6144 .f32) (harg3 : arg3.IsWhole) (arg4 : Memref sig .tc .vmem S256x6144 .f32) (harg4 : arg4.IsWhole) (arg5 : Memref sig .tc .vmem S256x6144 .fp8e4m3) (harg5 : arg5.IsWhole) (arg6 : Memref sig .tc .vmem S48x256 .f32) (harg6 : arg6.IsWhole) (arg7 : Memref sig .tc .vmem S2624x256 .bf16) (harg7 : arg7.IsWhole) (arg8 : Memref sig .tc .vmem S2624x6144 .bf16) (harg8 : arg8.IsWhole) (arg9 : Memref sig .tc .vmem S5248x512 .fp8e4m3) (harg9 : arg9.IsWhole) (arg10 : Memref sig .tc .vmem S256x6144 .bf16) (harg10 : arg10.IsWhole) (arg11 : Memref sig .tc .vmem S256x128 .f32) (harg11 : arg11.IsWhole) (arg12 : DmaSems sig S2) (X_arg3 : BufTy.Contents (Elt F) arg3.view.ty) (X_arg4 : BufTy.Contents (Elt F) arg4.view.ty) (hrdF : BufTy.Contents (Elt F) arg11.view.ty) (hrdB : LoadRect S256x128), arg11.view.readAt (Elt F) hrdB (arg11.view.writes (Elt F) hrdF (pb_k0_t1 (F := F) 𝒱 c bd i arg1 harg1 arg2 harg2 arg3 harg3 arg4 harg4 arg5 harg5 arg6 harg6 arg7 harg7 arg8 harg8 arg9 harg9 arg10 harg10 arg11 harg11 arg12 X_arg3 X_arg4 (Scf.trips k0_t1_loop.lb k0_t1_loop.ub k0_t1_loop.st)).2.2) = arg11.view.readCov (pb_k0_t1 (F := F) 𝒱 c bd i arg1 harg1 arg2 harg2 arg3 harg3 arg4 harg4 arg5 harg5 arg6 harg6 arg7 harg7 arg8 harg8 arg9 harg9 arg10 harg10 arg11 harg11 arg12 X_arg3 X_arg4 (Scf.trips k0_t1_loop.lb k0_t1_loop.ub k0_t1_loop.st)).2.2 hrdB := fun 𝒱 c bd i arg1 harg1 arg2 harg2 arg3 harg3 arg4 harg4 arg5 harg5 arg6 harg6 arg7 harg7 arg8 harg8 arg9 harg9 arg10 harg10 arg11 harg11 arg12 X_arg3 X_arg4 hrdF hrdB => View.readAt_writes_of_cover _ hrdF _ hrdB (fun hrdJ => View.cover_of_tiledL (pb_k0_t1 (F := F) 𝒱 c bd i arg1 harg1 arg2 harg2 arg3 harg3 arg4 harg4 arg5 harg5 arg6 harg6 arg7 harg7 arg8 harg8 arg9 harg9 arg10 harg10 arg11 harg11 arg12 X_arg3 X_arg4 (Scf.trips k0_t1_loop.lb k0_t1_loop.ub k0_t1_loop.st)).2.2 S32x128.size (by sl_kernel_rfl) (hrdB.idx hrdJ))
    set_option sl_exec.maxSteps 6918 in sl_exec (disch := first | sl_exact hc0)
    -- between the two loops: what the scratch held before the first is not part of what the second reads
    rw [dequantised_writes]
    sl_exec (disch := first | sl_exact hc0)
    sl_step
    iapply Hk
    isplitl [H0]
    · iexists _; isplitr; · ipureintro; exact harg1.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [H5]; · iexists _; iexact H5
    isplitl [HS0]; · iexists _; iexact HS0
    isplitl [HS1]; · iexists _; iexact HS1
    isplitl [HS2]
    · iexists _, _; isplitr; swap; · iexact HS2
      ipureintro; rfl
    isplitl [HS3]
    · iexists _, _; isplitr; swap; · iexact HS3
      ipureintro; rfl
    isplitl [Hq0]; · iexact Hq0
    isplitl [Hq1]; · iexact Hq1
    isplitl [Hh0]; · iexact Hh0
    iexists _; iexact HW

end Cert.FloatRun

end
-- ==== Proof.FloatFrame.lean ====
/- What the projecting call leaves in its outputs and in the scratch it carries, point by point, and the run of
   its whole grid; a restatement of the generated certificate over the runs with named outputs. -/
module

public import proofs.«01_k».proof.Proof.FloatRunA
public import Idealize.ShloMosaic.Lib.Claim

@[expose] public section

-- membership in a rectangle of production extents (`View.cover_of_tiled`): the elaborator's structural look
-- recurses once per coordinate of the long axes
set_option maxRecDepth 16384

noncomputable section

namespace Cert.FloatRun

open Cert.Proj Cert.Proj.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-- Case A's pieces for output 3 tile its block (384 stores of `S32x128`, checked by the kernel's evaluation: Lib/Ring.lean `Piece.tiledL`, linear in the pieces, through a loop's `@[irreducible]` trip theorem too), so they cover it. -/
theorem cover0_A_3 (c : Dev nD) (i : grid0.Coords) (arg1 : Memref sig .tc .smem S21x48 .f32) (harg1 : arg1.IsWhole) (arg3 : Memref sig .tc .vmem S1x6144 .f32) (harg3 : arg3.IsWhole) (arg4 : Memref sig .tc .vmem S256x6144 .f32) (harg4 : arg4.IsWhole) (arg5 : Memref sig .tc .vmem S256x6144 .fp8e4m3) (harg5 : arg5.IsWhole) (arg6 : Memref sig .tc .vmem S48x256 .f32) (harg6 : arg6.IsWhole) (arg7 : Memref sig .tc .vmem S2624x256 .bf16) (harg7 : arg7.IsWhole) (arg8 : Memref sig .tc .vmem S2624x6144 .bf16) (harg8 : arg8.IsWhole) (arg9 : Memref sig .tc .vmem S5248x512 .fp8e4m3) (harg9 : arg9.IsWhole) (arg10 : Memref sig .tc .vmem S256x6144 .bf16) (harg10 : arg10.IsWhole) (arg11 : Memref sig .tc .vmem S256x128 .f32) (harg11 : arg11.IsWhole) (hc0 : cond0_0 i)
    (x0 : Vec F S21x48 .f32) (x1 : Vec F S1x6144 .f32) (x2 : Vec F S256x6144 .f32) (fh0 : HbBuf0 (F := F) c hbM0_0) (y : S256x6144.Idx) :
    ∃ pc ∈ (kernelRun0_A c i arg1 harg1 arg3 harg3 arg4 harg4 arg5 harg5 arg6 harg6 arg7 harg7 arg8 harg8 arg9 harg9 arg10 harg10 arg11 harg11 hc0 x0 x1 x2 fh0).1, y ∈ pc.1.set :=
  View.cover_of_tiledL (kernelRun0_A c i arg1 harg1 arg3 harg3 arg4 harg4 arg5 harg5 arg6 harg6 arg7 harg7 arg8 harg8 arg9 harg9 arg10 harg10 arg11 harg11 hc0 x0 x1 x2 fh0).1 S32x128.size (by sl_kernel_rfl) y

/-- What case A leaves in output 3's staging buffer: its pieces read back over junk. -/
def out0_A_3 (c : Dev nD) (i : grid0.Coords) (arg1 : Memref sig .tc .smem S21x48 .f32) (harg1 : arg1.IsWhole) (arg3 : Memref sig .tc .vmem S1x6144 .f32) (harg3 : arg3.IsWhole) (arg4 : Memref sig .tc .vmem S256x6144 .f32) (harg4 : arg4.IsWhole) (arg5 : Memref sig .tc .vmem S256x6144 .fp8e4m3) (harg5 : arg5.IsWhole) (arg6 : Memref sig .tc .vmem S48x256 .f32) (harg6 : arg6.IsWhole) (arg7 : Memref sig .tc .vmem S2624x256 .bf16) (harg7 : arg7.IsWhole) (arg8 : Memref sig .tc .vmem S2624x6144 .bf16) (harg8 : arg8.IsWhole) (arg9 : Memref sig .tc .vmem S5248x512 .fp8e4m3) (harg9 : arg9.IsWhole) (arg10 : Memref sig .tc .vmem S256x6144 .bf16) (harg10 : arg10.IsWhole) (arg11 : Memref sig .tc .vmem S256x128 .f32) (harg11 : arg11.IsWhole) (hc0 : cond0_0 i)
    (x0 : Vec F S21x48 .f32) (x1 : Vec F S1x6144 .f32) (x2 : Vec F S256x6144 .f32) (fh0 : HbBuf0 (F := F) c hbM0_0) : Vec F S256x6144 .fp8e4m3 :=
  VO0_3.read (Elt F) (VO0_3.writes (Elt F) VO0_3.junk (kernelRun0_A c i arg1 harg1 arg3 harg3 arg4 harg4 arg5 harg5 arg6 harg6 arg7 harg7 arg8 harg8 arg9 harg9 arg10 harg10 arg11 harg11 hc0 x0 x1 x2 fh0).1)

/-- Case A's pieces for output 4 tile its block (1 store of `S48x256`, checked by the kernel's evaluation: Lib/Ring.lean `Piece.tiledL`, linear in the pieces, through a loop's `@[irreducible]` trip theorem too), so they cover it. -/
theorem cover0_A_4 (c : Dev nD) (i : grid0.Coords) (arg1 : Memref sig .tc .smem S21x48 .f32) (harg1 : arg1.IsWhole) (arg3 : Memref sig .tc .vmem S1x6144 .f32) (harg3 : arg3.IsWhole) (arg4 : Memref sig .tc .vmem S256x6144 .f32) (harg4 : arg4.IsWhole) (arg5 : Memref sig .tc .vmem S256x6144 .fp8e4m3) (harg5 : arg5.IsWhole) (arg6 : Memref sig .tc .vmem S48x256 .f32) (harg6 : arg6.IsWhole) (arg7 : Memref sig .tc .vmem S2624x256 .bf16) (harg7 : arg7.IsWhole) (arg8 : Memref sig .tc .vmem S2624x6144 .bf16) (harg8 : arg8.IsWhole) (arg9 : Memref sig .tc .vmem S5248x512 .fp8e4m3) (harg9 : arg9.IsWhole) (arg10 : Memref sig .tc .vmem S256x6144 .bf16) (harg10 : arg10.IsWhole) (arg11 : Memref sig .tc .vmem S256x128 .f32) (harg11 : arg11.IsWhole) (hc0 : cond0_0 i)
    (x0 : Vec F S21x48 .f32) (x1 : Vec F S1x6144 .f32) (x2 : Vec F S256x6144 .f32) (fh0 : HbBuf0 (F := F) c hbM0_0) (y : S48x256.Idx) :
    ∃ pc ∈ (kernelRun0_A c i arg1 harg1 arg3 harg3 arg4 harg4 arg5 harg5 arg6 harg6 arg7 harg7 arg8 harg8 arg9 harg9 arg10 harg10 arg11 harg11 hc0 x0 x1 x2 fh0).2.1, y ∈ pc.1.set :=
  View.cover_of_tiledL (kernelRun0_A c i arg1 harg1 arg3 harg3 arg4 harg4 arg5 harg5 arg6 harg6 arg7 harg7 arg8 harg8 arg9 harg9 arg10 harg10 arg11 harg11 hc0 x0 x1 x2 fh0).2.1 S48x256.size (by sl_kernel_rfl) y

/-- What case A leaves in output 4's staging buffer: its pieces read back over junk. -/
def out0_A_4 (c : Dev nD) (i : grid0.Coords) (arg1 : Memref sig .tc .smem S21x48 .f32) (harg1 : arg1.IsWhole) (arg3 : Memref sig .tc .vmem S1x6144 .f32) (harg3 : arg3.IsWhole) (arg4 : Memref sig .tc .vmem S256x6144 .f32) (harg4 : arg4.IsWhole) (arg5 : Memref sig .tc .vmem S256x6144 .fp8e4m3) (harg5 : arg5.IsWhole) (arg6 : Memref sig .tc .vmem S48x256 .f32) (harg6 : arg6.IsWhole) (arg7 : Memref sig .tc .vmem S2624x256 .bf16) (harg7 : arg7.IsWhole) (arg8 : Memref sig .tc .vmem S2624x6144 .bf16) (harg8 : arg8.IsWhole) (arg9 : Memref sig .tc .vmem S5248x512 .fp8e4m3) (harg9 : arg9.IsWhole) (arg10 : Memref sig .tc .vmem S256x6144 .bf16) (harg10 : arg10.IsWhole) (arg11 : Memref sig .tc .vmem S256x128 .f32) (harg11 : arg11.IsWhole) (hc0 : cond0_0 i)
    (x0 : Vec F S21x48 .f32) (x1 : Vec F S1x6144 .f32) (x2 : Vec F S256x6144 .f32) (fh0 : HbBuf0 (F := F) c hbM0_0) : Vec F S48x256 .f32 :=
  VO0_4.read (Elt F) (VO0_4.writes (Elt F) VO0_4.junk (kernelRun0_A c i arg1 harg1 arg3 harg3 arg4 harg4 arg5 harg5 arg6 harg6 arg7 harg7 arg8 harg8 arg9 harg9 arg10 harg10 arg11 harg11 hc0 x0 x1 x2 fh0).2.1)

/-- Case A's pieces for output 5 tile its block (4 stores of `S656x256`, checked by the kernel's evaluation: Lib/Ring.lean `Piece.tiledL`, linear in the pieces, through a loop's `@[irreducible]` trip theorem too), so they cover it. -/
theorem cover0_A_5 (c : Dev nD) (i : grid0.Coords) (arg1 : Memref sig .tc .smem S21x48 .f32) (harg1 : arg1.IsWhole) (arg3 : Memref sig .tc .vmem S1x6144 .f32) (harg3 : arg3.IsWhole) (arg4 : Memref sig .tc .vmem S256x6144 .f32) (harg4 : arg4.IsWhole) (arg5 : Memref sig .tc .vmem S256x6144 .fp8e4m3) (harg5 : arg5.IsWhole) (arg6 : Memref sig .tc .vmem S48x256 .f32) (harg6 : arg6.IsWhole) (arg7 : Memref sig .tc .vmem S2624x256 .bf16) (harg7 : arg7.IsWhole) (arg8 : Memref sig .tc .vmem S2624x6144 .bf16) (harg8 : arg8.IsWhole) (arg9 : Memref sig .tc .vmem S5248x512 .fp8e4m3) (harg9 : arg9.IsWhole) (arg10 : Memref sig .tc .vmem S256x6144 .bf16) (harg10 : arg10.IsWhole) (arg11 : Memref sig .tc .vmem S256x128 .f32) (harg11 : arg11.IsWhole) (hc0 : cond0_0 i)
    (x0 : Vec F S21x48 .f32) (x1 : Vec F S1x6144 .f32) (x2 : Vec F S256x6144 .f32) (fh0 : HbBuf0 (F := F) c hbM0_0) (y : S2624x256.Idx) :
    ∃ pc ∈ (kernelRun0_A c i arg1 harg1 arg3 harg3 arg4 harg4 arg5 harg5 arg6 harg6 arg7 harg7 arg8 harg8 arg9 harg9 arg10 harg10 arg11 harg11 hc0 x0 x1 x2 fh0).2.2.1, y ∈ pc.1.set :=
  View.cover_of_tiledL (kernelRun0_A c i arg1 harg1 arg3 harg3 arg4 harg4 arg5 harg5 arg6 harg6 arg7 harg7 arg8 harg8 arg9 harg9 arg10 harg10 arg11 harg11 hc0 x0 x1 x2 fh0).2.2.1 S656x256.size (by sl_kernel_rfl) y

/-- What case A leaves in output 5's staging buffer: its pieces read back over junk. -/
def out0_A_5 (c : Dev nD) (i : grid0.Coords) (arg1 : Memref sig .tc .smem S21x48 .f32) (harg1 : arg1.IsWhole) (arg3 : Memref sig .tc .vmem S1x6144 .f32) (harg3 : arg3.IsWhole) (arg4 : Memref sig .tc .vmem S256x6144 .f32) (harg4 : arg4.IsWhole) (arg5 : Memref sig .tc .vmem S256x6144 .fp8e4m3) (harg5 : arg5.IsWhole) (arg6 : Memref sig .tc .vmem S48x256 .f32) (harg6 : arg6.IsWhole) (arg7 : Memref sig .tc .vmem S2624x256 .bf16) (harg7 : arg7.IsWhole) (arg8 : Memref sig .tc .vmem S2624x6144 .bf16) (harg8 : arg8.IsWhole) (arg9 : Memref sig .tc .vmem S5248x512 .fp8e4m3) (harg9 : arg9.IsWhole) (arg10 : Memref sig .tc .vmem S256x6144 .bf16) (harg10 : arg10.IsWhole) (arg11 : Memref sig .tc .vmem S256x128 .f32) (harg11 : arg11.IsWhole) (hc0 : cond0_0 i)
    (x0 : Vec F S21x48 .f32) (x1 : Vec F S1x6144 .f32) (x2 : Vec F S256x6144 .f32) (fh0 : HbBuf0 (F := F) c hbM0_0) : Vec F S2624x256 .bf16 :=
  VO0_5.read (Elt F) (VO0_5.writes (Elt F) VO0_5.junk (kernelRun0_A c i arg1 harg1 arg3 harg3 arg4 harg4 arg5 harg5 arg6 harg6 arg7 harg7 arg8 harg8 arg9 harg9 arg10 harg10 arg11 harg11 hc0 x0 x1 x2 fh0).2.2.1)

/-- Case A's pieces for scratch `arg8`, which the kernel carries between points, cover it: 1008 pieces (stores and landed copies) of several sizes (`S128x128`, `S64x128`) tiling it when cut into blocks of `![64, 128]` (Lib/Ring.lean `Piece.tiledBy`). -/
theorem scover0_A_0 (c : Dev nD) (i : grid0.Coords) (arg1 : Memref sig .tc .smem S21x48 .f32) (harg1 : arg1.IsWhole) (arg3 : Memref sig .tc .vmem S1x6144 .f32) (harg3 : arg3.IsWhole) (arg4 : Memref sig .tc .vmem S256x6144 .f32) (harg4 : arg4.IsWhole) (arg5 : Memref sig .tc .vmem S256x6144 .fp8e4m3) (harg5 : arg5.IsWhole) (arg6 : Memref sig .tc .vmem S48x256 .f32) (harg6 : arg6.IsWhole) (arg7 : Memref sig .tc .vmem S2624x256 .bf16) (harg7 : arg7.IsWhole) (arg8 : Memref sig .tc .vmem S2624x6144 .bf16) (harg8 : arg8.IsWhole) (arg9 : Memref sig .tc .vmem S5248x512 .fp8e4m3) (harg9 : arg9.IsWhole) (arg10 : Memref sig .tc .vmem S256x6144 .bf16) (harg10 : arg10.IsWhole) (arg11 : Memref sig .tc .vmem S256x128 .f32) (harg11 : arg11.IsWhole) (hc0 : cond0_0 i)
    (x0 : Vec F S21x48 .f32) (x1 : Vec F S1x6144 .f32) (x2 : Vec F S256x6144 .f32) (fh0 : HbBuf0 (F := F) c hbM0_0) (y : S2624x6144.Idx) :
    ∃ pc ∈ (kernelRun0_A c i arg1 harg1 arg3 harg3 arg4 harg4 arg5 harg5 arg6 harg6 arg7 harg7 arg8 harg8 arg9 harg9 arg10 harg10 arg11 harg11 hc0 x0 x1 x2 fh0).2.2.2.1, y ∈ pc.1.set :=
  View.cover_of_tiledBy (kernelRun0_A c i arg1 harg1 arg3 harg3 arg4 harg4 arg5 harg5 arg6 harg6 arg7 harg7 arg8 harg8 arg9 harg9 arg10 harg10 arg11 harg11 hc0 x0 x1 x2 fh0).2.2.2.1 ![64, 128] (by sl_kernel_rfl) y

/-- What case A leaves in scratch `arg8`: its pieces read back over junk. -/
def sout0_A_0 (c : Dev nD) (i : grid0.Coords) (arg1 : Memref sig .tc .smem S21x48 .f32) (harg1 : arg1.IsWhole) (arg3 : Memref sig .tc .vmem S1x6144 .f32) (harg3 : arg3.IsWhole) (arg4 : Memref sig .tc .vmem S256x6144 .f32) (harg4 : arg4.IsWhole) (arg5 : Memref sig .tc .vmem S256x6144 .fp8e4m3) (harg5 : arg5.IsWhole) (arg6 : Memref sig .tc .vmem S48x256 .f32) (harg6 : arg6.IsWhole) (arg7 : Memref sig .tc .vmem S2624x256 .bf16) (harg7 : arg7.IsWhole) (arg8 : Memref sig .tc .vmem S2624x6144 .bf16) (harg8 : arg8.IsWhole) (arg9 : Memref sig .tc .vmem S5248x512 .fp8e4m3) (harg9 : arg9.IsWhole) (arg10 : Memref sig .tc .vmem S256x6144 .bf16) (harg10 : arg10.IsWhole) (arg11 : Memref sig .tc .vmem S256x128 .f32) (harg11 : arg11.IsWhole) (hc0 : cond0_0 i)
    (x0 : Vec F S21x48 .f32) (x1 : Vec F S1x6144 .f32) (x2 : Vec F S256x6144 .f32) (fh0 : HbBuf0 (F := F) c hbM0_0) : Vec F S2624x6144 .bf16 :=
  VS0_0.read (Elt F) (VS0_0.writes (Elt F) VS0_0.junk (kernelRun0_A c i arg1 harg1 arg3 harg3 arg4 harg4 arg5 harg5 arg6 harg6 arg7 harg7 arg8 harg8 arg9 harg9 arg10 harg10 arg11 harg11 hc0 x0 x1 x2 fh0).2.2.2.1)

/-- Case B's pieces for output 3 tile its block (384 stores of `S32x128`, checked by the kernel's evaluation: Lib/Ring.lean `Piece.tiledL`, linear in the pieces, through a loop's `@[irreducible]` trip theorem too), so they cover it. -/
theorem cover0_B_3 (c : Dev nD) (i : grid0.Coords) (arg1 : Memref sig .tc .smem S21x48 .f32) (harg1 : arg1.IsWhole) (arg3 : Memref sig .tc .vmem S1x6144 .f32) (harg3 : arg3.IsWhole) (arg4 : Memref sig .tc .vmem S256x6144 .f32) (harg4 : arg4.IsWhole) (arg5 : Memref sig .tc .vmem S256x6144 .fp8e4m3) (harg5 : arg5.IsWhole) (arg6 : Memref sig .tc .vmem S48x256 .f32) (harg6 : arg6.IsWhole) (arg7 : Memref sig .tc .vmem S2624x256 .bf16) (harg7 : arg7.IsWhole) (arg8 : Memref sig .tc .vmem S2624x6144 .bf16) (harg8 : arg8.IsWhole) (arg9 : Memref sig .tc .vmem S5248x512 .fp8e4m3) (harg9 : arg9.IsWhole) (arg10 : Memref sig .tc .vmem S256x6144 .bf16) (harg10 : arg10.IsWhole) (arg11 : Memref sig .tc .vmem S256x128 .f32) (harg11 : arg11.IsWhole) (hc0 : ¬cond0_0 i)
    (x0 : Vec F S21x48 .f32) (x1 : Vec F S1x6144 .f32) (x2 : Vec F S256x6144 .f32) (xs0 : Vec F S2624x6144 .bf16) (fh0 : HbBuf0 (F := F) c hbM0_0) (y : S256x6144.Idx) :
    ∃ pc ∈ (kernelRun0_B c i arg1 harg1 arg3 harg3 arg4 harg4 arg5 harg5 arg6 harg6 arg7 harg7 arg8 harg8 arg9 harg9 arg10 harg10 arg11 harg11 hc0 x0 x1 x2 xs0 fh0).1, y ∈ pc.1.set :=
  View.cover_of_tiledL (kernelRun0_B c i arg1 harg1 arg3 harg3 arg4 harg4 arg5 harg5 arg6 harg6 arg7 harg7 arg8 harg8 arg9 harg9 arg10 harg10 arg11 harg11 hc0 x0 x1 x2 xs0 fh0).1 S32x128.size (by sl_kernel_rfl) y

/-- What case B leaves in output 3's staging buffer: its pieces read back over junk. -/
def out0_B_3 (c : Dev nD) (i : grid0.Coords) (arg1 : Memref sig .tc .smem S21x48 .f32) (harg1 : arg1.IsWhole) (arg3 : Memref sig .tc .vmem S1x6144 .f32) (harg3 : arg3.IsWhole) (arg4 : Memref sig .tc .vmem S256x6144 .f32) (harg4 : arg4.IsWhole) (arg5 : Memref sig .tc .vmem S256x6144 .fp8e4m3) (harg5 : arg5.IsWhole) (arg6 : Memref sig .tc .vmem S48x256 .f32) (harg6 : arg6.IsWhole) (arg7 : Memref sig .tc .vmem S2624x256 .bf16) (harg7 : arg7.IsWhole) (arg8 : Memref sig .tc .vmem S2624x6144 .bf16) (harg8 : arg8.IsWhole) (arg9 : Memref sig .tc .vmem S5248x512 .fp8e4m3) (harg9 : arg9.IsWhole) (arg10 : Memref sig .tc .vmem S256x6144 .bf16) (harg10 : arg10.IsWhole) (arg11 : Memref sig .tc .vmem S256x128 .f32) (harg11 : arg11.IsWhole) (hc0 : ¬cond0_0 i)
    (x0 : Vec F S21x48 .f32) (x1 : Vec F S1x6144 .f32) (x2 : Vec F S256x6144 .f32) (xs0 : Vec F S2624x6144 .bf16) (fh0 : HbBuf0 (F := F) c hbM0_0) : Vec F S256x6144 .fp8e4m3 :=
  VO0_3.read (Elt F) (VO0_3.writes (Elt F) VO0_3.junk (kernelRun0_B c i arg1 harg1 arg3 harg3 arg4 harg4 arg5 harg5 arg6 harg6 arg7 harg7 arg8 harg8 arg9 harg9 arg10 harg10 arg11 harg11 hc0 x0 x1 x2 xs0 fh0).1)

/-- Case B's pieces for output 4 tile its block (1 store of `S48x256`, checked by the kernel's evaluation: Lib/Ring.lean `Piece.tiledL`, linear in the pieces, through a loop's `@[irreducible]` trip theorem too), so they cover it. -/
theorem cover0_B_4 (c : Dev nD) (i : grid0.Coords) (arg1 : Memref sig .tc .smem S21x48 .f32) (harg1 : arg1.IsWhole) (arg3 : Memref sig .tc .vmem S1x6144 .f32) (harg3 : arg3.IsWhole) (arg4 : Memref sig .tc .vmem S256x6144 .f32) (harg4 : arg4.IsWhole) (arg5 : Memref sig .tc .vmem S256x6144 .fp8e4m3) (harg5 : arg5.IsWhole) (arg6 : Memref sig .tc .vmem S48x256 .f32) (harg6 : arg6.IsWhole) (arg7 : Memref sig .tc .vmem S2624x256 .bf16) (harg7 : arg7.IsWhole) (arg8 : Memref sig .tc .vmem S2624x6144 .bf16) (harg8 : arg8.IsWhole) (arg9 : Memref sig .tc .vmem S5248x512 .fp8e4m3) (harg9 : arg9.IsWhole) (arg10 : Memref sig .tc .vmem S256x6144 .bf16) (harg10 : arg10.IsWhole) (arg11 : Memref sig .tc .vmem S256x128 .f32) (harg11 : arg11.IsWhole) (hc0 : ¬cond0_0 i)
    (x0 : Vec F S21x48 .f32) (x1 : Vec F S1x6144 .f32) (x2 : Vec F S256x6144 .f32) (xs0 : Vec F S2624x6144 .bf16) (fh0 : HbBuf0 (F := F) c hbM0_0) (y : S48x256.Idx) :
    ∃ pc ∈ (kernelRun0_B c i arg1 harg1 arg3 harg3 arg4 harg4 arg5 harg5 arg6 harg6 arg7 harg7 arg8 harg8 arg9 harg9 arg10 harg10 arg11 harg11 hc0 x0 x1 x2 xs0 fh0).2.1, y ∈ pc.1.set :=
  View.cover_of_tiledL (kernelRun0_B c i arg1 harg1 arg3 harg3 arg4 harg4 arg5 harg5 arg6 harg6 arg7 harg7 arg8 harg8 arg9 harg9 arg10 harg10 arg11 harg11 hc0 x0 x1 x2 xs0 fh0).2.1 S48x256.size (by sl_kernel_rfl) y

/-- What case B leaves in output 4's staging buffer: its pieces read back over junk. -/
def out0_B_4 (c : Dev nD) (i : grid0.Coords) (arg1 : Memref sig .tc .smem S21x48 .f32) (harg1 : arg1.IsWhole) (arg3 : Memref sig .tc .vmem S1x6144 .f32) (harg3 : arg3.IsWhole) (arg4 : Memref sig .tc .vmem S256x6144 .f32) (harg4 : arg4.IsWhole) (arg5 : Memref sig .tc .vmem S256x6144 .fp8e4m3) (harg5 : arg5.IsWhole) (arg6 : Memref sig .tc .vmem S48x256 .f32) (harg6 : arg6.IsWhole) (arg7 : Memref sig .tc .vmem S2624x256 .bf16) (harg7 : arg7.IsWhole) (arg8 : Memref sig .tc .vmem S2624x6144 .bf16) (harg8 : arg8.IsWhole) (arg9 : Memref sig .tc .vmem S5248x512 .fp8e4m3) (harg9 : arg9.IsWhole) (arg10 : Memref sig .tc .vmem S256x6144 .bf16) (harg10 : arg10.IsWhole) (arg11 : Memref sig .tc .vmem S256x128 .f32) (harg11 : arg11.IsWhole) (hc0 : ¬cond0_0 i)
    (x0 : Vec F S21x48 .f32) (x1 : Vec F S1x6144 .f32) (x2 : Vec F S256x6144 .f32) (xs0 : Vec F S2624x6144 .bf16) (fh0 : HbBuf0 (F := F) c hbM0_0) : Vec F S48x256 .f32 :=
  VO0_4.read (Elt F) (VO0_4.writes (Elt F) VO0_4.junk (kernelRun0_B c i arg1 harg1 arg3 harg3 arg4 harg4 arg5 harg5 arg6 harg6 arg7 harg7 arg8 harg8 arg9 harg9 arg10 harg10 arg11 harg11 hc0 x0 x1 x2 xs0 fh0).2.1)

/-- Case B's pieces for output 5 tile its block (4 stores of `S656x256`, checked by the kernel's evaluation: Lib/Ring.lean `Piece.tiledL`, linear in the pieces, through a loop's `@[irreducible]` trip theorem too), so they cover it. -/
theorem cover0_B_5 (c : Dev nD) (i : grid0.Coords) (arg1 : Memref sig .tc .smem S21x48 .f32) (harg1 : arg1.IsWhole) (arg3 : Memref sig .tc .vmem S1x6144 .f32) (harg3 : arg3.IsWhole) (arg4 : Memref sig .tc .vmem S256x6144 .f32) (harg4 : arg4.IsWhole) (arg5 : Memref sig .tc .vmem S256x6144 .fp8e4m3) (harg5 : arg5.IsWhole) (arg6 : Memref sig .tc .vmem S48x256 .f32) (harg6 : arg6.IsWhole) (arg7 : Memref sig .tc .vmem S2624x256 .bf16) (harg7 : arg7.IsWhole) (arg8 : Memref sig .tc .vmem S2624x6144 .bf16) (harg8 : arg8.IsWhole) (arg9 : Memref sig .tc .vmem S5248x512 .fp8e4m3) (harg9 : arg9.IsWhole) (arg10 : Memref sig .tc .vmem S256x6144 .bf16) (harg10 : arg10.IsWhole) (arg11 : Memref sig .tc .vmem S256x128 .f32) (harg11 : arg11.IsWhole) (hc0 : ¬cond0_0 i)
    (x0 : Vec F S21x48 .f32) (x1 : Vec F S1x6144 .f32) (x2 : Vec F S256x6144 .f32) (xs0 : Vec F S2624x6144 .bf16) (fh0 : HbBuf0 (F := F) c hbM0_0) (y : S2624x256.Idx) :
    ∃ pc ∈ (kernelRun0_B c i arg1 harg1 arg3 harg3 arg4 harg4 arg5 harg5 arg6 harg6 arg7 harg7 arg8 harg8 arg9 harg9 arg10 harg10 arg11 harg11 hc0 x0 x1 x2 xs0 fh0).2.2.1, y ∈ pc.1.set :=
  View.cover_of_tiledL (kernelRun0_B c i arg1 harg1 arg3 harg3 arg4 harg4 arg5 harg5 arg6 harg6 arg7 harg7 arg8 harg8 arg9 harg9 arg10 harg10 arg11 harg11 hc0 x0 x1 x2 xs0 fh0).2.2.1 S656x256.size (by sl_kernel_rfl) y

/-- What case B leaves in output 5's staging buffer: its pieces read back over junk. -/
def out0_B_5 (c : Dev nD) (i : grid0.Coords) (arg1 : Memref sig .tc .smem S21x48 .f32) (harg1 : arg1.IsWhole) (arg3 : Memref sig .tc .vmem S1x6144 .f32) (harg3 : arg3.IsWhole) (arg4 : Memref sig .tc .vmem S256x6144 .f32) (harg4 : arg4.IsWhole) (arg5 : Memref sig .tc .vmem S256x6144 .fp8e4m3) (harg5 : arg5.IsWhole) (arg6 : Memref sig .tc .vmem S48x256 .f32) (harg6 : arg6.IsWhole) (arg7 : Memref sig .tc .vmem S2624x256 .bf16) (harg7 : arg7.IsWhole) (arg8 : Memref sig .tc .vmem S2624x6144 .bf16) (harg8 : arg8.IsWhole) (arg9 : Memref sig .tc .vmem S5248x512 .fp8e4m3) (harg9 : arg9.IsWhole) (arg10 : Memref sig .tc .vmem S256x6144 .bf16) (harg10 : arg10.IsWhole) (arg11 : Memref sig .tc .vmem S256x128 .f32) (harg11 : arg11.IsWhole) (hc0 : ¬cond0_0 i)
    (x0 : Vec F S21x48 .f32) (x1 : Vec F S1x6144 .f32) (x2 : Vec F S256x6144 .f32) (xs0 : Vec F S2624x6144 .bf16) (fh0 : HbBuf0 (F := F) c hbM0_0) : Vec F S2624x256 .bf16 :=
  VO0_5.read (Elt F) (VO0_5.writes (Elt F) VO0_5.junk (kernelRun0_B c i arg1 harg1 arg3 harg3 arg4 harg4 arg5 harg5 arg6 harg6 arg7 harg7 arg8 harg8 arg9 harg9 arg10 harg10 arg11 harg11 hc0 x0 x1 x2 xs0 fh0).2.2.1)

/-- Case B stores nothing into scratch `arg8`: it holds what the point before left. -/
def sout0_B_0 (c : Dev nD) (i : grid0.Coords) (arg1 : Memref sig .tc .smem S21x48 .f32) (harg1 : arg1.IsWhole) (arg3 : Memref sig .tc .vmem S1x6144 .f32) (harg3 : arg3.IsWhole) (arg4 : Memref sig .tc .vmem S256x6144 .f32) (harg4 : arg4.IsWhole) (arg5 : Memref sig .tc .vmem S256x6144 .fp8e4m3) (harg5 : arg5.IsWhole) (arg6 : Memref sig .tc .vmem S48x256 .f32) (harg6 : arg6.IsWhole) (arg7 : Memref sig .tc .vmem S2624x256 .bf16) (harg7 : arg7.IsWhole) (arg8 : Memref sig .tc .vmem S2624x6144 .bf16) (harg8 : arg8.IsWhole) (arg9 : Memref sig .tc .vmem S5248x512 .fp8e4m3) (harg9 : arg9.IsWhole) (arg10 : Memref sig .tc .vmem S256x6144 .bf16) (harg10 : arg10.IsWhole) (arg11 : Memref sig .tc .vmem S256x128 .f32) (harg11 : arg11.IsWhole) (hc0 : ¬cond0_0 i)
    (x0 : Vec F S21x48 .f32) (x1 : Vec F S1x6144 .f32) (x2 : Vec F S256x6144 .f32) (xs0 : Vec F S2624x6144 .bf16) (fh0 : HbBuf0 (F := F) c hbM0_0) : Vec F S2624x6144 .bf16 := xs0

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S256x6144 .fp8e4m3 × Vec F S48x256 .f32 × Vec F S2624x256 .bf16 × Vec F S2624x6144 .bf16
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (iblk m c 0 ⟨0, hn⟩) (iblk m c 1 ⟨0, hn⟩) (iblk m c 2 ⟨0, hn⟩) (V m c main_arg1), out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (iblk m c 0 ⟨0, hn⟩) (iblk m c 1 ⟨0, hn⟩) (iblk m c 2 ⟨0, hn⟩) (V m c main_arg1), out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (iblk m c 0 ⟨0, hn⟩) (iblk m c 1 ⟨0, hn⟩) (iblk m c 2 ⟨0, hn⟩) (V m c main_arg1), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (iblk m c 0 ⟨0, hn⟩) (iblk m c 1 ⟨0, hn⟩) (iblk m c 2 ⟨0, hn⟩) (V m c main_arg1))
  | n + 1, hn =>
    if h0 : (n + 1) % 12 = 0 then
      (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (iblk m c 0 ⟨n + 1, hn⟩) (iblk m c 1 ⟨n + 1, hn⟩) (iblk m c 2 ⟨n + 1, hn⟩) (V m c main_arg1), out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (iblk m c 0 ⟨n + 1, hn⟩) (iblk m c 1 ⟨n + 1, hn⟩) (iblk m c 2 ⟨n + 1, hn⟩) (V m c main_arg1), out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (iblk m c 0 ⟨n + 1, hn⟩) (iblk m c 1 ⟨n + 1, hn⟩) (iblk m c 2 ⟨n + 1, hn⟩) (V m c main_arg1), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (iblk m c 0 ⟨n + 1, hn⟩) (iblk m c 1 ⟨n + 1, hn⟩) (iblk m c 2 ⟨n + 1, hn⟩) (V m c main_arg1))
    else
      (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn)).2.2.2 (V m c main_arg1), out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn)).2.2.2 (V m c main_arg1), out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn)).2.2.2 (V m c main_arg1), sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn)).2.2.2 (V m c main_arg1))

/-- `outsAt0` at a point of case A: that case's contents. -/
theorem outsAt0_A (c : Dev nD) (t : Fin cfg0.N) (h0 : t.val % 12 = 0) :
    outsAt0 m c t.val t.isLt = (out0_A_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (V m c main_arg1), out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (V m c main_arg1), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (V m c main_arg1), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (V m c main_arg1)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 12 = 0) :
    outsAt0 m c t.val t.isLt = (out0_B_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (outsAt0 m c (t.val - 1) (Nat.lt_of_le_of_lt (Nat.sub_le _ _) t.isLt)).2.2.2 (V m c main_arg1), out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (outsAt0 m c (t.val - 1) (Nat.lt_of_le_of_lt (Nat.sub_le _ _) t.isLt)).2.2.2 (V m c main_arg1), out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (outsAt0 m c (t.val - 1) (Nat.lt_of_le_of_lt (Nat.sub_le _ _) t.isLt)).2.2.2 (V m c main_arg1), sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (outsAt0 m c (t.val - 1) (Nat.lt_of_le_of_lt (Nat.sub_le _ _) t.isLt)).2.2.2 (V m c main_arg1)) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    launch's invariant (Lib/Pipeline/Frame.lean `ΦD`: every scratch at anything, the own cells at zero, the HBM operands, the generator register); afterwards the same with each carried
    scratch at what the point before left in it (`outsAt0`'s scratch components), the others at anything. -/
def PhiS (c : Dev nD) : (n : ℕ) → n ≤ cfg0.N → sProp 𝕄
  | 0, _ => Pipeline.ΦD osem0 spec0 H0 (V m) c
  | n + 1, hn => iprop(iprop(owns (c : Thread nD τ) scM0_0 fullShare ((outsAt0 m c n hn).2.2.2) ∗ (∃ d, owns (c : Thread nD τ) scM0_1 fullShare d) ∗ (∃ d, owns (c : Thread nD τ) scM0_2 fullShare d) ∗ (∃ d, owns (c : Thread nD τ) scM0_3 fullShare d)) ∗ (∃ r, prngReg c r) ∗ iprop(semVal ((c : Thread nD τ), SemLoc.dma 10) 0 ∗ semVal ((c : Thread nD τ), SemLoc.dma 11) 0) ∗ iprop(hbPt0 c hbM0_0 (V m c main_arg1)))

theorem PhiS_zero (c : Dev nD) (n : ℕ) (h : n ≤ cfg0.N) (hz : n = 0) : PhiS m c n h = Pipeline.ΦD osem0 spec0 H0 (V m) c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2) ∗ (∃ d, owns (c : Thread nD τ) scM0_1 fullShare d) ∗ (∃ d, owns (c : Thread nD τ) scM0_2 fullShare d) ∗ (∃ d, owns (c : Thread nD τ) scM0_3 fullShare d)) ∗ (∃ r, prngReg c r) ∗ iprop(semVal ((c : Thread nD τ), SemLoc.dma 10) 0 ∗ semVal ((c : Thread nD τ), SemLoc.dma 11) 0) ∗ iprop(hbPt0 c hbM0_0 (V m c main_arg1))) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2) ∗ (∃ d, owns (c : Thread nD τ) scM0_1 fullShare d) ∗ (∃ d, owns (c : Thread nD τ) scM0_2 fullShare d) ∗ (∃ d, owns (c : Thread nD τ) scM0_3 fullShare d)) ∗ (∃ r, prngReg c r) ∗ iprop(semVal ((c : Thread nD τ), SemLoc.dma 10) 0 ∗ semVal ((c : Thread nD τ), SemLoc.dma 11) 0) ∗ iprop(hbPt0 c hbM0_0 (V m c main_arg1))) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant
    (Lib/Pipeline/Frame.lean `ΦD`: the scoped rest, the generator register, the own cells at zero, the HBM operands at
    their launch contents); nothing owed; full shares. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
    | ⟨4, _⟩ => (outsAt0 m c t.val t.isLt).2.1
    | ⟨5, _⟩ => (outsAt0 m c t.val t.isLt).2.2.1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]
theorem after0_4 (c : Dev nD) (t : Fin cfg0.N) : (dats m 0 c).after 4 t = (outsAt0 m c t.val t.isLt).2.1 := by dsimp only [dats]
theorem after0_5 (c : Dev nD) (t : Fin cfg0.N) : (dats m 0 c).after 5 t = (outsAt0 m c t.val t.isLt).2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

set_option maxHeartbeats 8000000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`, the rest of `ΦD` opened by `PhiD0_eq`), the other scratch at anything, the register, its DMA cells at zero and the HBM operands, and takes the carried scratch back at this point's contents (`PhiS_succ`, by `scoverK_κ_N`), the cells and operands as they were; the core's `owes` goes in at whatever the points before recorded and comes back with this point's waits, within the next point's bound (everything). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = PhiS m c (t.val + 1) t.isLt from rfl, PhiS_succ,
    after0_0, after0_1, after0_2, after0_3, after0_4, after0_5]
  unfold Dat.owesAt Pipeline.owesWithin
  rw [show (dats m 0 c).owed t.castSucc = 0 from rfl, show (dats m 0 c).owed t.succ = 0 from rfl]
  have hN : t.val < 12 := lt_of_lt_of_eq t.isLt (show cfg0.N = 12 from N_0)
  by_cases h0 : t.val % 12 = 0
  · by_cases hz : t.val = 0
    · rw [PhiS_castSucc m c t, PhiS_zero m c _ _ hz, PhiD0_eq]
      rw [outsAt0_A m c t h0]
      unfold out0_A_3 out0_A_4 out0_A_5 sout0_A_0; (try dsimp only)
      iintro ⟨⟨⟨HS0, HS1, HS2, HS3⟩, Hg, ⟨Hq0, Hq1⟩, Hh0⟩, ⟨%W, -, HW⟩, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ _ _ _ _ _ _ ((hcond0_0 t).mpr h0) (iblk m c 0 t) (iblk m c 1 t) (iblk m c 2 t) (V m c main_arg1)).2.2.2.2.2 W _)
      isplitl [H0]; · iexact H0
      isplitl [H1]; · iexact H1
      isplitl [H2]; · iexact H2
      isplitl [H3]; · iexists _; iexact H3
      isplitl [H4]; · iexists _; iexact H4
      isplitl [H5]; · iexists _; iexact H5
      isplitl [HS0]; · iexact HS0
      isplitl [HS1]; · iexact HS1
      isplitl [HS2]; · iexact HS2
      isplitl [HS3]; · iexact HS3
      isplitl [Hq0]; · iexact Hq0
      isplitl [Hq1]; · iexact Hq1
      isplitl [Hh0]; · iexact Hh0
      isplitl [HW]; · iexact HW
      iintro ⟨H0, H1, H2, ⟨%e3, H3⟩, ⟨%e4, H4⟩, ⟨%e5, H5⟩, ⟨%es0, HS0⟩, ⟨%fT1, HS1⟩, HS2, HS3, Hq0, Hq1, Hh0, ⟨%W', HW'⟩⟩
      isplitl [HS0 HS1 HS2 HS3 Hg Hq0 Hq1 Hh0]
      · isplitl [HS0 HS1 HS2 HS3]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _)
          isplitl [HS1]
          · iexists _; unfold owns; iexists _; isplitr
            swap; · iexact HS1
            ipureintro; rfl
          isplitl [HS2]; · iexact HS2
          iexact HS3
        isplitl [Hg]
        · iexact Hg
        isplitl [Hq0 Hq1]
        · isplitl [Hq0]; · iexact Hq0
          iexact Hq1
        iexact Hh0
      isplitl [HW']
      · iexists W'; isplitr; · ipureintro; exact fun _ _ => Or.inl trivial
        iexact HW'
      isplitl [H0]; · iexact H0
      isplitl [H1]; · iexact H1
      isplitl [H2]; · iexact H2
      isplitl [H3]
      · unfold owns; iexists _; isplitr
        swap; · iexact H3
        ipureintro; exact View.read_writes_of_cover _ _ _ _ _ (cover0_A_3 c _ _ _ _ _ _ _ _ _ _ _ _ _ _ _ _ _ _ _ _ _ _ _ _ _ _)
      isplitl [H4]
      · unfold owns; iexists _; isplitr
        swap; · iexact H4
        ipureintro; exact View.read_writes_of_cover _ _ _ _ _ (cover0_A_4 c _ _ _ _ _ _ _ _ _ _ _ _ _ _ _ _ _ _ _ _ _ _ _ _ _ _)
      unfold owns; iexists _; isplitr
      swap; · iexact H5
      ipureintro; exact View.read_writes_of_cover _ _ _ _ _ (cover0_A_5 c _ _ _ _ _ _ _ _ _ _ _ _ _ _ _ _ _ _ _ _ _ _ _ _ _ _)
    · exfalso; have hN : t.val < 12 := lt_of_lt_of_eq t.isLt (show cfg0.N = 12 from N_0); omega
  · by_cases hz : t.val = 0
    · exfalso; have hN : t.val < 12 := lt_of_lt_of_eq t.isLt (show cfg0.N = 12 from N_0); omega
    · rw [PhiS_castSucc m c t, PhiS_pos m c _ _ hz]
      rw [outsAt0_B m c t h0]
      unfold out0_B_3 out0_B_4 out0_B_5 sout0_B_0; (try dsimp only)
      iintro ⟨⟨⟨HS0, HS1, HS2, HS3⟩, Hg, ⟨Hq0, Hq1⟩, Hh0⟩, ⟨%W, -, HW⟩, ⟨%d0, H0⟩, ⟨%d1, H1⟩, ⟨%d2, H2⟩, ⟨%d3, H3⟩, ⟨%d4, H4⟩, ⟨%d5, H5⟩⟩
      iapply ((kernelRun0_B c (grid0.coords t) _ _ _ _ _ _ _ _ _ _ _ _ _ _ _ _ _ _ _ _ (fun h => h0 ((hcond0_0 t).mp h)) (iblk m c 0 t) (iblk m c 1 t) (iblk m c 2 t) _ (V m c main_arg1)).2.2.2.2.2 W _)
      isplitl [H0]; · iexact H0
      isplitl [H1]; · iexact H1
      isplitl [H2]; · iexact H2
      isplitl [H3]; · iexists _; iexact H3
      isplitl [H4]; · iexists _; iexact H4
      isplitl [H5]; · iexists _; iexact H5
      isplitl [HS0]; · iexact HS0
      isplitl [HS1]; · iexact HS1
      isplitl [HS2]; · iexact HS2
      isplitl [HS3]; · iexact HS3
      isplitl [Hq0]; · iexact Hq0
      isplitl [Hq1]; · iexact Hq1
      isplitl [Hh0]; · iexact Hh0
      isplitl [HW]; · iexact HW
      iintro ⟨H0, H1, H2, ⟨%e3, H3⟩, ⟨%e4, H4⟩, ⟨%e5, H5⟩, HS0, HS1, HS2, HS3, Hq0, Hq1, Hh0, ⟨%W', HW'⟩⟩
      isplitl [HS0 HS1 HS2 HS3 Hg Hq0 Hq1 Hh0]
      · isplitl [HS0 HS1 HS2 HS3]
        · isplitl [HS0]; · iexact HS0
          isplitl [HS1]; · iexact HS1
          isplitl [HS2]; · iexact HS2
          iexact HS3
        isplitl [Hg]
        · iexact Hg
        isplitl [Hq0 Hq1]
        · isplitl [Hq0]; · iexact Hq0
          iexact Hq1
        iexact Hh0
      isplitl [HW']
      · iexists W'; isplitr; · ipureintro; exact fun _ _ => Or.inl trivial
        iexact HW'
      isplitl [H0]; · iexact H0
      isplitl [H1]; · iexact H1
      isplitl [H2]; · iexact H2
      isplitl [H3]
      · unfold owns; iexists _; isplitr
        swap; · iexact H3
        ipureintro; exact View.read_writes_of_cover _ _ _ _ _ (cover0_B_3 c _ _ _ _ _ _ _ _ _ _ _ _ _ _ _ _ _ _ _ _ _ _ _ _ _ _ _)
      isplitl [H4]
      · unfold owns; iexists _; isplitr
        swap; · iexact H4
        ipureintro; exact View.read_writes_of_cover _ _ _ _ _ (cover0_B_4 c _ _ _ _ _ _ _ _ _ _ _ _ _ _ _ _ _ _ _ _ _ _ _ _ _ _ _)
      unfold owns; iexists _; isplitr
      swap; · iexact H5
      ipureintro; exact View.read_writes_of_cover _ _ _ _ _ (cover0_B_5 c _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦD`) is the invariant before the first point. -/
theorem hin (c : Dev nD) : Pipeline.ΦD osem0 spec0 H0 (V m) c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦD` back: the carried scratch's named contents are forgotten. -/
theorem Phi_out (c : Dev nD) (t : Fin (cfg0.N + 1)) (ht : t.val ≠ 0) : (dats m 0 c).Φ t ⊢ Pipeline.ΦD osem0 spec0 H0 (V m) c := by
  rw [show (dats m 0 c).Φ t = PhiS m c t.val (Nat.le_of_lt_succ t.isLt) from rfl, PhiS_pos m c _ _ ht, PhiD0_eq]
  iintro ⟨⟨HS0, HS1, HS2, HS3⟩, Hg, ⟨Hq0, Hq1⟩, Hh0⟩
  isplitl [HS0 HS1 HS2 HS3]
  · isplitl [HS0]
    · iexists _; iexact HS0
    isplitl [HS1]
    · iexact HS1
    isplitl [HS2]
    · iexact HS2
    iexact HS3
  isplitl [Hg]; · iexact Hg
  isplitl [Hq0 Hq1]
  · isplitl [Hq0]; · iexact Hq0
    iexact Hq1
  iexact Hh0

/-- The same after the last point. -/
theorem hout (c : Dev nD) : (dats m 0 c).Φ (Fin.last cfg0.N) ⊢ Pipeline.ΦD osem0 spec0 H0 (V m) c :=
  Phi_out m c _ (by rw [Fin.val_last]; have : cfg0.N = 12 := N_0; omega)

/-! ## The run and the frame -/

-- `θ_run_frame_dma`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- THE FRAME: `Cert.quiescent_Proj`'s statement (Defs.lean) at any `F` — Proof.lean cites it at `Bits`:
    `theorem Cert.Proof.claim : Cert.Claim := ⟨Cert.Proj.Gen.facts, fun m ρ _ => Cert.FloatRun.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.FloatRun

end
-- ==== Proof.ProjRuns.lean ====
/- The projecting call's whole-body runs with every output NAMED. The certificate generated for this call forgets what
   the outputs hold, because one loop of the body reads a scratch that the loop before it filled. These modules restate that
   certificate (same statements, same proofs) and take the one step by hand: between the two loops the scratch is shown to be
   covered by the first loop's stores, so that what it held before is not part of what the second loop reads.
   This module: what the runs share (names of the windows' blocks, the conditions of the cases). -/
module

public import proofs.«01_k».proof.Proof.Gen.ProjIdeal.Launch
public import proofs.«01_k».proof.Proof.Gen.ProjIdeal.Skeleton
public import proofs.«01_k».proof.Proof.Gen.ProjIdeal.Loops
public import proofs.«01_k».proof.Proof.Gen.ProjIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.ProjRun

open Cert.ProjIdeal Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_ProjIdeal`, Defs.lean, at any `F`). -/
theorem frame_of (dats : (p : Fin 1) → (c : Dev nD) → Dat τ (Elt F) Unit ℕ (Pipeline.UD sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).1 1).trans (((dats 0 c).arrAt_in 1 rfl _).trans ((hA c 1).trans (V_main_arg2 m c))),
      ((h c).1 2).trans (((dats 0 c).arrAt_in 2 rfl _).trans ((hA c 2).trans (V_main_arg3 m c)))⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 12 = 0 :=
  (fun t => by
    have ht : t.val < 12 := Nat.lt_of_lt_of_eq t.isLt N_0
    have e0 : (grid0.coords t 0).val = t.val / 1 % 12 := Pipeline.Grid.coords_val t 0 (by decide) rfl
    simp only [cond0_0, e0]
    word_cmp
   : ∀ t : Fin grid0.N, cond0_0 (grid0.coords t) ↔ t.val % 12 = 0)

/-! ## The kernel body on any staging memrefs: a subtype the run finds -/

/-- One staging buffer of output window 3, through which its contents are stated (`View.read_writes_of_cover`: the
    choice does not matter). -/
abbrev VO0_3 : View sig .tc .vmem S256x6144 .fp8e4m3 := (Memref.whole cc0_stg3_0 : Memref sig .tc .vmem S256x6144 .fp8e4m3).view
/-- One staging buffer of output window 4, through which its contents are stated (`View.read_writes_of_cover`: the
    choice does not matter). -/
abbrev VO0_4 : View sig .tc .vmem S48x256 .f32 := (Memref.whole cc0_stg4_0 : Memref sig .tc .vmem S48x256 .f32).view
/-- One staging buffer of output window 5, through which its contents are stated (`View.read_writes_of_cover`: the
    choice does not matter). -/
abbrev VO0_5 : View sig .tc .vmem S2624x256 .bf16 := (Memref.whole cc0_stg5_0 : Memref sig .tc .vmem S2624x256 .bf16).view
/-- Each window's current staging memref at point `t`, spelled as the pipeline passes it (`bodyAt0`), and its wholeness. -/
abbrev ms0_0 (t : Fin cfg0.N) : Memref sig .tc .smem S21x48 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x6144 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x6144 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x6144 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S48x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2624x256 .bf16 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S2624x6144 .bf16 := Memref.whole cc0_scratch0
abbrev scM0_1 : Memref sig .tc .vmem S5248x512 .fp8e4m3 := Memref.whole cc0_scratch1
abbrev scM0_2 : Memref sig .tc .vmem S256x6144 .bf16 := Memref.whole cc0_scratch2
abbrev scM0_3 : Memref sig .tc .vmem S256x128 .f32 := Memref.whole cc0_scratch3
/-- The scratch `arg8` the kernel carries between points, as a view: what it holds is stated through it. -/
abbrev VS0_0 : View sig .tc .vmem S2624x6144 .bf16 := scM0_0.view
/-- The operands left in HBM that the body copies into scratch itself, whole. -/
abbrev hbM0_0 : Memref sig .tc .hbm S2624x6144 .fp8e4m3 := Memref.whole main_arg1
/-- Memref `M`'s buffer on core `c`: its contents type, and it held whole at `f` — behind this abbreviation, so that the
    run's rewriting of the goal leaves `Memref.view` intact (the form the executor reads a held buffer in). -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA semaphores, cell by cell (their numbers in the pool): the kernel's own semaphores for the launch
    (`Pipeline.OwnSemFacts`: none is a window's). -/
abbrev osem0 : Fin 2 → SemLoc sig := fun j => (![SemLoc.dma 10, SemLoc.dma 11] : Fin 2 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 10) 0 ∗ semVal ((c : Thread nD τ), SemLoc.dma 11) 0) := by
  rw [Pipeline.ownSems0_eq_of_list c osem0 [0, 1] (by decide) (by decide)]; rfl
/-- The HBM operands the body moves, as references: unscoped, no window's array (`Pipeline.restRefs`). -/
def H0 : Finset (Ref sig .tc) := {main_arg1}
theorem H0_sub : H0 ⊆ Pipeline.restRefs sig spec0 := by decide
/-- Their points-tos at the launch contents, listed. -/
theorem hbmPts0_eq (c : Dev nD) :
    (bigSep H0 (fun b => ((c : Thread nD τ).loc b) ↦{fullShare} V m c b) : sProp 𝕄) = iprop(hbPt0 c hbM0_0 (V m c main_arg1)) := by
  rw [BI.bigSep_eq_bigSepL_of_eq [main_arg1] (by decide) (by decide)]; rfl

/-- The invariant of a body with transfers of its own, `Pipeline.ΦD`, conjunct by conjunct: the scratch operands owned at
    some contents, the generator register at some state, the own cells at zero, the HBM operands at their launch
    contents — what the body obligation hands the run and takes back. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r) ∗ iprop(semVal ((c : Thread nD τ), SemLoc.dma 10) 0 ∗ semVal ((c : Thread nD τ), SemLoc.dma 11) 0) ∗ iprop(hbPt0 c hbM0_0 (V m c main_arg1))) := by
  rw [Pipeline.ΦD_eq, scopedRest0_eq, ownSems00_eq, hbmPts0_eq]; simp only [scM0_0, scM0_1, scM0_2, scM0_3, owns_whole]; try rfl

end Cert.ProjRun

end
-- ==== Proof.ProjRun.lean ====
/- The step between the projecting call's two loops: the scratch of dequantised activations is covered by the
   quantising loop's stores. -/
module

public import proofs.«01_k».proof.Proof.ProjRuns

@[expose] public section

-- membership in a rectangle of production extents (`View.cover_of_tiled`): the elaborator's structural look
-- recurses once per coordinate of the long axes
set_option maxRecDepth 16384

noncomputable section

namespace Cert.ProjRun

open Cert.ProjIdeal Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- A whole buffer after listed writes that reach every element of it holds those writes over an arbitrary content:
    nothing of what it held before is left. -/
theorem writes_eq_junk {κ : Kind} {sp : Space} {s : Shape} {e : EltTy} {b : Memref sig κ sp s e} (hw : b.IsWhole)
    (f : b.view.ty.Contents (Elt F)) (L : List (View.Piece (Elt F) s e)) (hc : ∀ y, ∃ p ∈ L, y ∈ p.1.set) :
    b.view.writes (Elt F) f L = b.view.writes (Elt F) b.view.junk L := by
  obtain ⟨b, rfl, rfl, rfl, h⟩ := hw; cases h
  funext y
  exact View.read_writes_apply_eq (View.whole b) f (View.whole b) (View.whole b).junk y L (hc y)

/-- The quantising loop's trips fill the scratch of dequantised activations whole. -/
theorem dequantised_cover (𝒱 : Variants) (c : Dev nD) (bd : Option 𝒱.V) (i : grid0.Coords) (arg1 : Memref sig .tc .smem S21x48 .f32) (harg1 : arg1.IsWhole) (arg2 : Memref sig .tc .hbm S2624x6144 .fp8e4m3) (harg2 : arg2.IsWhole) (arg3 : Memref sig .tc .vmem S1x6144 .f32) (harg3 : arg3.IsWhole) (arg4 : Memref sig .tc .vmem S256x6144 .f32) (harg4 : arg4.IsWhole) (arg5 : Memref sig .tc .vmem S256x6144 .fp8e4m3) (harg5 : arg5.IsWhole) (arg6 : Memref sig .tc .vmem S48x256 .f32) (harg6 : arg6.IsWhole) (arg7 : Memref sig .tc .vmem S2624x256 .bf16) (harg7 : arg7.IsWhole) (arg8 : Memref sig .tc .vmem S2624x6144 .bf16) (harg8 : arg8.IsWhole) (arg9 : Memref sig .tc .vmem S5248x512 .fp8e4m3) (harg9 : arg9.IsWhole) (arg10 : Memref sig .tc .vmem S256x6144 .bf16) (harg10 : arg10.IsWhole) (arg11 : Memref sig .tc .vmem S256x128 .f32) (harg11 : arg11.IsWhole) (arg12 : DmaSems sig S2) (X_arg3 : BufTy.Contents (Elt F) arg3.view.ty) (X_arg4 : BufTy.Contents (Elt F) arg4.view.ty) :
    ∀ y, ∃ p ∈ (pb_k0_t1 (F := F) 𝒱 c bd i arg1 harg1 arg2 harg2 arg3 harg3 arg4 harg4 arg5 harg5 arg6 harg6 arg7 harg7 arg8 harg8 arg9 harg9 arg10 harg10 arg11 harg11 arg12 X_arg3 X_arg4 (Scf.trips k0_t1_loop.lb k0_t1_loop.ub k0_t1_loop.st)).2.1, y ∈ p.1.set :=
  View.cover_of_tiledL (pb_k0_t1 (F := F) 𝒱 c bd i arg1 harg1 arg2 harg2 arg3 harg3 arg4 harg4 arg5 harg5 arg6 harg6 arg7 harg7 arg8 harg8 arg9 harg9 arg10 harg10 arg11 harg11 arg12 X_arg3 X_arg4 (Scf.trips k0_t1_loop.lb k0_t1_loop.ub k0_t1_loop.st)).2.1 S32x128.size (by sl_kernel_rfl)

/-- After the quantising loop the scratch of dequantised activations holds the loop's writes over an arbitrary
    content. -/
theorem dequantised_writes (𝒱 : Variants) (c : Dev nD) (bd : Option 𝒱.V) (i : grid0.Coords) (arg1 : Memref sig .tc .smem S21x48 .f32) (harg1 : arg1.IsWhole) (arg2 : Memref sig .tc .hbm S2624x6144 .fp8e4m3) (harg2 : arg2.IsWhole) (arg3 : Memref sig .tc .vmem S1x6144 .f32) (harg3 : arg3.IsWhole) (arg4 : Memref sig .tc .vmem S256x6144 .f32) (harg4 : arg4.IsWhole) (arg5 : Memref sig .tc .vmem S256x6144 .fp8e4m3) (harg5 : arg5.IsWhole) (arg6 : Memref sig .tc .vmem S48x256 .f32) (harg6 : arg6.IsWhole) (arg7 : Memref sig .tc .vmem S2624x256 .bf16) (harg7 : arg7.IsWhole) (arg8 : Memref sig .tc .vmem S2624x6144 .bf16) (harg8 : arg8.IsWhole) (arg9 : Memref sig .tc .vmem S5248x512 .fp8e4m3) (harg9 : arg9.IsWhole) (arg10 : Memref sig .tc .vmem S256x6144 .bf16) (harg10 : arg10.IsWhole) (arg11 : Memref sig .tc .vmem S256x128 .f32) (harg11 : arg11.IsWhole) (arg12 : DmaSems sig S2) (X_arg3 : BufTy.Contents (Elt F) arg3.view.ty) (X_arg4 : BufTy.Contents (Elt F) arg4.view.ty) (f : BufTy.Contents (Elt F) arg10.view.ty) :
    arg10.view.writes (Elt F) f (pb_k0_t1 (F := F) 𝒱 c bd i arg1 harg1 arg2 harg2 arg3 harg3 arg4 harg4 arg5 harg5 arg6 harg6 arg7 harg7 arg8 harg8 arg9 harg9 arg10 harg10 arg11 harg11 arg12 X_arg3 X_arg4 (Scf.trips k0_t1_loop.lb k0_t1_loop.ub k0_t1_loop.st)).2.1
      = arg10.view.writes (Elt F) arg10.view.junk (pb_k0_t1 (F := F) 𝒱 c bd i arg1 harg1 arg2 harg2 arg3 harg3 arg4 harg4 arg5 harg5 arg6 harg6 arg7 harg7 arg8 harg8 arg9 harg9 arg10 harg10 arg11 harg11 arg12 X_arg3 X_arg4 (Scf.trips k0_t1_loop.lb k0_t1_loop.ub k0_t1_loop.st)).2.1 :=
  writes_eq_junk harg10 f _ (dequantised_cover 𝒱 c bd i arg1 harg1 arg2 harg2 arg3 harg3 arg4 harg4 arg5 harg5 arg6 harg6 arg7 harg7 arg8 harg8 arg9 harg9 arg10 harg10 arg11 harg11 arg12 X_arg3 X_arg4)

end Cert.ProjRun

end
-- ==== Proof.ProjRunB.lean ====
/- The whole-body run of the projecting call in case B (the other points: the weights are found dequantised). -/
module

public import proofs.«01_k».proof.Proof.ProjRun

@[expose] public section

-- membership in a rectangle of production extents (`View.cover_of_tiled`): the elaborator's structural look
-- recurses once per coordinate of the long axes
set_option maxRecDepth 16384

noncomputable section

namespace Cert.ProjRun

open Cert.ProjIdeal Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

-- (the run's proof term is large: the definition's epilogue — `abstractNestedProofs` — walks it past the default budget)
set_option backward.proofsInPublic true in
set_option maxHeartbeats 1000000 in
/-- What the body's stores leave in each output's staging memref, as pieces (last first) IN CASE B (`scf.if` 0 not taken: points 1, 2, … 11: 11 of 12), WITH the
    proof that on whole staging memrefs — the inputs' at their contents, the other outputs' at
    anything, a carried scratch at the contents the point before left (`xs·`) or at anything, the other scratch at anything, the HBM operands it copies whole at their launch contents `fh·`, its DMA cells at zero and the core's `owes`, the body runs to the continuation holding the inputs' as they were,
    a carried scratch it stored into with its pieces written (`LS·`), the other scratch at some contents, the HBM operands and the cells as they were (each transfer lent the operand's block, listed the scratch's delivery and was waited for), the waits recorded in `owes`, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .smem S21x48 .f32) (harg1 : arg1.IsWhole) (arg3 : Memref sig .tc .vmem S1x6144 .f32) (harg3 : arg3.IsWhole) (arg4 : Memref sig .tc .vmem S256x6144 .f32) (harg4 : arg4.IsWhole) (arg5 : Memref sig .tc .vmem S256x6144 .fp8e4m3) (harg5 : arg5.IsWhole) (arg6 : Memref sig .tc .vmem S48x256 .f32) (harg6 : arg6.IsWhole) (arg7 : Memref sig .tc .vmem S2624x256 .bf16) (harg7 : arg7.IsWhole) (arg8 : Memref sig .tc .vmem S2624x6144 .bf16) (harg8 : arg8.IsWhole) (arg9 : Memref sig .tc .vmem S5248x512 .fp8e4m3) (harg9 : arg9.IsWhole) (arg10 : Memref sig .tc .vmem S256x6144 .bf16) (harg10 : arg10.IsWhole) (arg11 : Memref sig .tc .vmem S256x128 .f32) (harg11 : arg11.IsWhole) (hc0 : ¬cond0_0 i)
    (x0 : Vec F S21x48 .f32) (x1 : Vec F S1x6144 .f32) (x2 : Vec F S256x6144 .f32) (xs0 : Vec F S2624x6144 .bf16) (fh0 : HbBuf0 (F := F) c hbM0_0) :
    Σ' (L3 : List (View.Piece (Elt F) S256x6144 .fp8e4m3)), Σ' (L4 : List (View.Piece (Elt F) S48x256 .f32)), Σ' (L5 : List (View.Piece (Elt F) S2624x256 .bf16)), Σ' (LS0 : List (View.Piece (Elt F) S2624x6144 .bf16)), { LT1 : List (View.Piece (Elt F) S5248x512 .fp8e4m3) //
      ∀ (W : Waits sig Unit) (K : PUnit → sProp 𝕄),
        iprop(owns (c : Thread nD τ) arg1 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs0 ∗ (∃ d, owns (c : Thread nD τ) arg9 fullShare d) ∗ (∃ d, owns (c : Thread nD τ) arg10 fullShare d) ∗ (∃ d, owns (c : Thread nD τ) arg11 fullShare d) ∗ semVal ((c : Thread nD τ), SemLoc.dma 10) 0 ∗ semVal ((c : Thread nD τ), SemLoc.dma 11) 0 ∗ hbPt0 c hbM0_0 fh0 ∗ owes (c : Thread nD τ) 0 W
            ∗ (iprop(owns (c : Thread nD τ) arg1 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ owns (c : Thread nD τ) arg8 fullShare xs0 ∗ (∃ d, owns (c : Thread nD τ) arg9 fullShare d) ∗ (∃ d, owns (c : Thread nD τ) arg10 fullShare d) ∗ (∃ d, owns (c : Thread nD τ) arg11 fullShare d) ∗ semVal ((c : Thread nD τ), SemLoc.dma 10) 0 ∗ semVal ((c : Thread nD τ), SemLoc.dma 11) 0 ∗ hbPt0 c hbM0_0 fh0 ∗ (∃ W', owes (c : Thread nD τ) 0 W')) -∗ K ⟨⟩))
          ⊢ wp frame (wpE (defs₀ (F := F)) Variants.none c none) Set.univ (cc0_proj i arg1 harg1 (Memref.whole main_arg1) (Memref.isWhole_whole _) arg3 harg3 arg4 harg4 arg5 harg5 arg6 harg6 arg7 harg7 arg8 harg8 arg9 harg9 arg10 harg10 arg11 harg11 cc0_scratch4) K } := by
  refine ⟨?_, ?_, ?_, [], [], fun W K => ?run⟩
  case run =>
    simp only [cc0_proj_eq_skeleton]; unfold cc0_proj_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%fs0, %hfs0, HS0⟩, ⟨%ds1, %fs1, -, HS1⟩, ⟨%ds2, %fs2, -, HS2⟩, ⟨%ds3, %fs3, -, HS3⟩, Hq0, Hq1, Hh0, HW, Hk⟩
    obtain rfl := harg1.eq_unread hf0; obtain rfl := harg3.eq_unread hf1; obtain rfl := harg4.eq_unread hf2; obtain rfl := harg8.eq_unread hfs0
    have hrd0 : ∀ (𝒱 : Variants) (c : Dev nD) (bd : Option 𝒱.V) (i : grid0.Coords) (arg1 : Memref sig .tc .smem S21x48 .f32) (harg1 : arg1.IsWhole) (arg2 : Memref sig .tc .hbm S2624x6144 .fp8e4m3) (harg2 : arg2.IsWhole) (arg3 : Memref sig .tc .vmem S1x6144 .f32) (harg3 : arg3.IsWhole) (arg4 : Memref sig .tc .vmem S256x6144 .f32) (harg4 : arg4.IsWhole) (arg5 : Memref sig .tc .vmem S256x6144 .fp8e4m3) (harg5 : arg5.IsWhole) (arg6 : Memref sig .tc .vmem S48x256 .f32) (harg6 : arg6.IsWhole) (arg7 : Memref sig .tc .vmem S2624x256 .bf16) (harg7 : arg7.IsWhole) (arg8 : Memref sig .tc .vmem S2624x6144 .bf16) (harg8 : arg8.IsWhole) (arg9 : Memref sig .tc .vmem S5248x512 .fp8e4m3) (harg9 : arg9.IsWhole) (arg10 : Memref sig .tc .vmem S256x6144 .bf16) (harg10 : arg10.IsWhole) (arg11 : Memref sig .tc .vmem S256x128 .f32) (harg11 : arg11.IsWhole) (arg12 : DmaSems sig S2) (X_arg3 : BufTy.Contents (Elt F) arg3.view.ty) (X_arg4 : BufTy.Contents (Elt F) arg4.view.ty) (hrdF : BufTy.Contents (Elt F) arg11.view.ty) (hrdB : LoadRect S256x128), arg11.view.readAt (Elt F) hrdB (arg11.view.writes (Elt F) hrdF (pb_k0_t1 (F := F) 𝒱 c bd i arg1 harg1 arg2 harg2 arg3 harg3 arg4 harg4 arg5 harg5 arg6 harg6 arg7 harg7 arg8 harg8 arg9 harg9 arg10 harg10 arg11 harg11 arg12 X_arg3 X_arg4 (Scf.trips k0_t1_loop.lb k0_t1_loop.ub k0_t1_loop.st)).2.2) = arg11.view.readCov (pb_k0_t1 (F := F) 𝒱 c bd i arg1 harg1 arg2 harg2 arg3 harg3 arg4 harg4 arg5 harg5 arg6 harg6 arg7 harg7 arg8 harg8 arg9 harg9 arg10 harg10 arg11 harg11 arg12 X_arg3 X_arg4 (Scf.trips k0_t1_loop.lb k0_t1_loop.ub k0_t1_loop.st)).2.2 hrdB := fun 𝒱 c bd i arg1 harg1 arg2 harg2 arg3 harg3 arg4 harg4 arg5 harg5 arg6 harg6 arg7 harg7 arg8 harg8 arg9 harg9 arg10 harg10 arg11 harg11 arg12 X_arg3 X_arg4 hrdF hrdB => View.readAt_writes_of_cover _ hrdF _ hrdB (fun hrdJ => View.cover_of_tiledL (pb_k0_t1 (F := F) 𝒱 c bd i arg1 harg1 arg2 harg2 arg3 harg3 arg4 harg4 arg5 harg5 arg6 harg6 arg7 harg7 arg8 harg8 arg9 harg9 arg10 harg10 arg11 harg11 arg12 X_arg3 X_arg4 (Scf.trips k0_t1_loop.lb k0_t1_loop.ub k0_t1_loop.st)).2.2 S32x128.size (by sl_kernel_rfl) (hrdB.idx hrdJ))
    set_option sl_exec.maxSteps 5 in sl_exec (disch := first | sl_exact hc0)
    -- between the two loops: what the scratch held before the first is not part of what the second reads
    rw [dequantised_writes]
    sl_exec (disch := first | sl_exact hc0)
    sl_step
    iapply Hk
    isplitl [H0]
    · iexists _; isplitr; · ipureintro; exact harg1.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [H5]; · iexists _; iexact H5
    isplitl [HS0]
    · iexists _; isplitr; · ipureintro; exact harg8.read_unread _
      iexact HS0
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [Hq0]; · iexact Hq0
    isplitl [Hq1]; · iexact Hq1
    isplitl [Hh0]; · iexact Hh0
    iexists _; iexact HW

end Cert.ProjRun

end
-- ==== Proof.ProjRunA.lean ====
/- The whole-body run of the projecting call in case A (the first point of a core's column of points: the weights are dequantised). -/
module

public import proofs.«01_k».proof.Proof.ProjRunB

@[expose] public section

-- membership in a rectangle of production extents (`View.cover_of_tiled`): the elaborator's structural look
-- recurses once per coordinate of the long axes
set_option maxRecDepth 16384

noncomputable section

namespace Cert.ProjRun

open Cert.ProjIdeal Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

-- (the run's proof term is large: the definition's epilogue — `abstractNestedProofs` — walks it past the default budget)
set_option backward.proofsInPublic true in
set_option maxHeartbeats 23128000 in set_option sl_exec.dmaWindow true in set_option sl_exec.dmaWindowSet true in
/-- What the body's stores leave in each output's staging memref, as pieces (last first) IN CASE A (`scf.if` 0 taken: points 0), WITH the
    proof that on whole staging memrefs — the inputs' at their contents, the other outputs' at
    anything, a carried scratch at the contents the point before left (`xs·`) or at anything, the other scratch at anything, the HBM operands it copies whole at their launch contents `fh·`, its DMA cells at zero and the core's `owes`, the body runs to the continuation holding the inputs' as they were,
    a carried scratch it stored into with its pieces written (`LS·`), a scratch it stored into and does not carry with its pieces (`LT·`) written over some contents, the other scratch at some contents, the HBM operands and the cells as they were (each transfer lent the operand's block, listed the scratch's delivery and was waited for), the waits recorded in `owes`, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .smem S21x48 .f32) (harg1 : arg1.IsWhole) (arg3 : Memref sig .tc .vmem S1x6144 .f32) (harg3 : arg3.IsWhole) (arg4 : Memref sig .tc .vmem S256x6144 .f32) (harg4 : arg4.IsWhole) (arg5 : Memref sig .tc .vmem S256x6144 .fp8e4m3) (harg5 : arg5.IsWhole) (arg6 : Memref sig .tc .vmem S48x256 .f32) (harg6 : arg6.IsWhole) (arg7 : Memref sig .tc .vmem S2624x256 .bf16) (harg7 : arg7.IsWhole) (arg8 : Memref sig .tc .vmem S2624x6144 .bf16) (harg8 : arg8.IsWhole) (arg9 : Memref sig .tc .vmem S5248x512 .fp8e4m3) (harg9 : arg9.IsWhole) (arg10 : Memref sig .tc .vmem S256x6144 .bf16) (harg10 : arg10.IsWhole) (arg11 : Memref sig .tc .vmem S256x128 .f32) (harg11 : arg11.IsWhole) (hc0 : cond0_0 i)
    (x0 : Vec F S21x48 .f32) (x1 : Vec F S1x6144 .f32) (x2 : Vec F S256x6144 .f32) (fh0 : HbBuf0 (F := F) c hbM0_0) :
    Σ' (L3 : List (View.Piece (Elt F) S256x6144 .fp8e4m3)), Σ' (L4 : List (View.Piece (Elt F) S48x256 .f32)), Σ' (L5 : List (View.Piece (Elt F) S2624x256 .bf16)), Σ' (LS0 : List (View.Piece (Elt F) S2624x6144 .bf16)), { LT1 : List (View.Piece (Elt F) S5248x512 .fp8e4m3) //
      ∀ (W : Waits sig Unit) (K : PUnit → sProp 𝕄),
        iprop(owns (c : Thread nD τ) arg1 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ semVal ((c : Thread nD τ), SemLoc.dma 10) 0 ∗ semVal ((c : Thread nD τ), SemLoc.dma 11) 0 ∗ hbPt0 c hbM0_0 fh0 ∗ owes (c : Thread nD τ) 0 W
            ∗ (iprop(owns (c : Thread nD τ) arg1 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LT1) ∗ (∃ d, owns (c : Thread nD τ) arg10 fullShare d) ∗ (∃ d, owns (c : Thread nD τ) arg11 fullShare d) ∗ semVal ((c : Thread nD τ), SemLoc.dma 10) 0 ∗ semVal ((c : Thread nD τ), SemLoc.dma 11) 0 ∗ hbPt0 c hbM0_0 fh0 ∗ (∃ W', owes (c : Thread nD τ) 0 W')) -∗ K ⟨⟩))
          ⊢ wp frame (wpE (defs₀ (F := F)) Variants.none c none) Set.univ (cc0_proj i arg1 harg1 (Memref.whole main_arg1) (Memref.isWhole_whole _) arg3 harg3 arg4 harg4 arg5 harg5 arg6 harg6 arg7 harg7 arg8 harg8 arg9 harg9 arg10 harg10 arg11 harg11 cc0_scratch4) K } := by
  refine ⟨?_, ?_, ?_, ?_, ?_, fun W K => ?run⟩
  case run =>
    simp only [cc0_proj_eq_skeleton]; unfold cc0_proj_skel
    simp only [k0_part273_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part274_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part275_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part276_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part277_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%ds0, %fs0, -, HS0⟩, ⟨%ds1, %fs1, -, HS1⟩, ⟨%ds2, %fs2, -, HS2⟩, ⟨%ds3, %fs3, -, HS3⟩, Hq0, Hq1, Hh0, HW, Hk⟩
    obtain rfl := harg1.eq_unread hf0; obtain rfl := harg3.eq_unread hf1; obtain rfl := harg4.eq_unread hf2
    have hrd0 : ∀ (𝒱 : Variants) (c : Dev nD) (bd : Option 𝒱.V) (i : grid0.Coords) (arg1 : Memref sig .tc .smem S21x48 .f32) (harg1 : arg1.IsWhole) (arg2 : Memref sig .tc .hbm S2624x6144 .fp8e4m3) (harg2 : arg2.IsWhole) (arg3 : Memref sig .tc .vmem S1x6144 .f32) (harg3 : arg3.IsWhole) (arg4 : Memref sig .tc .vmem S256x6144 .f32) (harg4 : arg4.IsWhole) (arg5 : Memref sig .tc .vmem S256x6144 .fp8e4m3) (harg5 : arg5.IsWhole) (arg6 : Memref sig .tc .vmem S48x256 .f32) (harg6 : arg6.IsWhole) (arg7 : Memref sig .tc .vmem S2624x256 .bf16) (harg7 : arg7.IsWhole) (arg8 : Memref sig .tc .vmem S2624x6144 .bf16) (harg8 : arg8.IsWhole) (arg9 : Memref sig .tc .vmem S5248x512 .fp8e4m3) (harg9 : arg9.IsWhole) (arg10 : Memref sig .tc .vmem S256x6144 .bf16) (harg10 : arg10.IsWhole) (arg11 : Memref sig .tc .vmem S256x128 .f32) (harg11 : arg11.IsWhole) (arg12 : DmaSems sig S2) (X_arg3 : BufTy.Contents (Elt F) arg3.view.ty) (X_arg4 : BufTy.Contents (Elt F) arg4.view.ty) (hrdF : BufTy.Contents (Elt F) arg11.view.ty) (hrdB : LoadRect S256x128), arg11.view.readAt (Elt F) hrdB (arg11.view.writes (Elt F) hrdF (pb_k0_t1 (F := F) 𝒱 c bd i arg1 harg1 arg2 harg2 arg3 harg3 arg4 harg4 arg5 harg5 arg6 harg6 arg7 harg7 arg8 harg8 arg9 harg9 arg10 harg10 arg11 harg11 arg12 X_arg3 X_arg4 (Scf.trips k0_t1_loop.lb k0_t1_loop.ub k0_t1_loop.st)).2.2) = arg11.view.readCov (pb_k0_t1 (F := F) 𝒱 c bd i arg1 harg1 arg2 harg2 arg3 harg3 arg4 harg4 arg5 harg5 arg6 harg6 arg7 harg7 arg8 harg8 arg9 harg9 arg10 harg10 arg11 harg11 arg12 X_arg3 X_arg4 (Scf.trips k0_t1_loop.lb k0_t1_loop.ub k0_t1_loop.st)).2.2 hrdB := fun 𝒱 c bd i arg1 harg1 arg2 harg2 arg3 harg3 arg4 harg4 arg5 harg5 arg6 harg6 arg7 harg7 arg8 harg8 arg9 harg9 arg10 harg10 arg11 harg11 arg12 X_arg3 X_arg4 hrdF hrdB => View.readAt_writes_of_cover _ hrdF _ hrdB (fun hrdJ => View.cover_of_tiledL (pb_k0_t1 (F := F) 𝒱 c bd i arg1 harg1 arg2 harg2 arg3 harg3 arg4 harg4 arg5 harg5 arg6 harg6 arg7 harg7 arg8 harg8 arg9 harg9 arg10 harg10 arg11 harg11 arg12 X_arg3 X_arg4 (Scf.trips k0_t1_loop.lb k0_t1_loop.ub k0_t1_loop.st)).2.2 S32x128.size (by sl_kernel_rfl) (hrdB.idx hrdJ))
    set_option sl_exec.maxSteps 6918 in sl_exec (disch := first | sl_exact hc0)
    -- between the two loops: what the scratch held before the first is not part of what the second reads
    rw [dequantised_writes]
    sl_exec (disch := first | sl_exact hc0)
    sl_step
    iapply Hk
    isplitl [H0]
    · iexists _; isplitr; · ipureintro; exact harg1.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [H5]; · iexists _; iexact H5
    isplitl [HS0]; · iexists _; iexact HS0
    isplitl [HS1]; · iexists _; iexact HS1
    isplitl [HS2]
    · iexists _, _; isplitr; swap; · iexact HS2
      ipureintro; rfl
    isplitl [HS3]
    · iexists _, _; isplitr; swap; · iexact HS3
      ipureintro; rfl
    isplitl [Hq0]; · iexact Hq0
    isplitl [Hq1]; · iexact Hq1
    isplitl [Hh0]; · iexact Hh0
    iexists _; iexact HW

end Cert.ProjRun

end
-- ==== Proof.ProjFrame.lean ====
/- What the projecting call leaves in its outputs and in the scratch it carries, point by point, and the run of
   its whole grid; a restatement of the generated certificate over the runs with named outputs. -/
module

public import proofs.«01_k».proof.Proof.ProjRunA
public import Idealize.ShloMosaic.Lib.Claim

@[expose] public section

-- membership in a rectangle of production extents (`View.cover_of_tiled`): the elaborator's structural look
-- recurses once per coordinate of the long axes
set_option maxRecDepth 16384

noncomputable section

namespace Cert.ProjRun

open Cert.ProjIdeal Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-- Case A's pieces for output 3 tile its block (384 stores of `S32x128`, checked by the kernel's evaluation: Lib/Ring.lean `Piece.tiledL`, linear in the pieces, through a loop's `@[irreducible]` trip theorem too), so they cover it. -/
theorem cover0_A_3 (c : Dev nD) (i : grid0.Coords) (arg1 : Memref sig .tc .smem S21x48 .f32) (harg1 : arg1.IsWhole) (arg3 : Memref sig .tc .vmem S1x6144 .f32) (harg3 : arg3.IsWhole) (arg4 : Memref sig .tc .vmem S256x6144 .f32) (harg4 : arg4.IsWhole) (arg5 : Memref sig .tc .vmem S256x6144 .fp8e4m3) (harg5 : arg5.IsWhole) (arg6 : Memref sig .tc .vmem S48x256 .f32) (harg6 : arg6.IsWhole) (arg7 : Memref sig .tc .vmem S2624x256 .bf16) (harg7 : arg7.IsWhole) (arg8 : Memref sig .tc .vmem S2624x6144 .bf16) (harg8 : arg8.IsWhole) (arg9 : Memref sig .tc .vmem S5248x512 .fp8e4m3) (harg9 : arg9.IsWhole) (arg10 : Memref sig .tc .vmem S256x6144 .bf16) (harg10 : arg10.IsWhole) (arg11 : Memref sig .tc .vmem S256x128 .f32) (harg11 : arg11.IsWhole) (hc0 : cond0_0 i)
    (x0 : Vec F S21x48 .f32) (x1 : Vec F S1x6144 .f32) (x2 : Vec F S256x6144 .f32) (fh0 : HbBuf0 (F := F) c hbM0_0) (y : S256x6144.Idx) :
    ∃ pc ∈ (kernelRun0_A c i arg1 harg1 arg3 harg3 arg4 harg4 arg5 harg5 arg6 harg6 arg7 harg7 arg8 harg8 arg9 harg9 arg10 harg10 arg11 harg11 hc0 x0 x1 x2 fh0).1, y ∈ pc.1.set :=
  View.cover_of_tiledL (kernelRun0_A c i arg1 harg1 arg3 harg3 arg4 harg4 arg5 harg5 arg6 harg6 arg7 harg7 arg8 harg8 arg9 harg9 arg10 harg10 arg11 harg11 hc0 x0 x1 x2 fh0).1 S32x128.size (by sl_kernel_rfl) y

/-- What case A leaves in output 3's staging buffer: its pieces read back over junk. -/
def out0_A_3 (c : Dev nD) (i : grid0.Coords) (arg1 : Memref sig .tc .smem S21x48 .f32) (harg1 : arg1.IsWhole) (arg3 : Memref sig .tc .vmem S1x6144 .f32) (harg3 : arg3.IsWhole) (arg4 : Memref sig .tc .vmem S256x6144 .f32) (harg4 : arg4.IsWhole) (arg5 : Memref sig .tc .vmem S256x6144 .fp8e4m3) (harg5 : arg5.IsWhole) (arg6 : Memref sig .tc .vmem S48x256 .f32) (harg6 : arg6.IsWhole) (arg7 : Memref sig .tc .vmem S2624x256 .bf16) (harg7 : arg7.IsWhole) (arg8 : Memref sig .tc .vmem S2624x6144 .bf16) (harg8 : arg8.IsWhole) (arg9 : Memref sig .tc .vmem S5248x512 .fp8e4m3) (harg9 : arg9.IsWhole) (arg10 : Memref sig .tc .vmem S256x6144 .bf16) (harg10 : arg10.IsWhole) (arg11 : Memref sig .tc .vmem S256x128 .f32) (harg11 : arg11.IsWhole) (hc0 : cond0_0 i)
    (x0 : Vec F S21x48 .f32) (x1 : Vec F S1x6144 .f32) (x2 : Vec F S256x6144 .f32) (fh0 : HbBuf0 (F := F) c hbM0_0) : Vec F S256x6144 .fp8e4m3 :=
  VO0_3.read (Elt F) (VO0_3.writes (Elt F) VO0_3.junk (kernelRun0_A c i arg1 harg1 arg3 harg3 arg4 harg4 arg5 harg5 arg6 harg6 arg7 harg7 arg8 harg8 arg9 harg9 arg10 harg10 arg11 harg11 hc0 x0 x1 x2 fh0).1)

/-- Case A's pieces for output 4 tile its block (1 store of `S48x256`, checked by the kernel's evaluation: Lib/Ring.lean `Piece.tiledL`, linear in the pieces, through a loop's `@[irreducible]` trip theorem too), so they cover it. -/
theorem cover0_A_4 (c : Dev nD) (i : grid0.Coords) (arg1 : Memref sig .tc .smem S21x48 .f32) (harg1 : arg1.IsWhole) (arg3 : Memref sig .tc .vmem S1x6144 .f32) (harg3 : arg3.IsWhole) (arg4 : Memref sig .tc .vmem S256x6144 .f32) (harg4 : arg4.IsWhole) (arg5 : Memref sig .tc .vmem S256x6144 .fp8e4m3) (harg5 : arg5.IsWhole) (arg6 : Memref sig .tc .vmem S48x256 .f32) (harg6 : arg6.IsWhole) (arg7 : Memref sig .tc .vmem S2624x256 .bf16) (harg7 : arg7.IsWhole) (arg8 : Memref sig .tc .vmem S2624x6144 .bf16) (harg8 : arg8.IsWhole) (arg9 : Memref sig .tc .vmem S5248x512 .fp8e4m3) (harg9 : arg9.IsWhole) (arg10 : Memref sig .tc .vmem S256x6144 .bf16) (harg10 : arg10.IsWhole) (arg11 : Memref sig .tc .vmem S256x128 .f32) (harg11 : arg11.IsWhole) (hc0 : cond0_0 i)
    (x0 : Vec F S21x48 .f32) (x1 : Vec F S1x6144 .f32) (x2 : Vec F S256x6144 .f32) (fh0 : HbBuf0 (F := F) c hbM0_0) (y : S48x256.Idx) :
    ∃ pc ∈ (kernelRun0_A c i arg1 harg1 arg3 harg3 arg4 harg4 arg5 harg5 arg6 harg6 arg7 harg7 arg8 harg8 arg9 harg9 arg10 harg10 arg11 harg11 hc0 x0 x1 x2 fh0).2.1, y ∈ pc.1.set :=
  View.cover_of_tiledL (kernelRun0_A c i arg1 harg1 arg3 harg3 arg4 harg4 arg5 harg5 arg6 harg6 arg7 harg7 arg8 harg8 arg9 harg9 arg10 harg10 arg11 harg11 hc0 x0 x1 x2 fh0).2.1 S48x256.size (by sl_kernel_rfl) y

/-- What case A leaves in output 4's staging buffer: its pieces read back over junk. -/
def out0_A_4 (c : Dev nD) (i : grid0.Coords) (arg1 : Memref sig .tc .smem S21x48 .f32) (harg1 : arg1.IsWhole) (arg3 : Memref sig .tc .vmem S1x6144 .f32) (harg3 : arg3.IsWhole) (arg4 : Memref sig .tc .vmem S256x6144 .f32) (harg4 : arg4.IsWhole) (arg5 : Memref sig .tc .vmem S256x6144 .fp8e4m3) (harg5 : arg5.IsWhole) (arg6 : Memref sig .tc .vmem S48x256 .f32) (harg6 : arg6.IsWhole) (arg7 : Memref sig .tc .vmem S2624x256 .bf16) (harg7 : arg7.IsWhole) (arg8 : Memref sig .tc .vmem S2624x6144 .bf16) (harg8 : arg8.IsWhole) (arg9 : Memref sig .tc .vmem S5248x512 .fp8e4m3) (harg9 : arg9.IsWhole) (arg10 : Memref sig .tc .vmem S256x6144 .bf16) (harg10 : arg10.IsWhole) (arg11 : Memref sig .tc .vmem S256x128 .f32) (harg11 : arg11.IsWhole) (hc0 : cond0_0 i)
    (x0 : Vec F S21x48 .f32) (x1 : Vec F S1x6144 .f32) (x2 : Vec F S256x6144 .f32) (fh0 : HbBuf0 (F := F) c hbM0_0) : Vec F S48x256 .f32 :=
  VO0_4.read (Elt F) (VO0_4.writes (Elt F) VO0_4.junk (kernelRun0_A c i arg1 harg1 arg3 harg3 arg4 harg4 arg5 harg5 arg6 harg6 arg7 harg7 arg8 harg8 arg9 harg9 arg10 harg10 arg11 harg11 hc0 x0 x1 x2 fh0).2.1)

/-- Case A's pieces for output 5 tile its block (4 stores of `S656x256`, checked by the kernel's evaluation: Lib/Ring.lean `Piece.tiledL`, linear in the pieces, through a loop's `@[irreducible]` trip theorem too), so they cover it. -/
theorem cover0_A_5 (c : Dev nD) (i : grid0.Coords) (arg1 : Memref sig .tc .smem S21x48 .f32) (harg1 : arg1.IsWhole) (arg3 : Memref sig .tc .vmem S1x6144 .f32) (harg3 : arg3.IsWhole) (arg4 : Memref sig .tc .vmem S256x6144 .f32) (harg4 : arg4.IsWhole) (arg5 : Memref sig .tc .vmem S256x6144 .fp8e4m3) (harg5 : arg5.IsWhole) (arg6 : Memref sig .tc .vmem S48x256 .f32) (harg6 : arg6.IsWhole) (arg7 : Memref sig .tc .vmem S2624x256 .bf16) (harg7 : arg7.IsWhole) (arg8 : Memref sig .tc .vmem S2624x6144 .bf16) (harg8 : arg8.IsWhole) (arg9 : Memref sig .tc .vmem S5248x512 .fp8e4m3) (harg9 : arg9.IsWhole) (arg10 : Memref sig .tc .vmem S256x6144 .bf16) (harg10 : arg10.IsWhole) (arg11 : Memref sig .tc .vmem S256x128 .f32) (harg11 : arg11.IsWhole) (hc0 : cond0_0 i)
    (x0 : Vec F S21x48 .f32) (x1 : Vec F S1x6144 .f32) (x2 : Vec F S256x6144 .f32) (fh0 : HbBuf0 (F := F) c hbM0_0) (y : S2624x256.Idx) :
    ∃ pc ∈ (kernelRun0_A c i arg1 harg1 arg3 harg3 arg4 harg4 arg5 harg5 arg6 harg6 arg7 harg7 arg8 harg8 arg9 harg9 arg10 harg10 arg11 harg11 hc0 x0 x1 x2 fh0).2.2.1, y ∈ pc.1.set :=
  View.cover_of_tiledL (kernelRun0_A c i arg1 harg1 arg3 harg3 arg4 harg4 arg5 harg5 arg6 harg6 arg7 harg7 arg8 harg8 arg9 harg9 arg10 harg10 arg11 harg11 hc0 x0 x1 x2 fh0).2.2.1 S656x256.size (by sl_kernel_rfl) y

/-- What case A leaves in output 5's staging buffer: its pieces read back over junk. -/
def out0_A_5 (c : Dev nD) (i : grid0.Coords) (arg1 : Memref sig .tc .smem S21x48 .f32) (harg1 : arg1.IsWhole) (arg3 : Memref sig .tc .vmem S1x6144 .f32) (harg3 : arg3.IsWhole) (arg4 : Memref sig .tc .vmem S256x6144 .f32) (harg4 : arg4.IsWhole) (arg5 : Memref sig .tc .vmem S256x6144 .fp8e4m3) (harg5 : arg5.IsWhole) (arg6 : Memref sig .tc .vmem S48x256 .f32) (harg6 : arg6.IsWhole) (arg7 : Memref sig .tc .vmem S2624x256 .bf16) (harg7 : arg7.IsWhole) (arg8 : Memref sig .tc .vmem S2624x6144 .bf16) (harg8 : arg8.IsWhole) (arg9 : Memref sig .tc .vmem S5248x512 .fp8e4m3) (harg9 : arg9.IsWhole) (arg10 : Memref sig .tc .vmem S256x6144 .bf16) (harg10 : arg10.IsWhole) (arg11 : Memref sig .tc .vmem S256x128 .f32) (harg11 : arg11.IsWhole) (hc0 : cond0_0 i)
    (x0 : Vec F S21x48 .f32) (x1 : Vec F S1x6144 .f32) (x2 : Vec F S256x6144 .f32) (fh0 : HbBuf0 (F := F) c hbM0_0) : Vec F S2624x256 .bf16 :=
  VO0_5.read (Elt F) (VO0_5.writes (Elt F) VO0_5.junk (kernelRun0_A c i arg1 harg1 arg3 harg3 arg4 harg4 arg5 harg5 arg6 harg6 arg7 harg7 arg8 harg8 arg9 harg9 arg10 harg10 arg11 harg11 hc0 x0 x1 x2 fh0).2.2.1)

/-- Case A's pieces for scratch `arg8`, which the kernel carries between points, cover it: 1008 pieces (stores and landed copies) of several sizes (`S128x128`, `S64x128`) tiling it when cut into blocks of `![64, 128]` (Lib/Ring.lean `Piece.tiledBy`). -/
theorem scover0_A_0 (c : Dev nD) (i : grid0.Coords) (arg1 : Memref sig .tc .smem S21x48 .f32) (harg1 : arg1.IsWhole) (arg3 : Memref sig .tc .vmem S1x6144 .f32) (harg3 : arg3.IsWhole) (arg4 : Memref sig .tc .vmem S256x6144 .f32) (harg4 : arg4.IsWhole) (arg5 : Memref sig .tc .vmem S256x6144 .fp8e4m3) (harg5 : arg5.IsWhole) (arg6 : Memref sig .tc .vmem S48x256 .f32) (harg6 : arg6.IsWhole) (arg7 : Memref sig .tc .vmem S2624x256 .bf16) (harg7 : arg7.IsWhole) (arg8 : Memref sig .tc .vmem S2624x6144 .bf16) (harg8 : arg8.IsWhole) (arg9 : Memref sig .tc .vmem S5248x512 .fp8e4m3) (harg9 : arg9.IsWhole) (arg10 : Memref sig .tc .vmem S256x6144 .bf16) (harg10 : arg10.IsWhole) (arg11 : Memref sig .tc .vmem S256x128 .f32) (harg11 : arg11.IsWhole) (hc0 : cond0_0 i)
    (x0 : Vec F S21x48 .f32) (x1 : Vec F S1x6144 .f32) (x2 : Vec F S256x6144 .f32) (fh0 : HbBuf0 (F := F) c hbM0_0) (y : S2624x6144.Idx) :
    ∃ pc ∈ (kernelRun0_A c i arg1 harg1 arg3 harg3 arg4 harg4 arg5 harg5 arg6 harg6 arg7 harg7 arg8 harg8 arg9 harg9 arg10 harg10 arg11 harg11 hc0 x0 x1 x2 fh0).2.2.2.1, y ∈ pc.1.set :=
  View.cover_of_tiledBy (kernelRun0_A c i arg1 harg1 arg3 harg3 arg4 harg4 arg5 harg5 arg6 harg6 arg7 harg7 arg8 harg8 arg9 harg9 arg10 harg10 arg11 harg11 hc0 x0 x1 x2 fh0).2.2.2.1 ![64, 128] (by sl_kernel_rfl) y

/-- What case A leaves in scratch `arg8`: its pieces read back over junk. -/
def sout0_A_0 (c : Dev nD) (i : grid0.Coords) (arg1 : Memref sig .tc .smem S21x48 .f32) (harg1 : arg1.IsWhole) (arg3 : Memref sig .tc .vmem S1x6144 .f32) (harg3 : arg3.IsWhole) (arg4 : Memref sig .tc .vmem S256x6144 .f32) (harg4 : arg4.IsWhole) (arg5 : Memref sig .tc .vmem S256x6144 .fp8e4m3) (harg5 : arg5.IsWhole) (arg6 : Memref sig .tc .vmem S48x256 .f32) (harg6 : arg6.IsWhole) (arg7 : Memref sig .tc .vmem S2624x256 .bf16) (harg7 : arg7.IsWhole) (arg8 : Memref sig .tc .vmem S2624x6144 .bf16) (harg8 : arg8.IsWhole) (arg9 : Memref sig .tc .vmem S5248x512 .fp8e4m3) (harg9 : arg9.IsWhole) (arg10 : Memref sig .tc .vmem S256x6144 .bf16) (harg10 : arg10.IsWhole) (arg11 : Memref sig .tc .vmem S256x128 .f32) (harg11 : arg11.IsWhole) (hc0 : cond0_0 i)
    (x0 : Vec F S21x48 .f32) (x1 : Vec F S1x6144 .f32) (x2 : Vec F S256x6144 .f32) (fh0 : HbBuf0 (F := F) c hbM0_0) : Vec F S2624x6144 .bf16 :=
  VS0_0.read (Elt F) (VS0_0.writes (Elt F) VS0_0.junk (kernelRun0_A c i arg1 harg1 arg3 harg3 arg4 harg4 arg5 harg5 arg6 harg6 arg7 harg7 arg8 harg8 arg9 harg9 arg10 harg10 arg11 harg11 hc0 x0 x1 x2 fh0).2.2.2.1)

/-- Case B's pieces for output 3 tile its block (384 stores of `S32x128`, checked by the kernel's evaluation: Lib/Ring.lean `Piece.tiledL`, linear in the pieces, through a loop's `@[irreducible]` trip theorem too), so they cover it. -/
theorem cover0_B_3 (c : Dev nD) (i : grid0.Coords) (arg1 : Memref sig .tc .smem S21x48 .f32) (harg1 : arg1.IsWhole) (arg3 : Memref sig .tc .vmem S1x6144 .f32) (harg3 : arg3.IsWhole) (arg4 : Memref sig .tc .vmem S256x6144 .f32) (harg4 : arg4.IsWhole) (arg5 : Memref sig .tc .vmem S256x6144 .fp8e4m3) (harg5 : arg5.IsWhole) (arg6 : Memref sig .tc .vmem S48x256 .f32) (harg6 : arg6.IsWhole) (arg7 : Memref sig .tc .vmem S2624x256 .bf16) (harg7 : arg7.IsWhole) (arg8 : Memref sig .tc .vmem S2624x6144 .bf16) (harg8 : arg8.IsWhole) (arg9 : Memref sig .tc .vmem S5248x512 .fp8e4m3) (harg9 : arg9.IsWhole) (arg10 : Memref sig .tc .vmem S256x6144 .bf16) (harg10 : arg10.IsWhole) (arg11 : Memref sig .tc .vmem S256x128 .f32) (harg11 : arg11.IsWhole) (hc0 : ¬cond0_0 i)
    (x0 : Vec F S21x48 .f32) (x1 : Vec F S1x6144 .f32) (x2 : Vec F S256x6144 .f32) (xs0 : Vec F S2624x6144 .bf16) (fh0 : HbBuf0 (F := F) c hbM0_0) (y : S256x6144.Idx) :
    ∃ pc ∈ (kernelRun0_B c i arg1 harg1 arg3 harg3 arg4 harg4 arg5 harg5 arg6 harg6 arg7 harg7 arg8 harg8 arg9 harg9 arg10 harg10 arg11 harg11 hc0 x0 x1 x2 xs0 fh0).1, y ∈ pc.1.set :=
  View.cover_of_tiledL (kernelRun0_B c i arg1 harg1 arg3 harg3 arg4 harg4 arg5 harg5 arg6 harg6 arg7 harg7 arg8 harg8 arg9 harg9 arg10 harg10 arg11 harg11 hc0 x0 x1 x2 xs0 fh0).1 S32x128.size (by sl_kernel_rfl) y

/-- What case B leaves in output 3's staging buffer: its pieces read back over junk. -/
def out0_B_3 (c : Dev nD) (i : grid0.Coords) (arg1 : Memref sig .tc .smem S21x48 .f32) (harg1 : arg1.IsWhole) (arg3 : Memref sig .tc .vmem S1x6144 .f32) (harg3 : arg3.IsWhole) (arg4 : Memref sig .tc .vmem S256x6144 .f32) (harg4 : arg4.IsWhole) (arg5 : Memref sig .tc .vmem S256x6144 .fp8e4m3) (harg5 : arg5.IsWhole) (arg6 : Memref sig .tc .vmem S48x256 .f32) (harg6 : arg6.IsWhole) (arg7 : Memref sig .tc .vmem S2624x256 .bf16) (harg7 : arg7.IsWhole) (arg8 : Memref sig .tc .vmem S2624x6144 .bf16) (harg8 : arg8.IsWhole) (arg9 : Memref sig .tc .vmem S5248x512 .fp8e4m3) (harg9 : arg9.IsWhole) (arg10 : Memref sig .tc .vmem S256x6144 .bf16) (harg10 : arg10.IsWhole) (arg11 : Memref sig .tc .vmem S256x128 .f32) (harg11 : arg11.IsWhole) (hc0 : ¬cond0_0 i)
    (x0 : Vec F S21x48 .f32) (x1 : Vec F S1x6144 .f32) (x2 : Vec F S256x6144 .f32) (xs0 : Vec F S2624x6144 .bf16) (fh0 : HbBuf0 (F := F) c hbM0_0) : Vec F S256x6144 .fp8e4m3 :=
  VO0_3.read (Elt F) (VO0_3.writes (Elt F) VO0_3.junk (kernelRun0_B c i arg1 harg1 arg3 harg3 arg4 harg4 arg5 harg5 arg6 harg6 arg7 harg7 arg8 harg8 arg9 harg9 arg10 harg10 arg11 harg11 hc0 x0 x1 x2 xs0 fh0).1)

/-- Case B's pieces for output 4 tile its block (1 store of `S48x256`, checked by the kernel's evaluation: Lib/Ring.lean `Piece.tiledL`, linear in the pieces, through a loop's `@[irreducible]` trip theorem too), so they cover it. -/
theorem cover0_B_4 (c : Dev nD) (i : grid0.Coords) (arg1 : Memref sig .tc .smem S21x48 .f32) (harg1 : arg1.IsWhole) (arg3 : Memref sig .tc .vmem S1x6144 .f32) (harg3 : arg3.IsWhole) (arg4 : Memref sig .tc .vmem S256x6144 .f32) (harg4 : arg4.IsWhole) (arg5 : Memref sig .tc .vmem S256x6144 .fp8e4m3) (harg5 : arg5.IsWhole) (arg6 : Memref sig .tc .vmem S48x256 .f32) (harg6 : arg6.IsWhole) (arg7 : Memref sig .tc .vmem S2624x256 .bf16) (harg7 : arg7.IsWhole) (arg8 : Memref sig .tc .vmem S2624x6144 .bf16) (harg8 : arg8.IsWhole) (arg9 : Memref sig .tc .vmem S5248x512 .fp8e4m3) (harg9 : arg9.IsWhole) (arg10 : Memref sig .tc .vmem S256x6144 .bf16) (harg10 : arg10.IsWhole) (arg11 : Memref sig .tc .vmem S256x128 .f32) (harg11 : arg11.IsWhole) (hc0 : ¬cond0_0 i)
    (x0 : Vec F S21x48 .f32) (x1 : Vec F S1x6144 .f32) (x2 : Vec F S256x6144 .f32) (xs0 : Vec F S2624x6144 .bf16) (fh0 : HbBuf0 (F := F) c hbM0_0) (y : S48x256.Idx) :
    ∃ pc ∈ (kernelRun0_B c i arg1 harg1 arg3 harg3 arg4 harg4 arg5 harg5 arg6 harg6 arg7 harg7 arg8 harg8 arg9 harg9 arg10 harg10 arg11 harg11 hc0 x0 x1 x2 xs0 fh0).2.1, y ∈ pc.1.set :=
  View.cover_of_tiledL (kernelRun0_B c i arg1 harg1 arg3 harg3 arg4 harg4 arg5 harg5 arg6 harg6 arg7 harg7 arg8 harg8 arg9 harg9 arg10 harg10 arg11 harg11 hc0 x0 x1 x2 xs0 fh0).2.1 S48x256.size (by sl_kernel_rfl) y

/-- What case B leaves in output 4's staging buffer: its pieces read back over junk. -/
def out0_B_4 (c : Dev nD) (i : grid0.Coords) (arg1 : Memref sig .tc .smem S21x48 .f32) (harg1 : arg1.IsWhole) (arg3 : Memref sig .tc .vmem S1x6144 .f32) (harg3 : arg3.IsWhole) (arg4 : Memref sig .tc .vmem S256x6144 .f32) (harg4 : arg4.IsWhole) (arg5 : Memref sig .tc .vmem S256x6144 .fp8e4m3) (harg5 : arg5.IsWhole) (arg6 : Memref sig .tc .vmem S48x256 .f32) (harg6 : arg6.IsWhole) (arg7 : Memref sig .tc .vmem S2624x256 .bf16) (harg7 : arg7.IsWhole) (arg8 : Memref sig .tc .vmem S2624x6144 .bf16) (harg8 : arg8.IsWhole) (arg9 : Memref sig .tc .vmem S5248x512 .fp8e4m3) (harg9 : arg9.IsWhole) (arg10 : Memref sig .tc .vmem S256x6144 .bf16) (harg10 : arg10.IsWhole) (arg11 : Memref sig .tc .vmem S256x128 .f32) (harg11 : arg11.IsWhole) (hc0 : ¬cond0_0 i)
    (x0 : Vec F S21x48 .f32) (x1 : Vec F S1x6144 .f32) (x2 : Vec F S256x6144 .f32) (xs0 : Vec F S2624x6144 .bf16) (fh0 : HbBuf0 (F := F) c hbM0_0) : Vec F S48x256 .f32 :=
  VO0_4.read (Elt F) (VO0_4.writes (Elt F) VO0_4.junk (kernelRun0_B c i arg1 harg1 arg3 harg3 arg4 harg4 arg5 harg5 arg6 harg6 arg7 harg7 arg8 harg8 arg9 harg9 arg10 harg10 arg11 harg11 hc0 x0 x1 x2 xs0 fh0).2.1)

/-- Case B's pieces for output 5 tile its block (4 stores of `S656x256`, checked by the kernel's evaluation: Lib/Ring.lean `Piece.tiledL`, linear in the pieces, through a loop's `@[irreducible]` trip theorem too), so they cover it. -/
theorem cover0_B_5 (c : Dev nD) (i : grid0.Coords) (arg1 : Memref sig .tc .smem S21x48 .f32) (harg1 : arg1.IsWhole) (arg3 : Memref sig .tc .vmem S1x6144 .f32) (harg3 : arg3.IsWhole) (arg4 : Memref sig .tc .vmem S256x6144 .f32) (harg4 : arg4.IsWhole) (arg5 : Memref sig .tc .vmem S256x6144 .fp8e4m3) (harg5 : arg5.IsWhole) (arg6 : Memref sig .tc .vmem S48x256 .f32) (harg6 : arg6.IsWhole) (arg7 : Memref sig .tc .vmem S2624x256 .bf16) (harg7 : arg7.IsWhole) (arg8 : Memref sig .tc .vmem S2624x6144 .bf16) (harg8 : arg8.IsWhole) (arg9 : Memref sig .tc .vmem S5248x512 .fp8e4m3) (harg9 : arg9.IsWhole) (arg10 : Memref sig .tc .vmem S256x6144 .bf16) (harg10 : arg10.IsWhole) (arg11 : Memref sig .tc .vmem S256x128 .f32) (harg11 : arg11.IsWhole) (hc0 : ¬cond0_0 i)
    (x0 : Vec F S21x48 .f32) (x1 : Vec F S1x6144 .f32) (x2 : Vec F S256x6144 .f32) (xs0 : Vec F S2624x6144 .bf16) (fh0 : HbBuf0 (F := F) c hbM0_0) (y : S2624x256.Idx) :
    ∃ pc ∈ (kernelRun0_B c i arg1 harg1 arg3 harg3 arg4 harg4 arg5 harg5 arg6 harg6 arg7 harg7 arg8 harg8 arg9 harg9 arg10 harg10 arg11 harg11 hc0 x0 x1 x2 xs0 fh0).2.2.1, y ∈ pc.1.set :=
  View.cover_of_tiledL (kernelRun0_B c i arg1 harg1 arg3 harg3 arg4 harg4 arg5 harg5 arg6 harg6 arg7 harg7 arg8 harg8 arg9 harg9 arg10 harg10 arg11 harg11 hc0 x0 x1 x2 xs0 fh0).2.2.1 S656x256.size (by sl_kernel_rfl) y

/-- What case B leaves in output 5's staging buffer: its pieces read back over junk. -/
def out0_B_5 (c : Dev nD) (i : grid0.Coords) (arg1 : Memref sig .tc .smem S21x48 .f32) (harg1 : arg1.IsWhole) (arg3 : Memref sig .tc .vmem S1x6144 .f32) (harg3 : arg3.IsWhole) (arg4 : Memref sig .tc .vmem S256x6144 .f32) (harg4 : arg4.IsWhole) (arg5 : Memref sig .tc .vmem S256x6144 .fp8e4m3) (harg5 : arg5.IsWhole) (arg6 : Memref sig .tc .vmem S48x256 .f32) (harg6 : arg6.IsWhole) (arg7 : Memref sig .tc .vmem S2624x256 .bf16) (harg7 : arg7.IsWhole) (arg8 : Memref sig .tc .vmem S2624x6144 .bf16) (harg8 : arg8.IsWhole) (arg9 : Memref sig .tc .vmem S5248x512 .fp8e4m3) (harg9 : arg9.IsWhole) (arg10 : Memref sig .tc .vmem S256x6144 .bf16) (harg10 : arg10.IsWhole) (arg11 : Memref sig .tc .vmem S256x128 .f32) (harg11 : arg11.IsWhole) (hc0 : ¬cond0_0 i)
    (x0 : Vec F S21x48 .f32) (x1 : Vec F S1x6144 .f32) (x2 : Vec F S256x6144 .f32) (xs0 : Vec F S2624x6144 .bf16) (fh0 : HbBuf0 (F := F) c hbM0_0) : Vec F S2624x256 .bf16 :=
  VO0_5.read (Elt F) (VO0_5.writes (Elt F) VO0_5.junk (kernelRun0_B c i arg1 harg1 arg3 harg3 arg4 harg4 arg5 harg5 arg6 harg6 arg7 harg7 arg8 harg8 arg9 harg9 arg10 harg10 arg11 harg11 hc0 x0 x1 x2 xs0 fh0).2.2.1)

/-- Case B stores nothing into scratch `arg8`: it holds what the point before left. -/
def sout0_B_0 (c : Dev nD) (i : grid0.Coords) (arg1 : Memref sig .tc .smem S21x48 .f32) (harg1 : arg1.IsWhole) (arg3 : Memref sig .tc .vmem S1x6144 .f32) (harg3 : arg3.IsWhole) (arg4 : Memref sig .tc .vmem S256x6144 .f32) (harg4 : arg4.IsWhole) (arg5 : Memref sig .tc .vmem S256x6144 .fp8e4m3) (harg5 : arg5.IsWhole) (arg6 : Memref sig .tc .vmem S48x256 .f32) (harg6 : arg6.IsWhole) (arg7 : Memref sig .tc .vmem S2624x256 .bf16) (harg7 : arg7.IsWhole) (arg8 : Memref sig .tc .vmem S2624x6144 .bf16) (harg8 : arg8.IsWhole) (arg9 : Memref sig .tc .vmem S5248x512 .fp8e4m3) (harg9 : arg9.IsWhole) (arg10 : Memref sig .tc .vmem S256x6144 .bf16) (harg10 : arg10.IsWhole) (arg11 : Memref sig .tc .vmem S256x128 .f32) (harg11 : arg11.IsWhole) (hc0 : ¬cond0_0 i)
    (x0 : Vec F S21x48 .f32) (x1 : Vec F S1x6144 .f32) (x2 : Vec F S256x6144 .f32) (xs0 : Vec F S2624x6144 .bf16) (fh0 : HbBuf0 (F := F) c hbM0_0) : Vec F S2624x6144 .bf16 := xs0

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S256x6144 .fp8e4m3 × Vec F S48x256 .f32 × Vec F S2624x256 .bf16 × Vec F S2624x6144 .bf16
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (iblk m c 0 ⟨0, hn⟩) (iblk m c 1 ⟨0, hn⟩) (iblk m c 2 ⟨0, hn⟩) (V m c main_arg1), out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (iblk m c 0 ⟨0, hn⟩) (iblk m c 1 ⟨0, hn⟩) (iblk m c 2 ⟨0, hn⟩) (V m c main_arg1), out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (iblk m c 0 ⟨0, hn⟩) (iblk m c 1 ⟨0, hn⟩) (iblk m c 2 ⟨0, hn⟩) (V m c main_arg1), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (iblk m c 0 ⟨0, hn⟩) (iblk m c 1 ⟨0, hn⟩) (iblk m c 2 ⟨0, hn⟩) (V m c main_arg1))
  | n + 1, hn =>
    if h0 : (n + 1) % 12 = 0 then
      (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (iblk m c 0 ⟨n + 1, hn⟩) (iblk m c 1 ⟨n + 1, hn⟩) (iblk m c 2 ⟨n + 1, hn⟩) (V m c main_arg1), out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (iblk m c 0 ⟨n + 1, hn⟩) (iblk m c 1 ⟨n + 1, hn⟩) (iblk m c 2 ⟨n + 1, hn⟩) (V m c main_arg1), out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (iblk m c 0 ⟨n + 1, hn⟩) (iblk m c 1 ⟨n + 1, hn⟩) (iblk m c 2 ⟨n + 1, hn⟩) (V m c main_arg1), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (iblk m c 0 ⟨n + 1, hn⟩) (iblk m c 1 ⟨n + 1, hn⟩) (iblk m c 2 ⟨n + 1, hn⟩) (V m c main_arg1))
    else
      (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn)).2.2.2 (V m c main_arg1), out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn)).2.2.2 (V m c main_arg1), out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn)).2.2.2 (V m c main_arg1), sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn)).2.2.2 (V m c main_arg1))

/-- `outsAt0` at a point of case A: that case's contents. -/
theorem outsAt0_A (c : Dev nD) (t : Fin cfg0.N) (h0 : t.val % 12 = 0) :
    outsAt0 m c t.val t.isLt = (out0_A_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (V m c main_arg1), out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (V m c main_arg1), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (V m c main_arg1), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (V m c main_arg1)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 12 = 0) :
    outsAt0 m c t.val t.isLt = (out0_B_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (outsAt0 m c (t.val - 1) (Nat.lt_of_le_of_lt (Nat.sub_le _ _) t.isLt)).2.2.2 (V m c main_arg1), out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (outsAt0 m c (t.val - 1) (Nat.lt_of_le_of_lt (Nat.sub_le _ _) t.isLt)).2.2.2 (V m c main_arg1), out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (outsAt0 m c (t.val - 1) (Nat.lt_of_le_of_lt (Nat.sub_le _ _) t.isLt)).2.2.2 (V m c main_arg1), sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (outsAt0 m c (t.val - 1) (Nat.lt_of_le_of_lt (Nat.sub_le _ _) t.isLt)).2.2.2 (V m c main_arg1)) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    launch's invariant (Lib/Pipeline/Frame.lean `ΦD`: every scratch at anything, the own cells at zero, the HBM operands, the generator register); afterwards the same with each carried
    scratch at what the point before left in it (`outsAt0`'s scratch components), the others at anything. -/
def PhiS (c : Dev nD) : (n : ℕ) → n ≤ cfg0.N → sProp 𝕄
  | 0, _ => Pipeline.ΦD osem0 spec0 H0 (V m) c
  | n + 1, hn => iprop(iprop(owns (c : Thread nD τ) scM0_0 fullShare ((outsAt0 m c n hn).2.2.2) ∗ (∃ d, owns (c : Thread nD τ) scM0_1 fullShare d) ∗ (∃ d, owns (c : Thread nD τ) scM0_2 fullShare d) ∗ (∃ d, owns (c : Thread nD τ) scM0_3 fullShare d)) ∗ (∃ r, prngReg c r) ∗ iprop(semVal ((c : Thread nD τ), SemLoc.dma 10) 0 ∗ semVal ((c : Thread nD τ), SemLoc.dma 11) 0) ∗ iprop(hbPt0 c hbM0_0 (V m c main_arg1)))

theorem PhiS_zero (c : Dev nD) (n : ℕ) (h : n ≤ cfg0.N) (hz : n = 0) : PhiS m c n h = Pipeline.ΦD osem0 spec0 H0 (V m) c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2) ∗ (∃ d, owns (c : Thread nD τ) scM0_1 fullShare d) ∗ (∃ d, owns (c : Thread nD τ) scM0_2 fullShare d) ∗ (∃ d, owns (c : Thread nD τ) scM0_3 fullShare d)) ∗ (∃ r, prngReg c r) ∗ iprop(semVal ((c : Thread nD τ), SemLoc.dma 10) 0 ∗ semVal ((c : Thread nD τ), SemLoc.dma 11) 0) ∗ iprop(hbPt0 c hbM0_0 (V m c main_arg1))) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2) ∗ (∃ d, owns (c : Thread nD τ) scM0_1 fullShare d) ∗ (∃ d, owns (c : Thread nD τ) scM0_2 fullShare d) ∗ (∃ d, owns (c : Thread nD τ) scM0_3 fullShare d)) ∗ (∃ r, prngReg c r) ∗ iprop(semVal ((c : Thread nD τ), SemLoc.dma 10) 0 ∗ semVal ((c : Thread nD τ), SemLoc.dma 11) 0) ∗ iprop(hbPt0 c hbM0_0 (V m c main_arg1))) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant
    (Lib/Pipeline/Frame.lean `ΦD`: the scoped rest, the generator register, the own cells at zero, the HBM operands at
    their launch contents); nothing owed; full shares. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
    | ⟨4, _⟩ => (outsAt0 m c t.val t.isLt).2.1
    | ⟨5, _⟩ => (outsAt0 m c t.val t.isLt).2.2.1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]
theorem after0_4 (c : Dev nD) (t : Fin cfg0.N) : (dats m 0 c).after 4 t = (outsAt0 m c t.val t.isLt).2.1 := by dsimp only [dats]
theorem after0_5 (c : Dev nD) (t : Fin cfg0.N) : (dats m 0 c).after 5 t = (outsAt0 m c t.val t.isLt).2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

set_option maxHeartbeats 8000000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`, the rest of `ΦD` opened by `PhiD0_eq`), the other scratch at anything, the register, its DMA cells at zero and the HBM operands, and takes the carried scratch back at this point's contents (`PhiS_succ`, by `scoverK_κ_N`), the cells and operands as they were; the core's `owes` goes in at whatever the points before recorded and comes back with this point's waits, within the next point's bound (everything). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = PhiS m c (t.val + 1) t.isLt from rfl, PhiS_succ,
    after0_0, after0_1, after0_2, after0_3, after0_4, after0_5]
  unfold Dat.owesAt Pipeline.owesWithin
  rw [show (dats m 0 c).owed t.castSucc = 0 from rfl, show (dats m 0 c).owed t.succ = 0 from rfl]
  have hN : t.val < 12 := lt_of_lt_of_eq t.isLt (show cfg0.N = 12 from N_0)
  by_cases h0 : t.val % 12 = 0
  · by_cases hz : t.val = 0
    · rw [PhiS_castSucc m c t, PhiS_zero m c _ _ hz, PhiD0_eq]
      rw [outsAt0_A m c t h0]
      unfold out0_A_3 out0_A_4 out0_A_5 sout0_A_0; (try dsimp only)
      iintro ⟨⟨⟨HS0, HS1, HS2, HS3⟩, Hg, ⟨Hq0, Hq1⟩, Hh0⟩, ⟨%W, -, HW⟩, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ _ _ _ _ _ _ ((hcond0_0 t).mpr h0) (iblk m c 0 t) (iblk m c 1 t) (iblk m c 2 t) (V m c main_arg1)).2.2.2.2.2 W _)
      isplitl [H0]; · iexact H0
      isplitl [H1]; · iexact H1
      isplitl [H2]; · iexact H2
      isplitl [H3]; · iexists _; iexact H3
      isplitl [H4]; · iexists _; iexact H4
      isplitl [H5]; · iexists _; iexact H5
      isplitl [HS0]; · iexact HS0
      isplitl [HS1]; · iexact HS1
      isplitl [HS2]; · iexact HS2
      isplitl [HS3]; · iexact HS3
      isplitl [Hq0]; · iexact Hq0
      isplitl [Hq1]; · iexact Hq1
      isplitl [Hh0]; · iexact Hh0
      isplitl [HW]; · iexact HW
      iintro ⟨H0, H1, H2, ⟨%e3, H3⟩, ⟨%e4, H4⟩, ⟨%e5, H5⟩, ⟨%es0, HS0⟩, ⟨%fT1, HS1⟩, HS2, HS3, Hq0, Hq1, Hh0, ⟨%W', HW'⟩⟩
      isplitl [HS0 HS1 HS2 HS3 Hg Hq0 Hq1 Hh0]
      · isplitl [HS0 HS1 HS2 HS3]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _)
          isplitl [HS1]
          · iexists _; unfold owns; iexists _; isplitr
            swap; · iexact HS1
            ipureintro; rfl
          isplitl [HS2]; · iexact HS2
          iexact HS3
        isplitl [Hg]
        · iexact Hg
        isplitl [Hq0 Hq1]
        · isplitl [Hq0]; · iexact Hq0
          iexact Hq1
        iexact Hh0
      isplitl [HW']
      · iexists W'; isplitr; · ipureintro; exact fun _ _ => Or.inl trivial
        iexact HW'
      isplitl [H0]; · iexact H0
      isplitl [H1]; · iexact H1
      isplitl [H2]; · iexact H2
      isplitl [H3]
      · unfold owns; iexists _; isplitr
        swap; · iexact H3
        ipureintro; exact View.read_writes_of_cover _ _ _ _ _ (cover0_A_3 c _ _ _ _ _ _ _ _ _ _ _ _ _ _ _ _ _ _ _ _ _ _ _ _ _ _)
      isplitl [H4]
      · unfold owns; iexists _; isplitr
        swap; · iexact H4
        ipureintro; exact View.read_writes_of_cover _ _ _ _ _ (cover0_A_4 c _ _ _ _ _ _ _ _ _ _ _ _ _ _ _ _ _ _ _ _ _ _ _ _ _ _)
      unfold owns; iexists _; isplitr
      swap; · iexact H5
      ipureintro; exact View.read_writes_of_cover _ _ _ _ _ (cover0_A_5 c _ _ _ _ _ _ _ _ _ _ _ _ _ _ _ _ _ _ _ _ _ _ _ _ _ _)
    · exfalso; have hN : t.val < 12 := lt_of_lt_of_eq t.isLt (show cfg0.N = 12 from N_0); omega
  · by_cases hz : t.val = 0
    · exfalso; have hN : t.val < 12 := lt_of_lt_of_eq t.isLt (show cfg0.N = 12 from N_0); omega
    · rw [PhiS_castSucc m c t, PhiS_pos m c _ _ hz]
      rw [outsAt0_B m c t h0]
      unfold out0_B_3 out0_B_4 out0_B_5 sout0_B_0; (try dsimp only)
      iintro ⟨⟨⟨HS0, HS1, HS2, HS3⟩, Hg, ⟨Hq0, Hq1⟩, Hh0⟩, ⟨%W, -, HW⟩, ⟨%d0, H0⟩, ⟨%d1, H1⟩, ⟨%d2, H2⟩, ⟨%d3, H3⟩, ⟨%d4, H4⟩, ⟨%d5, H5⟩⟩
      iapply ((kernelRun0_B c (grid0.coords t) _ _ _ _ _ _ _ _ _ _ _ _ _ _ _ _ _ _ _ _ (fun h => h0 ((hcond0_0 t).mp h)) (iblk m c 0 t) (iblk m c 1 t) (iblk m c 2 t) _ (V m c main_arg1)).2.2.2.2.2 W _)
      isplitl [H0]; · iexact H0
      isplitl [H1]; · iexact H1
      isplitl [H2]; · iexact H2
      isplitl [H3]; · iexists _; iexact H3
      isplitl [H4]; · iexists _; iexact H4
      isplitl [H5]; · iexists _; iexact H5
      isplitl [HS0]; · iexact HS0
      isplitl [HS1]; · iexact HS1
      isplitl [HS2]; · iexact HS2
      isplitl [HS3]; · iexact HS3
      isplitl [Hq0]; · iexact Hq0
      isplitl [Hq1]; · iexact Hq1
      isplitl [Hh0]; · iexact Hh0
      isplitl [HW]; · iexact HW
      iintro ⟨H0, H1, H2, ⟨%e3, H3⟩, ⟨%e4, H4⟩, ⟨%e5, H5⟩, HS0, HS1, HS2, HS3, Hq0, Hq1, Hh0, ⟨%W', HW'⟩⟩
      isplitl [HS0 HS1 HS2 HS3 Hg Hq0 Hq1 Hh0]
      · isplitl [HS0 HS1 HS2 HS3]
        · isplitl [HS0]; · iexact HS0
          isplitl [HS1]; · iexact HS1
          isplitl [HS2]; · iexact HS2
          iexact HS3
        isplitl [Hg]
        · iexact Hg
        isplitl [Hq0 Hq1]
        · isplitl [Hq0]; · iexact Hq0
          iexact Hq1
        iexact Hh0
      isplitl [HW']
      · iexists W'; isplitr; · ipureintro; exact fun _ _ => Or.inl trivial
        iexact HW'
      isplitl [H0]; · iexact H0
      isplitl [H1]; · iexact H1
      isplitl [H2]; · iexact H2
      isplitl [H3]
      · unfold owns; iexists _; isplitr
        swap; · iexact H3
        ipureintro; exact View.read_writes_of_cover _ _ _ _ _ (cover0_B_3 c _ _ _ _ _ _ _ _ _ _ _ _ _ _ _ _ _ _ _ _ _ _ _ _ _ _ _)
      isplitl [H4]
      · unfold owns; iexists _; isplitr
        swap; · iexact H4
        ipureintro; exact View.read_writes_of_cover _ _ _ _ _ (cover0_B_4 c _ _ _ _ _ _ _ _ _ _ _ _ _ _ _ _ _ _ _ _ _ _ _ _ _ _ _)
      unfold owns; iexists _; isplitr
      swap; · iexact H5
      ipureintro; exact View.read_writes_of_cover _ _ _ _ _ (cover0_B_5 c _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦD`) is the invariant before the first point. -/
theorem hin (c : Dev nD) : Pipeline.ΦD osem0 spec0 H0 (V m) c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦD` back: the carried scratch's named contents are forgotten. -/
theorem Phi_out (c : Dev nD) (t : Fin (cfg0.N + 1)) (ht : t.val ≠ 0) : (dats m 0 c).Φ t ⊢ Pipeline.ΦD osem0 spec0 H0 (V m) c := by
  rw [show (dats m 0 c).Φ t = PhiS m c t.val (Nat.le_of_lt_succ t.isLt) from rfl, PhiS_pos m c _ _ ht, PhiD0_eq]
  iintro ⟨⟨HS0, HS1, HS2, HS3⟩, Hg, ⟨Hq0, Hq1⟩, Hh0⟩
  isplitl [HS0 HS1 HS2 HS3]
  · isplitl [HS0]
    · iexists _; iexact HS0
    isplitl [HS1]
    · iexact HS1
    isplitl [HS2]
    · iexact HS2
    iexact HS3
  isplitl [Hg]; · iexact Hg
  isplitl [Hq0 Hq1]
  · isplitl [Hq0]; · iexact Hq0
    iexact Hq1
  iexact Hh0

/-- The same after the last point. -/
theorem hout (c : Dev nD) : (dats m 0 c).Φ (Fin.last cfg0.N) ⊢ Pipeline.ΦD osem0 spec0 H0 (V m) c :=
  Phi_out m c _ (by rw [Fin.val_last]; have : cfg0.N = 12 := N_0; omega)

/-! ## The run and the frame -/

-- `θ_run_frame_dma`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- THE FRAME: `Cert.quiescent_ProjIdeal`'s statement (Defs.lean) at any `F` — Proof.lean cites it at `Bits`:
    `theorem Cert.Proof.claim : Cert.Claim := ⟨Cert.ProjIdeal.Gen.facts, fun m ρ _ => Cert.ProjRun.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.ProjRun

end
-- ==== Proof.ResidualScratch.lean ====
module

public import proofs.«01_k».proof.Proof.Gen.ResidualIdeal.Value
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.ResidualIdeal.Value

open Cert.ResidualIdeal Cert.ResidualIdeal.Gen

variable (m : (ℓ : Loc nD τ sig) → Buf (Elt Ideal) ℓ)

/-- Where each window's block sits at every grid point. -/
theorem idx : ∀ t : Fin cfg0.N, win0_0.index t = ![0, 0] ∧ win0_1.index t = ![t.val % 6, 0] ∧ win0_2.index t = ![t.val % 6, 0]
    ∧ win0_3.index t = ![0, t.val / 6] ∧ win0_4.index t = ![t.val % 6, t.val / 6] ∧ win0_5.index t = ![t.val % 6, t.val / 6]
    ∧ win0_6.index t = ![t.val % 6, t.val / 6] ∧ win0_7.index t = ![t.val % 6, t.val / 6] :=
  (by decide +kernel : ∀ t : Fin grid0.N, _)

/-- The column of the scale that the body reads for the `b`-th 128-column run of a block. -/
theorem scale_col (t : Fin cfg0.N) (b : BitVec 32) (hb : b.toNat < 8) :
    k0_off1 (grid0.coords t) b 1 = t.val / 6 * 8 + b.toNat := by
  have hc : ∀ t : Fin grid0.N, (grid0.coords t 0).val = t.val / 6 ∧ t.val / 6 < 6 := by decide +kernel
  have h := hc t
  show ((BitVec.ofNat 32 (grid0.coords t 0).val) * 8#32 + b).toNat = _
  rw [h.1, BitVec.toNat_add, BitVec.toNat_mul, BitVec.toNat_ofNat, BitVec.toNat_ofNat]
  have h2 := h.2
  rw [Nat.mod_eq_of_lt (a := t.val / 6) (by omega)]
  omega

/-- A column of a block belongs to one of the 48 scale columns. -/
theorem scale_col_lt (t : Fin cfg0.N) (j : Fin 1024) : t.val / 6 * 8 + j.val / 128 < 48 := by
  have h := t.isLt
  have h2 : t.val < 36 := lt_of_lt_of_eq t.isLt N_0
  omega

/-- The block of the dequantised weight that grid point `t` sees. -/
def wblk (c : Dev nD) (t : Fin cfg0.N) (k : Fin 2048) (j : Fin 1024) : EReal :=
  (show EReal from iblk m c 3 t (ix2 k j)) * (show EReal from iblk m c 0 t (ix2 (⟨k / 128, by omega⟩ : Fin 16) (⟨t.val / 6 * 8 + j.val / 128, scale_col_lt t j⟩ : Fin 48)))

/-- Two products of a code and a scale are equal when their indices are. -/
theorem tile_at (B : Vec Ideal S2048x1024 .fp8e4m3) (S : Vec Ideal S16x48 .f32) (k k' : Fin 2048) (j j' : Fin 1024) (a a' : Fin 16) (b b' : Fin 48)
    (hk : k.val = k'.val) (hj : j.val = j'.val) (ha : a.val = a'.val) (hb : b.val = b'.val) :
    (show EReal from B (ix2 k j)) * (show EReal from S (ix2 a b)) = (show EReal from B (ix2 k' j')) * (show EReal from S (ix2 a' b')) := by
  rw [Fin.ext hk, Fin.ext hj, Fin.ext ha, Fin.ext hb]

set_option maxHeartbeats 2000000 in
/-- At the first grid point of a block column the body fills the carried scratch with the dequantised block: each of the
    128 stored tiles is codes times one scale. -/
theorem scratch_first (c : Dev nD) (t : Fin cfg0.N) (h0 : t.val % 6 = 0) (k : Fin 2048) (j : Fin 1024) : (outsAt0 m c t.val t.isLt).2.2 (ix2 k j) = wblk m c t k j := by
  rw [outsAt0_A m c t h0]
  frame_out
  canon_tiles x h
  all_goals
    open_payloads
    pointwise
    refine tile_at (iblk m c 3 t) (iblk m c 0 t) _ k _ j _ _ _ _ ?_ ?_ ?_ ?_
    · exact h0.symm
    · exact h1.symm
    · show _ = k.val / 128
      have h0' : k.val = _ := h0
      rw [h0']
      simp only [k0_off1, k0_off2, k0_off3, k0_off4, k0_off5, k0_off6, k0_off7, k0_off8, k0_off9, k0_off10, k0_off11, k0_off12,
        k0_off13, k0_off14, k0_off15, k0_off16, Matrix.cons_val_zero]
      omega
    · have h1' : j.val = _ := h1
      refine (scale_col t _ (by decide)).trans ?_
      show _ = t.val / 6 * 8 + j.val / 128
      rw [h1']
      simp only [BitVec.toNat_ofNat]
      omega

end Cert.ResidualIdeal.Value

end
-- ==== Proof.ResidualBody.lean ====
module

public import proofs.«01_k».proof.Proof.ResidualScratch
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.ResidualIdeal.Value

open Cert.ResidualIdeal Cert.ResidualIdeal.Gen

variable (m : (ℓ : Loc nD τ sig) → Buf (Elt Ideal) ℓ)

/-- The stored sum, read at an entry. -/
theorem pay148_at (A : FVec Ideal S512x2048 .bf16) (W : Vec Ideal S2048x1024 .bf16) (X : Vec Ideal S512x1024 .bf16) (R : Vec Ideal S512x1024 .f32)
    (i : Fin 512) (j : Fin 1024) :
    k0_pay148 A W X R (ix2 i j) = (show EReal from X (ix2 i j)) + (∑ k : Fin 2048, (show EReal from A (ix2 i k)) * (show EReal from W (ix2 k j))) + (show EReal from R (ix2 i j)) := by
  pointwise [k0_pay148]

/-- The block of the dequantised activations that grid point `t` sees. -/
def hblk (c : Dev nD) (t : Fin cfg0.N) (i : Fin 512) (k : Fin 2048) : EReal :=
  (show EReal from iblk m c 1 t (ix2 i k)) * (show EReal from iblk m c 2 t (ix2 i (⟨k / 128, by omega⟩ : Fin 16)))

/-- The stored sum at an entry, from the entries of its two factors. -/
theorem sum_at (A : FVec Ideal S512x2048 .bf16) (W : Vec Ideal S2048x1024 .bf16) (X : Vec Ideal S512x1024 .bf16) (R : Vec Ideal S512x1024 .f32)
    (i : Fin 512) (j : Fin 1024) (a w : Fin 2048 → EReal) (h : ∀ k, A (ix2 i k) = a k) (hw : ∀ k, W (ix2 k j) = w k) :
    k0_pay148 A W X R (ix2 i j) = (show EReal from X (ix2 i j)) + (∑ k : Fin 2048, a k * w k) + (show EReal from R (ix2 i j)) := by
  rw [pay148_at]
  simp only [h, hw]

/-- Sixteen pieces of 128 columns side by side, read at an entry: if each piece is the matching run of columns of `G`,
    the whole is `G`. -/
theorem cat_at (G : Fin 512 → Fin 2048 → EReal) (f0 f1 f2 f3 f4 f5 f6 f7 f8 f9 f10 f11 f12 f13 f14 f15 : S512x128.Idx → EReal)
    (hc : Shape.Concatenates [S512x128, S512x128, S512x128, S512x128, S512x128, S512x128, S512x128, S512x128, S512x128, S512x128, S512x128, S512x128, S512x128, S512x128, S512x128, S512x128] S512x2048 1)
    (h0 : ∀ (i : Fin 512) (l : Fin 128), f0 (ix2 i l) = G i ⟨0 * 128 + l.val, by omega⟩)
    (h1 : ∀ (i : Fin 512) (l : Fin 128), f1 (ix2 i l) = G i ⟨1 * 128 + l.val, by omega⟩)
    (h2 : ∀ (i : Fin 512) (l : Fin 128), f2 (ix2 i l) = G i ⟨2 * 128 + l.val, by omega⟩)
    (h3 : ∀ (i : Fin 512) (l : Fin 128), f3 (ix2 i l) = G i ⟨3 * 128 + l.val, by omega⟩)
    (h4 : ∀ (i : Fin 512) (l : Fin 128), f4 (ix2 i l) = G i ⟨4 * 128 + l.val, by omega⟩)
    (h5 : ∀ (i : Fin 512) (l : Fin 128), f5 (ix2 i l) = G i ⟨5 * 128 + l.val, by omega⟩)
    (h6 : ∀ (i : Fin 512) (l : Fin 128), f6 (ix2 i l) = G i ⟨6 * 128 + l.val, by omega⟩)
    (h7 : ∀ (i : Fin 512) (l : Fin 128), f7 (ix2 i l) = G i ⟨7 * 128 + l.val, by omega⟩)
    (h8 : ∀ (i : Fin 512) (l : Fin 128), f8 (ix2 i l) = G i ⟨8 * 128 + l.val, by omega⟩)
    (h9 : ∀ (i : Fin 512) (l : Fin 128), f9 (ix2 i l) = G i ⟨9 * 128 + l.val, by omega⟩)
    (h10 : ∀ (i : Fin 512) (l : Fin 128), f10 (ix2 i l) = G i ⟨10 * 128 + l.val, by omega⟩)
    (h11 : ∀ (i : Fin 512) (l : Fin 128), f11 (ix2 i l) = G i ⟨11 * 128 + l.val, by omega⟩)
    (h12 : ∀ (i : Fin 512) (l : Fin 128), f12 (ix2 i l) = G i ⟨12 * 128 + l.val, by omega⟩)
    (h13 : ∀ (i : Fin 512) (l : Fin 128), f13 (ix2 i l) = G i ⟨13 * 128 + l.val, by omega⟩)
    (h14 : ∀ (i : Fin 512) (l : Fin 128), f14 (ix2 i l) = G i ⟨14 * 128 + l.val, by omega⟩)
    (h15 : ∀ (i : Fin 512) (l : Fin 128), f15 (ix2 i l) = G i ⟨15 * 128 + l.val, by omega⟩)
    (i : Fin 512) (k : Fin 2048) :
    concatenate S512x2048 1 [⟨S512x128, f0⟩, ⟨S512x128, f1⟩, ⟨S512x128, f2⟩, ⟨S512x128, f3⟩, ⟨S512x128, f4⟩, ⟨S512x128, f5⟩, ⟨S512x128, f6⟩, ⟨S512x128, f7⟩, ⟨S512x128, f8⟩, ⟨S512x128, f9⟩, ⟨S512x128, f10⟩, ⟨S512x128, f11⟩, ⟨S512x128, f12⟩, ⟨S512x128, f13⟩, ⟨S512x128, f14⟩, ⟨S512x128, f15⟩] hc (ix2 i k) = G i k := by
  refine (concatenate_ofFn_apply (t := S512x2048) (s₁ := S512x128) 1 (![f0, f1, f2, f3, f4, f5, f6, f7, f8, f9, f10, f11, f12, f13, f14, f15] : Fin 16 → S512x128.Idx → EReal) hc rfl 128 rfl (ix2 i k)
    ⟨k.val / 128, by omega⟩ rfl (ix2 i (⟨k.val % 128, by omega⟩ : Fin 128)) rfl ?_).trans ?_
  · intro b hb
    match b with
    | ⟨0, _⟩ => rfl
    | ⟨1, _⟩ => exact absurd rfl hb
  · have h : ∀ (n : Fin 16) (i : Fin 512) (l : Fin 128), (![f0, f1, f2, f3, f4, f5, f6, f7, f8, f9, f10, f11, f12, f13, f14, f15] : Fin 16 → S512x128.Idx → EReal) n (ix2 i l)
        = G i ⟨n.val * 128 + l.val, by omega⟩ := by
      intro n i l
      match n with
      | ⟨0, _⟩ => exact h0 i l
      | ⟨1, _⟩ => exact h1 i l
      | ⟨2, _⟩ => exact h2 i l
      | ⟨3, _⟩ => exact h3 i l
      | ⟨4, _⟩ => exact h4 i l
      | ⟨5, _⟩ => exact h5 i l
      | ⟨6, _⟩ => exact h6 i l
      | ⟨7, _⟩ => exact h7 i l
      | ⟨8, _⟩ => exact h8 i l
      | ⟨9, _⟩ => exact h9 i l
      | ⟨10, _⟩ => exact h10 i l
      | ⟨11, _⟩ => exact h11 i l
      | ⟨12, _⟩ => exact h12 i l
      | ⟨13, _⟩ => exact h13 i l
      | ⟨14, _⟩ => exact h14 i l
      | ⟨15, _⟩ => exact h15 i l
      | ⟨n + 16, hn⟩ => exact absurd hn (by omega)
    refine (h _ _ _).trans ?_
    congr 1
    apply Fin.ext
    show k.val / 128 * 128 + k.val % 128 = k.val
    omega

/-- Two products of an activation code and its scale are equal when their indices are. -/
theorem scaled_at (B : Vec Ideal S512x2048 .fp8e4m3) (S : Vec Ideal S512x16 .f32) (i i' : Fin 512) (k k' : Fin 2048) (n : ℕ) (a a' : Fin 16)
    (hi : i.val = i'.val) (hk : k.val = k'.val) (ha : a.val = n) (hn : n = a'.val) :
    (show EReal from B (ix2 i k)) * (show EReal from S (ix2 i a)) = (show EReal from B (ix2 i' k')) * (show EReal from S (ix2 i' a')) := by
  rw [Fin.ext hi, Fin.ext hk, Fin.ext (ha.trans hn)]

set_option maxHeartbeats 2000000 in
/-- What the body stores at a later grid point, from the scratch it finds. -/
theorem sum_next (c : Dev nD) (t : Fin cfg0.N) (h0 : ¬ t.val % 6 = 0) (i : Fin 512) (j : Fin 1024) : (outsAt0 m c t.val t.isLt).1 (ix2 i j)
   = (show EReal from iblk m c 4 t (ix2 i j)) + (∑ k : Fin 2048, hblk m c t i k * (show EReal from (outsAt0 m c (t.val - 1) (Nat.lt_of_le_of_lt (Nat.sub_le _ _) t.isLt)).2.2 (ix2 k j)))
     + (show EReal from iblk m c 5 t (ix2 i j)) := by
  rw [outsAt0_B m c t h0]
  frame_out
  refine sum_at _ _ _ _ _ _ (fun k => hblk m c t i k) _ ?_ ?_
  · intro k
    rw [(hs0_2 t).read_unread, (hs0_1 t).read_unread]
    refine cat_at (fun i k => hblk m c t i k) _ _ _ _ _ _ _ _ _ _ _ _ _ _ _ _ _ ?_ ?_ ?_ ?_ ?_ ?_ ?_ ?_ ?_ ?_ ?_ ?_ ?_ ?_ ?_ ?_ i k
    all_goals
      intro i l
      pointwise [k0_pay130, k0_pay131, k0_pay132, k0_pay133, k0_pay134, k0_pay135, k0_pay136, k0_pay137, k0_pay138, k0_pay139,
        k0_pay140, k0_pay141, k0_pay142, k0_pay143, k0_pay144, k0_pay145, k0_pay146, k0_pay147, hblk]
      refine scaled_at (iblk m c 1 t) (iblk m c 2 t) _ _ _ _ _ _ _ rfl ?_ rfl ?_
      · dsimp only <;> omega
      · dsimp only <;> omega
  · intro k
    rw [read_unread_whole]

set_option maxHeartbeats 2000000 in
/-- What the body stores at the first grid point of a block column. -/
theorem sum_first (c : Dev nD) (t : Fin cfg0.N) (h0 : t.val % 6 = 0) (i : Fin 512) (j : Fin 1024) : (outsAt0 m c t.val t.isLt).1 (ix2 i j)
   = (show EReal from iblk m c 4 t (ix2 i j)) + (∑ k : Fin 2048, hblk m c t i k * wblk m c t k j)
     + (show EReal from iblk m c 5 t (ix2 i j)) := by
  rw [outsAt0_A m c t h0]
  frame_out
  refine sum_at _ _ _ _ _ _ (fun k => hblk m c t i k) (fun k => wblk m c t k j) ?_ ?_
  · intro k
    try rw [(hs0_2 t).read_unread, (hs0_1 t).read_unread]
    refine cat_at (fun i k => hblk m c t i k) _ _ _ _ _ _ _ _ _ _ _ _ _ _ _ _ _ ?_ ?_ ?_ ?_ ?_ ?_ ?_ ?_ ?_ ?_ ?_ ?_ ?_ ?_ ?_ ?_ i k
    all_goals
      intro i l
      pointwise [k0_pay130, k0_pay131, k0_pay132, k0_pay133, k0_pay134, k0_pay135, k0_pay136, k0_pay137, k0_pay138, k0_pay139,
        k0_pay140, k0_pay141, k0_pay142, k0_pay143, k0_pay144, k0_pay145, k0_pay146, k0_pay147, hblk]
      refine scaled_at (iblk m c 1 t) (iblk m c 2 t) _ _ _ _ _ _ _ rfl ?_ rfl ?_
      · dsimp only <;> omega
      · dsimp only <;> omega
  · intro k
    refine Eq.trans ?_ (scratch_first m c t h0 k j)
    rw [View.readCov_eq_canon', outsAt0_A m c t h0]
    frame_out
    refine congrArg (View.canon _) ?_
    funext a
    match a with
    | ⟨0, _⟩ => exact Fin.ext (by show 0 + 1 * k.val = k.val; omega)
    | ⟨1, _⟩ => exact Fin.ext (by show 0 + 1 * j.val = j.val; omega)

/-- The second output is the first one rounded; over the reals they agree. -/
theorem rounded_first (c : Dev nD) (t : Fin cfg0.N) (h0 : t.val % 6 = 0) (i : Fin 512) (j : Fin 1024) : (outsAt0 m c t.val t.isLt).2.1 (ix2 i j)
   = (outsAt0 m c t.val t.isLt).1 (ix2 i j) := by
  rw [outsAt0_A m c t h0]
  frame_out
  rfl

/-- The second output is the first one rounded; over the reals they agree. -/
theorem rounded_next (c : Dev nD) (t : Fin cfg0.N) (h0 : ¬ t.val % 6 = 0) (i : Fin 512) (j : Fin 1024) : (outsAt0 m c t.val t.isLt).2.1 (ix2 i j)
   = (outsAt0 m c t.val t.isLt).1 (ix2 i j) := by
  rw [outsAt0_B m c t h0]
  frame_out
  rfl

/-- At the other points the scratch stays. -/
theorem scratch_next (c : Dev nD) (t : Fin cfg0.N) (h0 : ¬ t.val % 6 = 0)  : (outsAt0 m c t.val t.isLt).2.2
   = (outsAt0 m c (t.val - 1) (Nat.lt_of_le_of_lt (Nat.sub_le _ _) t.isLt)).2.2 := by
  rw [outsAt0_B m c t h0]
  rfl

end Cert.ResidualIdeal.Value

end
-- ==== Proof.ResidualSpec.lean ====
module

public import proofs.«01_k».proof.Proof.Gen.ResidualReferenceIdeal.Value
public import Idealize.ShloMosaic.Lib.Pipeline.ValueKit

@[expose] public section

set_option maxRecDepth 16384

noncomputable section

open Idealize.ShloMosaic Idealize.ShloMosaic.TcCoe Idealize.SL.Sem

namespace Cert.ResidualSpec

open Cert.ResidualReferenceIdeal Cert.ResidualReferenceIdeal.Gen

/-- One entry of the dequantised weight: the code at `(k, j)` times the scale of its 128 × 128 block. -/
def wdeq (w2s : FVec Ideal S16x48 .f32) (w2 : Vec Ideal S2048x6144 .fp8e4m3) (k : Fin 2048) (j : Fin 6144) : EReal :=
  (show EReal from w2 (ix2 k j)) * w2s (ix2 (⟨k / 128, by omega⟩ : Fin 16) (⟨j / 128, by omega⟩ : Fin 48))

/-- One entry of the residual stream: the input, plus the shared expert's product of the dequantised
    activations and the dequantised weight, plus the routed experts' part. -/
def x1At (w2s : FVec Ideal S16x48 .f32) (h : Vec Ideal S3072x2048 .fp8e4m3) (hs : FVec Ideal S3072x16 .f32)
    (w2 : Vec Ideal S2048x6144 .fp8e4m3) (x : FVec Ideal S3072x6144 .bf16) (routed : FVec Ideal S3072x6144 .f32)
    (i : Fin 3072) (j : Fin 6144) : EReal :=
  (show EReal from x (ix2 i j))
    + (∑ k : Fin 2048, ((show EReal from h (ix2 i k)) * hs (ix2 i (⟨k / 128, by omega⟩ : Fin 16))) * wdeq w2s w2 k j)
    + routed (ix2 i j)

/-- The reference's first result, read at an entry, is the formula. -/
theorem reference_at (w2s : FVec Ideal S16x48 .f32) (h : Vec Ideal S3072x2048 .fp8e4m3) (hs : FVec Ideal S3072x16 .f32)
    (w2 : Vec Ideal S2048x6144 .fp8e4m3) (x : FVec Ideal S3072x6144 .bf16) (routed : FVec Ideal S3072x6144 .f32)
    (i : Fin 3072) (j : Fin 6144) :
    k0_pay1 (F := Ideal) h hs w2 w2s x routed (ix2 i j) = x1At w2s h hs w2 x routed i j := by
  pointwise [k0_pay1, x1At, wdeq]

/-- The reference's second result, read at an entry, is the formula too: rounding to bf16 is the identity over the reals. -/
theorem reference_rounded_at (w2s : FVec Ideal S16x48 .f32) (h : Vec Ideal S3072x2048 .fp8e4m3) (hs : FVec Ideal S3072x16 .f32)
    (w2 : Vec Ideal S2048x6144 .fp8e4m3) (x : FVec Ideal S3072x6144 .bf16) (routed : FVec Ideal S3072x6144 .f32)
    (i : Fin 3072) (j : Fin 6144) :
    k0_pay2 (F := Ideal) h hs w2 w2s x routed (ix2 i j) = x1At w2s h hs w2 x routed i j := by
  refine Eq.trans ?_ (reference_at w2s h hs w2 x routed i j)
  pointwise [k0_pay2]

/-- The residual stream as an array. -/
def x1 (w2s : FVec Ideal S16x48 .f32) (h : Vec Ideal S3072x2048 .fp8e4m3) (hs : FVec Ideal S3072x16 .f32)
    (w2 : Vec Ideal S2048x6144 .fp8e4m3) (x : FVec Ideal S3072x6144 .bf16) (routed : FVec Ideal S3072x6144 .f32) :
    S3072x6144.Idx → EReal :=
  fun q => x1At w2s h hs w2 x routed (q 0) (q 1)

/-- The array at an index whose coordinates are `i` and `j`. -/
theorem x1_apply (w2s : FVec Ideal S16x48 .f32) (h : Vec Ideal S3072x2048 .fp8e4m3) (hs : FVec Ideal S3072x16 .f32)
    (w2 : Vec Ideal S2048x6144 .fp8e4m3) (x : FVec Ideal S3072x6144 .bf16) (routed : FVec Ideal S3072x6144 .f32)
    (q : S3072x6144.Idx) (i : Fin 3072) (j : Fin 6144) (hi : (q 0).val = i.val) (hj : (q 1).val = j.val) :
    x1At w2s h hs w2 x routed i j = x1 w2s h hs w2 x routed q := by
  rw [← show q 0 = i from Fin.ext hi, ← show q 1 = j from Fin.ext hj]
  rfl

/-- The reference's first result is the residual stream. -/
theorem reference_eq (w2s : FVec Ideal S16x48 .f32) (h : Vec Ideal S3072x2048 .fp8e4m3) (hs : FVec Ideal S3072x16 .f32)
    (w2 : Vec Ideal S2048x6144 .fp8e4m3) (x : FVec Ideal S3072x6144 .bf16) (routed : FVec Ideal S3072x6144 .f32) :
    k0_pay1 (F := Ideal) h hs w2 w2s x routed = x1 w2s h hs w2 x routed := by
  funext q
  rw [eq_ix2 q]
  exact reference_at w2s h hs w2 x routed (q 0) (q 1)

/-- The reference's second result is the residual stream. -/
theorem reference_rounded_eq (w2s : FVec Ideal S16x48 .f32) (h : Vec Ideal S3072x2048 .fp8e4m3) (hs : FVec Ideal S3072x16 .f32)
    (w2 : Vec Ideal S2048x6144 .fp8e4m3) (x : FVec Ideal S3072x6144 .bf16) (routed : FVec Ideal S3072x6144 .f32) :
    k0_pay2 (F := Ideal) h hs w2 w2s x routed = x1 w2s h hs w2 x routed := by
  funext q
  rw [eq_ix2 q]
  exact reference_rounded_at w2s h hs w2 x routed (q 0) (q 1)

end Cert.ResidualSpec

end
-- ==== Proof.ResidualKernel.lean ====
module

public import proofs.«01_k».proof.Proof.ResidualBody
public import proofs.«01_k».proof.Proof.ResidualSpec
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.ResidualIdeal.Value

open Cert.ResidualIdeal Cert.ResidualIdeal.Gen

variable (m : (ℓ : Loc nD τ sig) → Buf (Elt Ideal) ℓ)

/-- Grid points count to 36. -/
theorem point_lt (t : Fin cfg0.N) : t.val < 36 := lt_of_lt_of_eq t.isLt N_0

/-- Argument 0, at its type. -/
abbrev A0 (c : Dev nD) : FVec Ideal S16x48 .f32 := m ((c : Thread nD τ).loc main_arg0)
/-- Argument 1, at its type. -/
abbrev A1 (c : Dev nD) : Vec Ideal S3072x2048 .fp8e4m3 := m ((c : Thread nD τ).loc main_arg1)
/-- Argument 2, at its type. -/
abbrev A2 (c : Dev nD) : FVec Ideal S3072x16 .f32 := m ((c : Thread nD τ).loc main_arg2)
/-- Argument 3, at its type. -/
abbrev A3 (c : Dev nD) : Vec Ideal S2048x6144 .fp8e4m3 := m ((c : Thread nD τ).loc main_arg3)
/-- Argument 4, at its type. -/
abbrev A4 (c : Dev nD) : FVec Ideal S3072x6144 .bf16 := m ((c : Thread nD τ).loc main_arg4)
/-- Argument 5, at its type. -/
abbrev A5 (c : Dev nD) : FVec Ideal S3072x6144 .f32 := m ((c : Thread nD τ).loc main_arg5)

/-- The block of the dequantised weight is the block of columns `t / 6` of the dequantised weight. -/
theorem wblk_eq (c : Dev nD) (t : Fin cfg0.N) (k : Fin 2048) (j : Fin 1024) :
    wblk m c t k j = ResidualSpec.wdeq (A0 m c) (A3 m c) k ⟨t.val / 6 * 1024 + j.val, by have := point_lt t; omega⟩ := by
  have := point_lt t
  unfold wblk ResidualSpec.wdeq
  refine congrArg₂ (fun a b : EReal => a * b) ?_ ?_
  · blk_ext [iblk, V, idx t]
  · blk_ext [iblk, V, idx t]

/-- The carried scratch holds, after every grid point, the dequantised block of its block column. -/
theorem scratch (c : Dev nD) : ∀ (n : ℕ) (hn : n < cfg0.N) (k : Fin 2048) (j : Fin 1024),
    (outsAt0 m c n hn).2.2 (ix2 k j) = wblk m c ⟨n, hn⟩ k j := by
  intro n
  induction n with
  | zero => intro hn k j; exact scratch_first m c ⟨0, hn⟩ rfl k j
  | succ n ih =>
    intro hn k j
    by_cases h0 : (n + 1) % 6 = 0
    · exact scratch_first m c ⟨n + 1, hn⟩ h0 k j
    · have e := congrFun (scratch_next m c ⟨n + 1, hn⟩ h0) (ix2 k j)
      refine e.trans ((ih (by omega) k j).trans ?_)
      rw [wblk_eq, wblk_eq]
      congr 1
      apply Fin.ext
      show n / 6 * 1024 + j.val = (n + 1) / 6 * 1024 + j.val
      omega

/-- What the body stores at any grid point. -/
theorem stored (c : Dev nD) (t : Fin cfg0.N) (i : Fin 512) (j : Fin 1024) : (outsAt0 m c t.val t.isLt).1 (ix2 i j)
   = (show EReal from iblk m c 4 t (ix2 i j)) + (∑ k : Fin 2048, hblk m c t i k * wblk m c t k j)
     + (show EReal from iblk m c 5 t (ix2 i j)) := by
  by_cases h0 : t.val % 6 = 0
  · exact sum_first m c t h0 i j
  · rw [sum_next m c t h0 i j]
    have e : ∀ k, (show EReal from (outsAt0 m c (t.val - 1) (Nat.lt_of_le_of_lt (Nat.sub_le _ _) t.isLt)).2.2 (ix2 k j)) = wblk m c t k j := by
      intro k
      refine Eq.trans ?_ (scratch m c t.val t.isLt k j)
      exact (congrFun (scratch_next m c t h0) (ix2 k j)).symm
    simp only [e]

/-- The second output's block is the first one's. -/
theorem stored_rounded (c : Dev nD) (t : Fin cfg0.N) (i : Fin 512) (j : Fin 1024) :
    (outsAt0 m c t.val t.isLt).2.1 (ix2 i j) = (outsAt0 m c t.val t.isLt).1 (ix2 i j) := by
  by_cases h0 : t.val % 6 = 0
  · exact rounded_first m c t h0 i j
  · exact rounded_next m c t h0 i j

/-- What the body stores is its block of the residual stream. -/
theorem stored_eq (c : Dev nD) (t : Fin cfg0.N) (i : Fin 512) (j : Fin 1024) : (outsAt0 m c t.val t.isLt).1 (ix2 i j)
   = ResidualSpec.x1At (A0 m c) (A1 m c) (A2 m c) (A3 m c) (A4 m c) (A5 m c)
      ⟨t.val % 6 * 512 + i.val, by omega⟩ ⟨t.val / 6 * 1024 + j.val, by have := point_lt t; omega⟩ := by
  have := point_lt t
  rw [stored]
  unfold ResidualSpec.x1At hblk
  simp only [wblk_eq]
  refine congrArg₂ (fun a b : EReal => a + b) (congrArg₂ (fun a b : EReal => a + b) ?_ (Finset.sum_congr rfl fun k _ => congrArg₂ (fun a b : EReal => a * b) (congrArg₂ (fun a b : EReal => a * b) ?_ ?_) rfl)) ?_
  · blk_ext [iblk, V, idx t]
  · blk_ext [iblk, V, idx t]
  · blk_ext [iblk, V, idx t]
  · blk_ext [iblk, V, idx t]

/-- The first result array after the run is the residual stream. -/
theorem result (c : Dev nD) : (dats m 0 c).arrAt 6 (cfgs 0).N = ResidualSpec.x1 (A0 m c) (A1 m c) (A2 m c) (A3 m c) (A4 m c) (A5 m c) := by
  refine (dats m 0 c).arrAt_eq_of_covers 6 _ (by decide +kernel) fun t _ y => ?_
  have := point_lt t
  blk_simp
  rw [after0_6]
  idx_vars y
  rw [stored_eq]
  refine ResidualSpec.x1_apply (A0 m c) (A1 m c) (A2 m c) (A3 m c) (A4 m c) (A5 m c) _ _ _ ?_ ?_
  · blk_simp [idx t]
  · blk_simp [idx t]

/-- The second result array after the run is the residual stream. -/
theorem result_rounded (c : Dev nD) : (dats m 0 c).arrAt 7 (cfgs 0).N = ResidualSpec.x1 (A0 m c) (A1 m c) (A2 m c) (A3 m c) (A4 m c) (A5 m c) := by
  refine (dats m 0 c).arrAt_eq_of_covers 7 _ (by decide +kernel) fun t _ y => ?_
  have := point_lt t
  blk_simp
  rw [after0_7]
  idx_vars y
  rw [stored_rounded, stored_eq]
  refine ResidualSpec.x1_apply (A0 m c) (A1 m c) (A2 m c) (A3 m c) (A4 m c) (A5 m c) _ _ _ ?_ ?_
  · blk_simp [idx t]
  · blk_simp [idx t]

end Cert.ResidualIdeal.Value

end
-- ==== Proof.ResidualAlgebraic.lean ====
module

public import proofs.«01_k».proof.Defs
public import proofs.«01_k».proof.Proof.ResidualKernel

@[expose] public section

set_option maxRecDepth 16384

noncomputable section

open Idealize.ShloMosaic Idealize.ShloMosaic.TcCoe Idealize.SL.Sem

namespace Cert.Proof

instance : Cert.ResidualIdeal.Facts := Cert.ResidualIdeal.Gen.facts
instance : Cert.ResidualReferenceIdeal.Facts := Cert.ResidualReferenceIdeal.Gen.facts

/-- Kernel and reference of the residual call end with the same arrays over the reals. -/
theorem residual_algebraic :
    Cert.algebraic_ResidualIdeal_ResidualReferenceIdeal (hResidualIdeal := Cert.ResidualIdeal.Gen.facts)
      (hResidualReferenceIdeal := Cert.ResidualReferenceIdeal.Gen.facts) := by
  intro m g m' g' _ hag
  refine ⟨fun c => Cert.ResidualSpec.x1 (Cert.ResidualIdeal.Value.A0 m c) (Cert.ResidualIdeal.Value.A1 m c) (Cert.ResidualIdeal.Value.A2 m c)
      (Cert.ResidualIdeal.Value.A3 m c) (Cert.ResidualIdeal.Value.A4 m c) (Cert.ResidualIdeal.Value.A5 m c),
    fun c => Cert.ResidualSpec.x1 (Cert.ResidualIdeal.Value.A0 m c) (Cert.ResidualIdeal.Value.A1 m c) (Cert.ResidualIdeal.Value.A2 m c)
      (Cert.ResidualIdeal.Value.A3 m c) (Cert.ResidualIdeal.Value.A4 m c) (Cert.ResidualIdeal.Value.A5 m c), ?_, ?_⟩
  · exact (θ_run (Cert.ResidualIdeal.defs (F := Ideal)) _ _).mono
      (fun _ h c => ⟨(h c).1.trans (Cert.ResidualIdeal.Value.result m c), (h c).2.1.trans (Cert.ResidualIdeal.Value.result_rounded m c), (h c).2.2⟩)
      (Cert.ResidualIdeal.Value.run_blocks (F := Ideal) m g)
  refine (θ_run (Cert.ResidualReferenceIdeal.defs (F := Ideal)) _ _).mono (fun _ h c => ⟨(h c).1.trans ?_, (h c).2.1.trans ?_, (h c).2.2⟩)
    (Cert.ResidualReferenceIdeal.Value.run (F := Ideal) m' g')
  · obtain ⟨e0, e1, e2, e3, e4, e5⟩ := hag c
    refine (Cert.ResidualSpec.reference_eq _ _ _ _ _ _).trans ?_
    rw [e0, e1, e2, e3, e4, e5]
  · obtain ⟨e0, e1, e2, e3, e4, e5⟩ := hag c
    refine (Cert.ResidualSpec.reference_rounded_eq _ _ _ _ _ _).trans ?_
    rw [e0, e1, e2, e3, e4, e5]

end Cert.Proof

end
-- ==== Proof.ProjValue.lean ====
/- The projecting call's arrays after the run, block by block: block `t` of an output is what point `t` wrote. -/
module

public import proofs.«01_k».proof.Proof.ProjFrame
public import Idealize.ShloMosaic.Lib.Pipeline.Value

@[expose] public section

noncomputable section

namespace Cert.ProjRun.Value

open Cert.ProjIdeal Cert.ProjIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 3's array: the run's contents for that window after the body (`Gen.outsAt0`: its component 0), read through the window's block. -/
theorem flushed3 (c : Dev nD) (t : Fin cfg0.N) :
    (dats m 0 c).flushed 3 t = (cfg0.win 3).cut (grid0.coords t) ((outsAt0 m c t.val t.isLt).1) := by
  show (cfg0.win 3).cut (grid0.coords t) ((dats m 0 c).after 3 t) = _
  rw [after0_3]

/-- … so at a point where case A runs, what its write-back would write is that case's NAMED TERM for the window (`Gen.out0_A_3`: the pieces
    its run found, read back) at the point's memrefs and input blocks, and for an output the case reads back what the point before left (`Gen.outsAt0` at `t - 1`) — by the frame's rewriting lemma for the case. -/
theorem flushed3_A (c : Dev nD) (t : Fin cfg0.N) (h0 : t.val % 12 = 0) :
    (dats m 0 c).flushed 3 t = (cfg0.win 3).cut (grid0.coords t) (out0_A_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (V m c main_arg1)) := by
  simp only [flushed3, outsAt0_A m c t h0]

/-- … so at a point where case B runs, what its write-back would write is that case's NAMED TERM for the window (`Gen.out0_B_3`: the pieces
    its run found, read back) at the point's memrefs and input blocks, and for an output the case reads back what the point before left (`Gen.outsAt0` at `t - 1`) — by the frame's rewriting lemma for the case. -/
theorem flushed3_B (c : Dev nD) (t : Fin cfg0.N) (h0 : ¬t.val % 12 = 0) :
    (dats m 0 c).flushed 3 t = (cfg0.win 3).cut (grid0.coords t) (out0_B_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (outsAt0 m c (t.val - 1) (Nat.lt_of_le_of_lt (Nat.sub_le _ _) t.isLt)).2.2.2 (V m c main_arg1)) := by
  simp only [flushed3, outsAt0_B m c t h0]

/-- The index map sends distinct grid points to distinct block indices (decided over the 12 points). -/
theorem idx_inj3 : ∀ t t' : Fin cfg0.N, win0_3.index t = win0_3.index t' → t = t' :=
  (by decide +kernel : ∀ t t' : Fin grid0.N, win0_3.index t = win0_3.index t' → t = t')

/-- So two flushing points' blocks share no array index (Lib/Pipeline/Cells.lean `Window.disjoint_blk`). -/
theorem disjoint3 : ∀ t t' : Fin cfg0.N, (cfg0.win 3).flush t = true → (cfg0.win 3).flush t' = true → t ≠ t' →
    Disjoint ((cfg0.win 3).blk t).view.set ((cfg0.win 3).blk t').view.set :=
  fun t t' _ _ hne => (cfg0.win 3).disjoint_blk fun h => hne (idx_inj3 t t' h)

/-- BLOCK `t` OF THE FINAL ARRAY, read back through the window, is what point `t` wrote back (`flushed3`), for every
    point that writes back: no other point's block meets it. -/
theorem blocks3 (c : Dev nD) (t : Fin cfg0.N) (hf : (cfg0.win 3).flush t = true) :
    ((cfg0.win 3).blk t).view.read (Elt F) ((dats m 0 c).arrAt 3 cfg0.N) = (dats m 0 c).flushed 3 t :=
  (dats m 0 c).read_blk_arrAt_eq_flushed 3 disjoint3 cfg0.N t t.isLt hf

/-- An index that no flushing point's block covers keeps output window 3's array contents at region entry. -/
theorem entry3 (c : Dev nD) (i : S3072x6144.Idx) (h : ∀ t : Fin cfg0.N, (cfg0.win 3).flush t = true → i ∉ ((cfg0.win 3).blk t).view.set) :
    (dats m 0 c).arrAt 3 cfg0.N i = V m c (Pipeline.arrRef spec0 3) i := by
  rw [(dats m 0 c).arrAt_apply_of_forall_not_mem 3 cfg0.N i (fun t _ hf => h t hf), A_eq]

/-- WHAT POINT `t` WRITES BACK to output window 4's array: the run's contents for that window after the body (`Gen.outsAt0`: its component 1), read through the window's block. -/
theorem flushed4 (c : Dev nD) (t : Fin cfg0.N) :
    (dats m 0 c).flushed 4 t = (cfg0.win 4).cut (grid0.coords t) ((outsAt0 m c t.val t.isLt).2.1) := by
  show (cfg0.win 4).cut (grid0.coords t) ((dats m 0 c).after 4 t) = _
  rw [after0_4]

/-- … so at a point where case A runs, what its write-back would write is that case's NAMED TERM for the window (`Gen.out0_A_4`: the pieces
    its run found, read back) at the point's memrefs and input blocks, and for an output the case reads back what the point before left (`Gen.outsAt0` at `t - 1`) — by the frame's rewriting lemma for the case. -/
theorem flushed4_A (c : Dev nD) (t : Fin cfg0.N) (h0 : t.val % 12 = 0) :
    (dats m 0 c).flushed 4 t = (cfg0.win 4).cut (grid0.coords t) (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (V m c main_arg1)) := by
  simp only [flushed4, outsAt0_A m c t h0]

/-- … so at a point where case B runs, what its write-back would write is that case's NAMED TERM for the window (`Gen.out0_B_4`: the pieces
    its run found, read back) at the point's memrefs and input blocks, and for an output the case reads back what the point before left (`Gen.outsAt0` at `t - 1`) — by the frame's rewriting lemma for the case. -/
theorem flushed4_B (c : Dev nD) (t : Fin cfg0.N) (h0 : ¬t.val % 12 = 0) :
    (dats m 0 c).flushed 4 t = (cfg0.win 4).cut (grid0.coords t) (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (outsAt0 m c (t.val - 1) (Nat.lt_of_le_of_lt (Nat.sub_le _ _) t.isLt)).2.2.2 (V m c main_arg1)) := by
  simp only [flushed4, outsAt0_B m c t h0]

/-- The index map sends distinct grid points to distinct block indices (decided over the 12 points). -/
theorem idx_inj4 : ∀ t t' : Fin cfg0.N, win0_4.index t = win0_4.index t' → t = t' :=
  (by decide +kernel : ∀ t t' : Fin grid0.N, win0_4.index t = win0_4.index t' → t = t')

/-- So two flushing points' blocks share no array index (Lib/Pipeline/Cells.lean `Window.disjoint_blk`). -/
theorem disjoint4 : ∀ t t' : Fin cfg0.N, (cfg0.win 4).flush t = true → (cfg0.win 4).flush t' = true → t ≠ t' →
    Disjoint ((cfg0.win 4).blk t).view.set ((cfg0.win 4).blk t').view.set :=
  fun t t' _ _ hne => (cfg0.win 4).disjoint_blk fun h => hne (idx_inj4 t t' h)

/-- BLOCK `t` OF THE FINAL ARRAY, read back through the window, is what point `t` wrote back (`flushed4`), for every
    point that writes back: no other point's block meets it. -/
theorem blocks4 (c : Dev nD) (t : Fin cfg0.N) (hf : (cfg0.win 4).flush t = true) :
    ((cfg0.win 4).blk t).view.read (Elt F) ((dats m 0 c).arrAt 4 cfg0.N) = (dats m 0 c).flushed 4 t :=
  (dats m 0 c).read_blk_arrAt_eq_flushed 4 disjoint4 cfg0.N t t.isLt hf

/-- An index that no flushing point's block covers keeps output window 4's array contents at region entry. -/
theorem entry4 (c : Dev nD) (i : S48x3072.Idx) (h : ∀ t : Fin cfg0.N, (cfg0.win 4).flush t = true → i ∉ ((cfg0.win 4).blk t).view.set) :
    (dats m 0 c).arrAt 4 cfg0.N i = V m c (Pipeline.arrRef spec0 4) i := by
  rw [(dats m 0 c).arrAt_apply_of_forall_not_mem 4 cfg0.N i (fun t _ hf => h t hf), A_eq]

/-- WHAT POINT `t` WRITES BACK to output window 5's array: the run's contents for that window after the body (`Gen.outsAt0`: its component 2), read through the window's block. -/
theorem flushed5 (c : Dev nD) (t : Fin cfg0.N) :
    (dats m 0 c).flushed 5 t = (cfg0.win 5).cut (grid0.coords t) ((outsAt0 m c t.val t.isLt).2.2.1) := by
  show (cfg0.win 5).cut (grid0.coords t) ((dats m 0 c).after 5 t) = _
  rw [after0_5]

/-- … so at a point where case A runs, what its write-back would write is that case's NAMED TERM for the window (`Gen.out0_A_5`: the pieces
    its run found, read back) at the point's memrefs and input blocks, and for an output the case reads back what the point before left (`Gen.outsAt0` at `t - 1`) — by the frame's rewriting lemma for the case. -/
theorem flushed5_A (c : Dev nD) (t : Fin cfg0.N) (h0 : t.val % 12 = 0) :
    (dats m 0 c).flushed 5 t = (cfg0.win 5).cut (grid0.coords t) (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (V m c main_arg1)) := by
  simp only [flushed5, outsAt0_A m c t h0]

/-- … so at a point where case B runs, what its write-back would write is that case's NAMED TERM for the window (`Gen.out0_B_5`: the pieces
    its run found, read back) at the point's memrefs and input blocks, and for an output the case reads back what the point before left (`Gen.outsAt0` at `t - 1`) — by the frame's rewriting lemma for the case. -/
theorem flushed5_B (c : Dev nD) (t : Fin cfg0.N) (h0 : ¬t.val % 12 = 0) :
    (dats m 0 c).flushed 5 t = (cfg0.win 5).cut (grid0.coords t) (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (outsAt0 m c (t.val - 1) (Nat.lt_of_le_of_lt (Nat.sub_le _ _) t.isLt)).2.2.2 (V m c main_arg1)) := by
  simp only [flushed5, outsAt0_B m c t h0]

/-- The index map sends distinct grid points to distinct block indices (decided over the 12 points). -/
theorem idx_inj5 : ∀ t t' : Fin cfg0.N, win0_5.index t = win0_5.index t' → t = t' :=
  (by decide +kernel : ∀ t t' : Fin grid0.N, win0_5.index t = win0_5.index t' → t = t')

/-- So two flushing points' blocks share no array index (Lib/Pipeline/Cells.lean `Window.disjoint_blk`). -/
theorem disjoint5 : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h => hne (idx_inj5 t t' h)

/-- BLOCK `t` OF THE FINAL ARRAY, read back through the window, is what point `t` wrote back (`flushed5`), for every
    point that writes back: no other point's block meets it. -/
theorem blocks5 (c : Dev nD) (t : Fin cfg0.N) (hf : (cfg0.win 5).flush t = true) :
    ((cfg0.win 5).blk t).view.read (Elt F) ((dats m 0 c).arrAt 5 cfg0.N) = (dats m 0 c).flushed 5 t :=
  (dats m 0 c).read_blk_arrAt_eq_flushed 5 disjoint5 cfg0.N t t.isLt hf

/-- An index that no flushing point's block covers keeps output window 5's array contents at region entry. -/
theorem entry5 (c : Dev nD) (i : S2624x3072.Idx) (h : ∀ t : Fin cfg0.N, (cfg0.win 5).flush t = true → i ∉ ((cfg0.win 5).blk t).view.set) :
    (dats m 0 c).arrAt 5 cfg0.N i = V m c (Pipeline.arrRef spec0 5) i := by
  rw [(dats m 0 c).arrAt_apply_of_forall_not_mem 5 cfg0.N i (fun t _ hf => h t hf), A_eq]

/-- After the frame run, output window 3's array is `(dats m 0 c).arrAt 3 N`. -/
theorem post3 (r : PUnit × MemSt nD τ sig (Elt F)) (h : Pipeline.FramePost cfgs (dats m) 0 (V m) r) (c : Dev nD) :
    r.2.mem ((c : Thread nD τ).loc main_v0_0) = (dats m 0 c).arrAt 3 cfg0.N :=
  (h c).1 3

/-- After the frame run, output window 4's array is `(dats m 0 c).arrAt 4 N`. -/
theorem post4 (r : PUnit × MemSt nD τ sig (Elt F)) (h : Pipeline.FramePost cfgs (dats m) 0 (V m) r) (c : Dev nD) :
    r.2.mem ((c : Thread nD τ).loc main_v0_1) = (dats m 0 c).arrAt 4 cfg0.N :=
  (h c).1 4

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v0_2) = (dats m 0 c).arrAt 5 cfg0.N :=
  (h c).1 5

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: input window 1 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 1).trans (((dats m 0 c).arrAt_in 1 rfl _).trans ((A_eq m c 1).trans (V_main_arg2 m c)))

/-- After the frame run, argument `main_arg3` is as launched: input window 2 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 2).trans (((dats m 0 c).arrAt_in 2 rfl _).trans ((A_eq m c 2).trans (V_main_arg3 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v0_0) = (dats m 0 c).arrAt 3 cfg0.N
      ∧ r.2.mem ((c : Thread nD τ).loc main_v0_1) = (dats m 0 c).arrAt 4 cfg0.N
      ∧ r.2.mem ((c : Thread nD τ).loc main_v0_2) = (dats m 0 c).arrAt 5 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨post3 m r h c,
      post4 m r h c,
      post5 m r h c,
      kept_main_arg0 m r h c,
      kept_main_arg1 m r h c,
      kept_main_arg2 m r h c,
      kept_main_arg3 m r h c⟩)
    (run_main m ρ)

/-! ## Carried scratch 0: what each point leaves in it, and its fold -/

/-- What point `n` leaves in carried scratch 0, over what the point before left in it (`acc`): the case the conditions'
    closed forms select at `n`, the frame's own term for it (`Gen.sout0_κ_0`; anything else the case takes of the point
    before, another carried scratch or an output it reads back, stays `Gen.outsAt0`'s at `n - 1`); a case at the first point
    stores the scratch whole without reading what it held, and `acc` does not enter there (nor where no point meets the
    conditions: `acc`, never read). -/
def scAt0_0 (c : Dev nD) (n : ℕ) (hb : n < cfg0.N) (acc : Vec F S2624x6144 .bf16) : Vec F S2624x6144 .bf16 :=
  if h0 : n % 12 = 0 then
    sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) scM0_1 (Memref.isWhole_whole _) scM0_2 (Memref.isWhole_whole _) scM0_3 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (V m c main_arg1)
  else
    sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) scM0_1 (Memref.isWhole_whole _) scM0_2 (Memref.isWhole_whole _) scM0_3 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) acc (V m c main_arg1)

/-- WHAT CARRIED SCRATCH 0 HOLDS after point `t`: the fold of its run up to `t`, from the reset at the run's first point
    `12·(t / 12)` (Lib/Pipeline/Value.lean `Pipeline.eq_accAt_of_mod`, by the frame's `outsAt0_κ`; without enumerating the points). -/
theorem soutsAt0_0_eq (c : Dev nD) (t : Fin cfg0.N) :
    (outsAt0 m c t.val t.isLt).2.2.2 = Pipeline.accAt (fun n h => scAt0_0 m c n h (VS0_0.read (Elt F) VS0_0.junk)) (scAt0_0 m c) (12 * (t.val / 12)) (t.val % 12)
      (by have h1 := t.isLt; have h2 := Nat.div_add_mod t.val 12; omega) :=
  Pipeline.eq_accAt_of_mod (fun n h => (outsAt0 m c n h).2.2.2) 12 (fun n h => scAt0_0 m c n h (VS0_0.read (Elt F) VS0_0.junk)) (scAt0_0 m c)
    (fun n h hn => by
      have hN := lt_of_lt_of_eq h (show cfg0.N = 12 from N_0)
      by_cases h0 : n % 12 = 0
      all_goals first | (exfalso; omega) | (rw [outsAt0_A m c ⟨n, h⟩ h0]; dsimp only; unfold scAt0_0; rw [dif_pos h0] <;> try rfl) | (rw [outsAt0_B m c ⟨n, h⟩ h0]; dsimp only; unfold scAt0_0; rw [dif_neg h0] <;> try rfl))
    (fun n h hn => by
      have hN := lt_of_lt_of_eq h (show cfg0.N = 12 from N_0)
      by_cases h0 : (n + 1) % 12 = 0
      all_goals first | (exfalso; omega) | (rw [outsAt0_A m c ⟨n + 1, h⟩ h0]; dsimp only; unfold scAt0_0; rw [dif_pos h0] <;> try rfl) | (rw [outsAt0_B m c ⟨n + 1, h⟩ h0]; dsimp only; unfold scAt0_0; rw [dif_neg h0] <;> try rfl))
    (by decide) t.val t.isLt _

/-- One run spans the grid (the only reset is at point 0): after point `n` the scratch is the fold from 0 to `n`. -/
theorem soutsAt0_0_sweep (c : Dev nD) (n : ℕ) (hn : n < cfg0.N) :
    (outsAt0 m c n hn).2.2.2 = Pipeline.accAt (fun n h => scAt0_0 m c n h (VS0_0.read (Elt F) VS0_0.junk)) (scAt0_0 m c) 0 n (by omega) := by
  have e := soutsAt0_0_eq m c ⟨n, hn⟩
  have hN := lt_of_lt_of_eq hn (show cfg0.N = 12 from N_0)
  have hd : n / 12 = 0 := Nat.div_eq_of_lt hN
  have hm : n % 12 = n := Nat.mod_eq_of_lt hN
  simpa only [hd, hm, Nat.mul_zero] using e

end Cert.ProjRun.Value

end
-- ==== Proof.ProjQuantise.lean ====
/- What one trip of the projecting call's quantising loop stores: for each of the 48 runs of 128 columns the same
   operations, whatever way the printed body cuts them into parts. -/
module

public import proofs.«01_k».proof.Proof.Gen.ProjIdeal.Loops
public import Idealize.ShloMosaic.Lib.Tactic

@[expose] public section

set_option maxRecDepth 16384

noncomputable section

namespace Cert.ProjQuantise

open Cert.ProjIdeal Cert.ProjIdeal.Gen
open Idealize.ShloMosaic Idealize.ShloMosaic.TcCoe Idealize.SL.Sem

variable {F : FTy → Type} [FloatOps F]

/-! ## The operations of one run -/

/-- One step of the search for the exponent field: keep `n`, or go on from `n + b` when the value is not below the float
    whose exponent field is `n + b`. -/
def searchV (a : FVec F S32x128 .f32) (n : IVec S32x128 32) (b : BitVec 32) : IVec S32x128 32 :=
  select (cmpf .olt a (bitcastToFloat .f32 (shli (addi n (broadcast S32x128 b)) (broadcast S32x128 23#32)))) n
    (addi n (broadcast S32x128 b))

/-- The exponent field, found bit by bit. -/
def fieldV (a : FVec F S32x128 .f32) : IVec S32x128 32 :=
  searchV a (searchV a (searchV a (searchV a (searchV a (searchV a (searchV a (searchV a (broadcast S32x128 0#32)
    128#32) 64#32) 32#32) 16#32) 8#32) 4#32) 2#32) 1#32

/-- The exponent of the scale: 0 for a run of zeros. -/
def expoV (a : FVec F S32x128 .f32) : IVec S32x128 32 :=
  select (cmpf .oeq a (broadcast S32x128 (Scalar.ofBits .f32 0x00000000#32 : F .f32))) (broadcast S32x128 0#32)
    (subi (fieldV a) (broadcast S32x128 126#32))

/-- The scale, a power of two written by its bits. -/
def scaleV (a : FVec F S32x128 .f32) : FVec F S32x128 .f32 :=
  bitcastToFloat .f32 (shli (addi (expoV a) (broadcast S32x128 127#32)) (broadcast S32x128 23#32))

/-- The inverse of the scale, written by its bits. -/
def overV (a : FVec F S32x128 .f32) : FVec F S32x128 .f32 :=
  bitcastToFloat .f32 (shli (subi (broadcast S32x128 127#32) (expoV a)) (broadcast S32x128 23#32))

/-- The normalised run: the input times the inverse root times the gain. -/
def normV (inv x : FVec F S32x128 .f32) (g : FVec F S1x128 .f32) : FVec F S32x128 .f32 :=
  mulf (mulf x inv) (broadcastTo S32x128 g broadcasts_S1x128_S32x128)

/-- The run's largest magnitude over 448, in every lane. -/
def amaxV (v : FVec F S32x128 .f32) : FVec F S32x128 .f32 :=
  mulf (broadcastTo S32x128 (shapeCast S32x1 (shapeCast S32x1
      (multiReduction .maximumf [1] S32 (absf v) 0xFF800000#32 reduces_S32x128_S32 (.inl rfl) rfl)
      shapeCasts_S32_S32x1) shapeCasts_S32x1_S32x1) broadcasts_S32x1_S32x128)
    (broadcast S32x128 (Scalar.ofBits .f32 0x3B124925#32 : F .f32))

/-- The run's codes. -/
def codeV (v : FVec F S32x128 .f32) : FVec F S32x128 .fp8e4m3 :=
  truncf .fp8e4m3 (minimumf (broadcast S32x128 (Scalar.ofBits .f32 0x43E00000#32 : F .f32))
    (maximumf (broadcast S32x128 (Scalar.ofBits .f32 0xC3E00000#32 : F .f32)) (mulf v (overV (amaxV v)))))
    bitsLt_fp8e4m3_f32

/-- The run's codes times its scale. -/
def deqV (v : FVec F S32x128 .f32) : FVec F S32x128 .bf16 :=
  shapeCast S32x128 (mulf (extf .bf16 (codeV v) bitsLt_fp8e4m3_bf16) (truncf .bf16 (scaleV (amaxV v)) bitsLt_bf16_f32))
    shapeCasts_S32x128_S32x128

/-- The squares of the runs before `n`, added lane by lane. -/
def squaresV (x : ℕ → FVec F S32x128 .f32) : ℕ → FVec F S32x128 .f32
  | 0 => broadcast S32x128 (Scalar.ofBits .f32 0x00000000#32 : F .f32)
  | n + 1 => addf (squaresV x n) (mulf (x n) (x n))

/-- The inverse root of the mean square, in every lane. -/
def invV (s : FVec F S32x128 .f32) : FVec F S32x128 .f32 :=
  broadcastTo S32x128 (shapeCast S32x1 (divf (broadcast S32x1 (Scalar.ofBits .f32 0x3F800000#32 : F .f32))
    (sqrt (addf (mulf (shapeCast S32x1
        (multiReduction .add [1] S32 s 0x00000000#32 reduces_S32x128_S32 (.inl rfl) rfl) shapeCasts_S32_S32x1)
      (broadcast S32x1 (Scalar.ofBits .f32 0x392AAAAB#32 : F .f32)))
      (broadcast S32x1 (Scalar.ofBits .f32 0x358637BD#32 : F .f32))))) shapeCasts_S32x1_S32x1) broadcasts_S32x1_S32x128

/-- The scales of the runs before `n`, run `r`'s in lane `r`. -/
def scalesV (v : ℕ → FVec F S32x128 .f32) : ℕ → FVec F S32x128 .f32
  | 0 => broadcast S32x128 (Scalar.ofBits .f32 0x00000000#32 : F .f32)
  | n + 1 => select (cmpi .eq (iota .tc S32x128 32 [1] iota_S32x128_d1_w32) (broadcast S32x128 (BitVec.ofNat 32 n)))
      (scaleV (amaxV (v n))) (scalesV v n)

/-! ## Where the runs lie -/

/-- Run `r`'s first element in trip `k`. -/
def offs (k : Fin k0_t1_loop.trips) : Fin 48 → Fin 2 → ℕ :=
  ![k0_off1 k, k0_off2 k, k0_off3 k, k0_off4 k, k0_off5 k, k0_off6 k, k0_off7 k, k0_off8 k, k0_off9 k,
    k0_off10 k, k0_off11 k, k0_off12 k, k0_off13 k, k0_off14 k, k0_off15 k, k0_off16 k, k0_off17 k, k0_off18 k,
    k0_off19 k, k0_off20 k, k0_off21 k, k0_off22 k, k0_off23 k, k0_off24 k, k0_off25 k, k0_off26 k, k0_off27 k,
    k0_off28 k, k0_off29 k, k0_off30 k, k0_off31 k, k0_off32 k, k0_off33 k, k0_off34 k, k0_off35 k, k0_off36 k,
    k0_off37 k, k0_off38 k, k0_off39 k, k0_off40 k, k0_off41 k, k0_off42 k, k0_off43 k, k0_off44 k, k0_off45 k,
    k0_off46 k, k0_off47 k, k0_off48 k]

/-- Trip `k` handles rows `32 k` on, run `r` the columns `128 r` on. -/
theorem offs_eq : ∀ (k : Fin k0_t1_loop.trips) (r : Fin 48), offs k r = ![32 * k.val, 128 * r.val] := by decide +kernel

/-- A run lies inside the block. -/
theorem offs_inb : ∀ (k : Fin k0_t1_loop.trips) (r : Fin 48) (a : Fin 2), offs k r a + S32x128.size a ≤ S256x6144.size a := by
  decide +kernel

/-- A run's gains lie inside the row of gains. -/
theorem gain_inb : ∀ (r : Fin 48) (a : Fin 2), (![0, 128 * r.val] : Fin 2 → ℕ) a + S1x128.size a ≤ S1x6144.size a := by
  decide +kernel

/-- Run `r` of trip `k`, as a rectangle of the block. -/
def runR (k : Fin k0_t1_loop.trips) (r : Fin 48) : Rect S256x6144 := Rect.unit (s := S256x6144) (offs k r) S32x128.size (offs_inb k r)

/-- Run `r`'s inputs in trip `k`. -/
def xRun (arg4 : Memref sig .tc .vmem S256x6144 .f32) (X_arg4 : BufTy.Contents (Elt F) arg4.view.ty)
    (k : Fin k0_t1_loop.trips) (r : Fin 48) : FVec F S32x128 .f32 :=
  View.readAt (Elt F) arg4.view (Rect.unit (s := S256x6144) (offs k r) S32x128.size (offs_inb k r)).toLoadRect X_arg4

/-- Run `r`'s gains. -/
def gRun (arg3 : Memref sig .tc .vmem S1x6144 .f32) (X_arg3 : BufTy.Contents (Elt F) arg3.view.ty)
    (r : Fin 48) : FVec F S1x128 .f32 :=
  View.readAt (Elt F) arg3.view (Rect.unit (s := S1x6144) ![0, 128 * r.val] S1x128.size (gain_inb r)).toLoadRect X_arg3

/-- The inverse root in trip `k`. -/
def invRun (arg4 : Memref sig .tc .vmem S256x6144 .f32) (X_arg4 : BufTy.Contents (Elt F) arg4.view.ty)
    (k : Fin k0_t1_loop.trips) : FVec F S32x128 .f32 :=
  invV (squaresV (fun n => if h : n < 48 then xRun arg4 X_arg4 k ⟨n, h⟩ else xRun arg4 X_arg4 k 0) 48)

/-- Run `r` normalised, in trip `k`. -/
def vRun (arg3 : Memref sig .tc .vmem S1x6144 .f32) (arg4 : Memref sig .tc .vmem S256x6144 .f32)
    (X_arg3 : BufTy.Contents (Elt F) arg3.view.ty) (X_arg4 : BufTy.Contents (Elt F) arg4.view.ty)
    (k : Fin k0_t1_loop.trips) (r : Fin 48) : FVec F S32x128 .f32 :=
  normV (invRun arg4 X_arg4 k) (xRun arg4 X_arg4 k r) (gRun arg3 X_arg3 r)

/-- The values at the 48 runs, the last run first. -/
def descending {α : Type} (f : Fin 48 → α) : List α :=
  [f 47, f 46, f 45, f 44, f 43, f 42, f 41, f 40, f 39, f 38, f 37, f 36, f 35, f 34, f 33, f 32, f 31, f 30,
    f 29, f 28, f 27, f 26, f 25, f 24, f 23, f 22, f 21, f 20, f 19, f 18, f 17, f 16, f 15, f 14, f 13, f 12,
    f 11, f 10, f 9, f 8, f 7, f 6, f 5, f 4, f 3, f 2, f 1, f 0]

/-! ## What a trip stores -/

variable (𝒱 : Variants) (c : Dev nD) (bd : Option 𝒱.V) (i : grid0.Coords) (arg1 : Memref sig .tc .smem S21x48 .f32) (harg1 : arg1.IsWhole) (arg2 : Memref sig .tc .hbm S2624x6144 .fp8e4m3) (harg2 : arg2.IsWhole) (arg3 : Memref sig .tc .vmem S1x6144 .f32) (harg3 : arg3.IsWhole) (arg4 : Memref sig .tc .vmem S256x6144 .f32) (harg4 : arg4.IsWhole) (arg5 : Memref sig .tc .vmem S256x6144 .fp8e4m3) (harg5 : arg5.IsWhole) (arg6 : Memref sig .tc .vmem S48x256 .f32) (harg6 : arg6.IsWhole) (arg7 : Memref sig .tc .vmem S2624x256 .bf16) (harg7 : arg7.IsWhole) (arg8 : Memref sig .tc .vmem S2624x6144 .bf16) (harg8 : arg8.IsWhole) (arg9 : Memref sig .tc .vmem S5248x512 .fp8e4m3) (harg9 : arg9.IsWhole) (arg10 : Memref sig .tc .vmem S256x6144 .bf16) (harg10 : arg10.IsWhole) (arg11 : Memref sig .tc .vmem S256x128 .f32) (harg11 : arg11.IsWhole) (arg12 : DmaSems sig S2) (X_arg3 : BufTy.Contents (Elt F) arg3.view.ty) (X_arg4 : BufTy.Contents (Elt F) arg4.view.ty)

/-- Trip `k` stores each run's codes. -/
theorem trip_codes (k : Fin k0_t1_loop.trips) : (trip_k0_t1 (F := F) 𝒱 c bd i arg1 harg1 arg2 harg2 arg3 harg3 arg4 harg4 arg5 harg5 arg6 harg6 arg7 harg7 arg8 harg8 arg9 harg9 arg10 harg10 arg11 harg11 arg12 X_arg3 X_arg4 k).1
    = descending fun r => (⟨runR k r, codeV (vRun arg3 arg4 X_arg3 X_arg4 k r)⟩ : View.Piece (Elt F) S256x6144 .fp8e4m3) := by
  unfold trip_k0_t1
  sl_kernel_rfl

/-- Trip `k` stores each run's codes times its scale. -/
theorem trip_deq (k : Fin k0_t1_loop.trips) : (trip_k0_t1 (F := F) 𝒱 c bd i arg1 harg1 arg2 harg2 arg3 harg3 arg4 harg4 arg5 harg5 arg6 harg6 arg7 harg7 arg8 harg8 arg9 harg9 arg10 harg10 arg11 harg11 arg12 X_arg3 X_arg4 k).2.1
    = descending fun r => (⟨runR k r, deqV (vRun arg3 arg4 X_arg3 X_arg4 k r)⟩ : View.Piece (Elt F) S256x6144 .bf16) := by
  unfold trip_k0_t1
  sl_kernel_rfl

/-- Trip `k` stores the runs' scales, run `r`'s in lane `r`. -/
theorem trip_scales (k : Fin k0_t1_loop.trips) : (trip_k0_t1 (F := F) 𝒱 c bd i arg1 harg1 arg2 harg2 arg3 harg3 arg4 harg4 arg5 harg5 arg6 harg6 arg7 harg7 arg8 harg8 arg9 harg9 arg10 harg10 arg11 harg11 arg12 X_arg3 X_arg4 k).2.2.1
    = [(⟨Rect.unit (s := S256x128) (k0_off49 k) S32x128.size (k0_off49_inb k), shapeCast S32x128
        (scalesV (fun n => if h : n < 48 then vRun arg3 arg4 X_arg3 X_arg4 k ⟨n, h⟩ else vRun arg3 arg4 X_arg3 X_arg4 k 0) 48)
        shapeCasts_S32x128_S32x128⟩ : View.Piece (Elt F) S256x128 .f32)] := by
  unfold trip_k0_t1
  sl_kernel_rfl

end Cert.ProjQuantise

end
-- ==== Proof.ProjScale.lean ====
module

public import Idealize.ShloMosaic.PureOps.Ideal
public import Mathlib.Analysis.SpecialFunctions.Log.Basic
public import Mathlib.Analysis.SpecialFunctions.Pow.Real

@[expose] public section

noncomputable section

namespace Cert.ProjScale

open Idealize.ShloMosaic

/-- A float with sign bit and trailing bits zero, by its exponent field: a power of two. -/
theorem power_of_field (k : ℕ) (h1 : 1 ≤ k) (h2 : k ≤ 254) (b : BitVec 32) (hs : b.extractLsb' 31 1 = 0#1)
    (he : (b.extractLsb' 23 8).toNat = k) (hf : (b.extractLsb' 0 23).toNat = 0) :
    Ideal.ofBits .f32 b = (((2 : ℝ) ^ ((k : ℤ) - 127) : ℝ) : EReal) := by
  show Ideal.ieee 8 23 b = _
  unfold Ideal.ieee
  simp only [Nat.reduceAdd, hs, he, hf]
  rw [if_neg (by omega), if_neg (by omega)]
  congr 1
  have : (2 : ℝ) ^ ((k : ℤ) - (2 ^ (8 - 1) - 1) - ((23 : ℕ) : ℤ)) = (2 : ℝ) ^ ((k : ℤ) - 127) * ((2 : ℝ) ^ (23 : ℕ))⁻¹ := by
    rw [zpow_sub₀ (by norm_num), zpow_natCast]
    rfl
  rw [this]
  norm_num
  field_simp

/-- The float whose exponent field is `k` and whose other bits are zero: the power of two `2 ^ (k - 127)`. -/
theorem power_of_bits (k : ℕ) (h1 : 1 ≤ k) (h2 : k ≤ 254) :
    Ideal.ofBits .f32 (BitVec.ofNat 32 k <<< (23 : ℕ)) = (((2 : ℝ) ^ ((k : ℤ) - 127) : ℝ) : EReal) := by
  have e1 : (BitVec.ofNat 32 k <<< (23 : ℕ) : BitVec 32).toNat = k * 2 ^ 23 := by
    rw [BitVec.toNat_shiftLeft, BitVec.toNat_ofNat, Nat.shiftLeft_eq]
    omega
  refine power_of_field k h1 h2 _ ?_ ?_ ?_
  · apply BitVec.eq_of_toNat_eq
    rw [BitVec.extractLsb'_toNat, e1, Nat.shiftRight_eq_div_pow]
    simp only [BitVec.toNat_ofNat]
    omega
  · rw [BitVec.extractLsb'_toNat, e1, Nat.shiftRight_eq_div_pow]
    omega
  · rw [BitVec.extractLsb'_toNat, e1, Nat.shiftRight_eq_div_pow]
    omega

/-- A real's largest power of two, by its exponent: one step of the search for it. `n` is the field found so far and
    `b` the bit tried; `n + b` is kept if the power it stands for is not above `a`. -/
def step (a : EReal) (b : ℕ) (n : ℕ) : ℕ :=
  if a < Ideal.ofBits .f32 (BitVec.ofNat 32 (n + b) <<< (23 : ℕ)) then n else n + b

/-- The exponent field found bit by bit. -/
def field (a : EReal) : ℕ :=
  step a 1 (step a 2 (step a 4 (step a 8 (step a 16 (step a 32 (step a 64 (step a 128 0)))))))

/-- One step keeps `n` between the power it stands for and the next one that can still be told apart. -/
theorem step_spec (r : ℝ) (b n : ℕ) (hb : 1 ≤ b) (hn : n + b ≤ 254)
    (lo : n = 0 ∨ (2 : ℝ) ^ ((n : ℤ) - 127) ≤ r) (hi : r < (2 : ℝ) ^ (((n + 2 * b : ℕ) : ℤ) - 127)) :
    (step (r : EReal) b n = 0 ∨ (2 : ℝ) ^ ((step (r : EReal) b n : ℤ) - 127) ≤ r)
      ∧ r < (2 : ℝ) ^ (((step (r : EReal) b n + b : ℕ) : ℤ) - 127) ∧ (step (r : EReal) b n = n ∨ step (r : EReal) b n = n + b) := by
  unfold step
  rw [power_of_bits (n + b) (by omega) hn]
  by_cases h : r < (2 : ℝ) ^ (((n + b : ℕ) : ℤ) - 127)
  · rw [if_pos (by exact_mod_cast h)]
    exact ⟨lo, h, .inl rfl⟩
  · rw [if_neg (by intro h'; exact h (by exact_mod_cast h'))]
    refine ⟨.inr (not_lt.1 h), ?_, .inr rfl⟩
    have e : n + b + b = n + 2 * b := by omega
    rw [e]
    exact hi

/-- The search finds the exponent field of a real below `2 ^ 126`: zero below the least normal power, else the field of
    the largest power not above it. -/
theorem field_spec (r : ℝ) (hr : r < (2 : ℝ) ^ (126 : ℤ)) :
    field (r : EReal) ≤ 252 ∧ (field (r : EReal) = 0 ∨ (2 : ℝ) ^ ((field (r : EReal) : ℤ) - 127) ≤ r)
      ∧ r < (2 : ℝ) ^ (((field (r : EReal) + 1 : ℕ) : ℤ) - 127) := by
  have mono : ∀ p q : ℤ, p ≤ q → (2 : ℝ) ^ p ≤ (2 : ℝ) ^ q := fun p q h => zpow_le_zpow_right₀ (by norm_num) h
  obtain ⟨l1, u1, c1⟩ := step_spec r 128 0 (by omega) (by omega) (.inl rfl) (lt_of_lt_of_le hr (mono _ _ (by norm_num)))
  unfold field
  set n1 := step (r : EReal) 128 0
  obtain ⟨l2, u2, c2⟩ := step_spec r 64 n1 (by omega) (by omega) l1 u1
  set n2 := step (r : EReal) 64 n1
  obtain ⟨l3, u3, c3⟩ := step_spec r 32 n2 (by omega) (by omega) l2 u2
  set n3 := step (r : EReal) 32 n2
  obtain ⟨l4, u4, c4⟩ := step_spec r 16 n3 (by omega) (by omega) l3 u3
  set n4 := step (r : EReal) 16 n3
  obtain ⟨l5, u5, c5⟩ := step_spec r 8 n4 (by omega) (by omega) l4 u4
  set n5 := step (r : EReal) 8 n4
  obtain ⟨l6, u6, c6⟩ := step_spec r 4 n5 (by omega) (by omega) l5 u5
  set n6 := step (r : EReal) 4 n5
  obtain ⟨l7, u7, c7⟩ := step_spec r 2 n6 (by omega) (by omega) l6 u6
  set n7 := step (r : EReal) 2 n6
  have h7 : n7 + 1 ≤ 254 := by
    rcases l7 with h | h
    · omega
    · have : (n7 : ℤ) - 127 < 126 := (zpow_lt_zpow_iff_right₀ (by norm_num : (1 : ℝ) < 2)).1 (lt_of_le_of_lt h hr)
      omega
  obtain ⟨l8, u8, c8⟩ := step_spec r 1 n7 (by omega) h7 l7 u7
  refine ⟨?_, l8, u8⟩
  rcases l8 with h | h
  · omega
  · have : (step (r : EReal) 1 n7 : ℤ) - 127 < 126 := (zpow_lt_zpow_iff_right₀ (by norm_num : (1 : ℝ) < 2)).1 (lt_of_le_of_lt h hr)
    omega

/-- The floor of the base-two logarithm of a positive real is the exponent of the largest power of two not above it. -/
theorem floor_log (r : ℝ) (z : ℤ) (lo : (2 : ℝ) ^ z ≤ r) (hi : r < (2 : ℝ) ^ (z + 1)) : ⌊Real.log r / Real.log 2⌋ = z := by
  have h2 : 0 < Real.log 2 := Real.log_pos (by norm_num)
  have hr : 0 < r := lt_of_lt_of_le (by positivity) lo
  rw [Int.floor_eq_iff]
  constructor
  · rw [le_div_iff₀ h2, ← Real.log_zpow]
    exact Real.log_le_log (by positivity) lo
  · rw [div_lt_iff₀ h2]
    have := Real.log_lt_log hr hi
    rw [Real.log_zpow] at this
    exact_mod_cast this

/-- The exponent a quantiser scales by, of the largest magnitude `a` over the largest code: the power of two just above `a`,
    not below the least normal one, and nought where `a` is. -/
def exponent (a : EReal) : EReal :=
  if a = 0 then 0
  else max (Ideal.liftRound Int.floor (Ideal.div (Ideal.log a) (Ideal.log (Ideal.ofBits .f32 0x40000000#32))) + Ideal.ofBits .f32 0x3F800000#32)
    (Ideal.ofBits .f32 0xC2FC0000#32)

/-- The scale's exponent from the field the search finds. -/
theorem exponent_eq (r : ℝ) (h0 : 0 < r) (hr : r < (2 : ℝ) ^ (126 : ℤ)) :
    exponent (r : EReal) = ((((field (r : EReal) : ℤ) - 126 : ℤ) : ℝ) : EReal) := by
  have two : Ideal.ofBits .f32 0x40000000#32 = ((2 : ℝ) : EReal) := by
    simp [Ideal.ofBits, Ideal.ieee, -EReal.coe_mul]; norm_num
  have one : Ideal.ofBits .f32 0x3F800000#32 = ((1 : ℝ) : EReal) := by
    simp [Ideal.ofBits, Ideal.ieee, -EReal.coe_mul]; norm_num
  have low : Ideal.ofBits .f32 0xC2FC0000#32 = ((-126 : ℝ) : EReal) := by
    simp [Ideal.ofBits, Ideal.ieee, -EReal.coe_mul]; norm_num
  have h2 : 0 < Real.log 2 := Real.log_pos (by norm_num)
  have hl : ∀ q : ℝ, 0 < q → Ideal.log (q : EReal) = ((Real.log q : ℝ) : EReal) := by
    intro q hq
    show (if q ≤ 0 then (⊥ : EReal) else ((Real.log q : ℝ) : EReal)) = _
    rw [if_neg (not_le.2 hq)]
  unfold exponent
  rw [if_neg (by exact_mod_cast h0.ne'), two, one, low, hl r h0, hl 2 (by norm_num)]
  have hd : Ideal.div ((Real.log r : ℝ) : EReal) ((Real.log 2 : ℝ) : EReal) = ((Real.log r / Real.log 2 : ℝ) : EReal) := by
    unfold Ideal.div
    rw [if_neg (by exact_mod_cast h2.ne'), ← EReal.coe_inv, ← EReal.coe_mul, div_eq_mul_inv]
  rw [hd, Ideal.liftRound_coe, ← EReal.coe_add]
  obtain ⟨-, lo, hi⟩ := field_spec r hr
  generalize field (r : EReal) = n at lo hi ⊢
  rw [← EReal.coe_strictMono.monotone.map_max]
  congr 1
  rcases Nat.eq_zero_or_pos n with h | h
  · subst h
    have hlog : Real.log r / Real.log 2 < -126 := by
      rw [div_lt_iff₀ h2]
      have := Real.log_lt_log h0 hi
      rw [Real.log_zpow] at this
      refine lt_of_lt_of_eq this ?_
      norm_num
    have hfl : ⌊Real.log r / Real.log 2⌋ ≤ -127 := by
      have : ⌊Real.log r / Real.log 2⌋ < -126 := Int.floor_lt.2 (by exact_mod_cast hlog)
      omega
    rw [max_eq_right]
    · norm_num
    · have : ((⌊Real.log r / Real.log 2⌋ : ℤ) : ℝ) ≤ -127 := by exact_mod_cast hfl
      linarith
  · have lo' : (2 : ℝ) ^ ((n : ℤ) - 127) ≤ r := lo.resolve_left (by omega)
    have hf := floor_log r ((n : ℤ) - 127) lo' (by
      refine lt_of_lt_of_eq hi ?_
      congr 1
      push_cast
      ring)
    rw [hf, max_eq_left]
    · push_cast
      ring
    · push_cast
      have : (1 : ℝ) ≤ (n : ℝ) := by exact_mod_cast h
      linarith

/-- Two to an integer power. -/
theorem exp2_int (z : ℤ) : Ideal.exp2 (((z : ℤ) : ℝ) : EReal) = (((2 : ℝ) ^ z : ℝ) : EReal) := by
  show ((Real.rpow 2 ((z : ℤ) : ℝ) : ℝ) : EReal) = _
  congr 1
  exact Real.rpow_intCast 2 z

/-- One step of the search on the words the kernel holds. -/
theorem step_word (a : EReal) (b n : ℕ) :
    (if a < Ideal.ofBits .f32 ((BitVec.ofNat 32 n + BitVec.ofNat 32 b) <<< (23 : ℕ)) then BitVec.ofNat 32 n
      else BitVec.ofNat 32 n + BitVec.ofNat 32 b) = BitVec.ofNat 32 (step a b n) := by
  unfold step
  rw [← BitVec.ofNat_add]
  split <;> rfl

/-- The exponent of the scale as the kernel holds it, a word. -/
def word (a : EReal) : BitVec 32 := if a = 0 then 0#32 else BitVec.ofNat 32 (field a) - 126#32

/-- The scale's bits are those of two to the exponent. -/
theorem scale_bits (r : ℝ) (h0 : 0 ≤ r) (hr : r < (2 : ℝ) ^ (126 : ℤ)) :
    Ideal.ofBits .f32 ((word (r : EReal) + 127#32) <<< (23 : ℕ)) = Ideal.exp2 (exponent (r : EReal)) := by
  rcases eq_or_lt_of_le h0 with h | h
  · subst h
    have e : word ((0 : ℝ) : EReal) + 127#32 = BitVec.ofNat 32 127 := by
      rw [word, if_pos (by simp)]; rfl
    have e' : exponent ((0 : ℝ) : EReal) = (((0 : ℤ) : ℝ) : EReal) := by
      rw [exponent, if_pos (by simp)]; simp
    rw [e, e', exp2_int, power_of_bits 127 (by omega) (by omega)]
    norm_num
  · obtain ⟨hf, -, -⟩ := field_spec r hr
    have e : word (r : EReal) + 127#32 = BitVec.ofNat 32 (field (r : EReal) + 1) := by
      rw [word, if_neg (by exact_mod_cast h.ne')]
      generalize field (r : EReal) = n at hf
      apply BitVec.eq_of_toNat_eq
      simp only [BitVec.toNat_add, BitVec.toNat_sub, BitVec.toNat_ofNat]
      omega
    rw [e, exponent_eq r h hr, exp2_int, power_of_bits _ (by omega) (by omega)]
    congr 2
    push_cast
    ring

/-- The bits of the scale's inverse are those of two to the negated exponent. -/
theorem over_bits (r : ℝ) (h0 : 0 ≤ r) (hr : r < (2 : ℝ) ^ (126 : ℤ)) :
    Ideal.ofBits .f32 ((127#32 - word (r : EReal)) <<< (23 : ℕ)) = Ideal.exp2 (0 - exponent (r : EReal)) := by
  rcases eq_or_lt_of_le h0 with h | h
  · subst h
    have e : 127#32 - word ((0 : ℝ) : EReal) = BitVec.ofNat 32 127 := by
      rw [word, if_pos (by simp)]; rfl
    have e' : (0 : EReal) - exponent ((0 : ℝ) : EReal) = (((0 : ℤ) : ℝ) : EReal) := by
      rw [exponent, if_pos (by simp)]; simp
    rw [e, e', exp2_int, power_of_bits 127 (by omega) (by omega)]
    norm_num
  · obtain ⟨hf, -, -⟩ := field_spec r hr
    have e : 127#32 - word (r : EReal) = BitVec.ofNat 32 (253 - field (r : EReal)) := by
      rw [word, if_neg (by exact_mod_cast h.ne')]
      generalize field (r : EReal) = n at hf
      apply BitVec.eq_of_toNat_eq
      simp only [BitVec.toNat_sub, BitVec.toNat_ofNat]
      omega
    have e' : (0 : EReal) - exponent (r : EReal) = (((126 - (field (r : EReal) : ℤ) : ℤ) : ℝ) : EReal) := by
      rw [exponent_eq r h hr, ← EReal.coe_zero, ← EReal.coe_sub]
      congr 1
      push_cast
      ring
    rw [e, e', exp2_int, power_of_bits _ (by omega) (by omega)]
    congr 2
    generalize field (r : EReal) = n at hf
    omega

end Cert.ProjScale
-- ==== Proof.ProjSpec.lean ====
module

public import proofs.«01_k».proof.Proof.Gen.ProjReferenceIdeal.Value
public import Idealize.ShloMosaic.Lib.Pipeline.ValueKit
public import proofs.«01_k».proof.Proof.ProjScale

@[expose] public section

set_option maxRecDepth 16384

noncomputable section

open Idealize.ShloMosaic Idealize.ShloMosaic.TcCoe Idealize.SL.Sem

namespace Cert.ProjSpec

open Cert.ProjReferenceIdeal Cert.ProjReferenceIdeal.Gen Cert.ProjScale

/-- The root of a row's mean square, the small constant added. -/
def root (row : Fin 6144 → EReal) : EReal :=
  Ideal.sqrt ((∑ k, row k * row k) * Ideal.ofBits .f32 0x392AAAAB#32 + Ideal.ofBits .f32 0x358637BD#32)

/-- One entry of the normalised row, times its gain. -/
def normed (row gain : Fin 6144 → EReal) (k : Fin 6144) : EReal :=
  Ideal.div (row k) (root row) * gain k

/-- The largest magnitude of a run of 128 values over the largest code. -/
def amax (v : Fin 128 → EReal) : EReal :=
  (Finset.univ : Finset (Fin 128)).fold max (Ideal.ofBits .f32 0xFF800000#32) (fun l => max (v l) (-v l))
    * Ideal.ofBits .f32 0x3B124925#32

/-- Column `128 r + l`. -/
def col (r : Fin 48) (l : Fin 128) : Fin 6144 := ⟨r * 128 + l, by omega⟩

/-- The exponent of the scale of a run. -/
def expo (row gain : Fin 6144 → EReal) (r : Fin 48) : EReal :=
  exponent (amax fun l => normed row gain (col r l))

/-- The scale of a run. -/
def scale (row gain : Fin 6144 → EReal) (r : Fin 48) : EReal := Ideal.exp2 (expo row gain r)

/-- The code of an entry: the normalised value over the run's scale, clipped to the codes' range. -/
def code (row gain : Fin 6144 → EReal) (k : Fin 6144) : EReal :=
  min (Ideal.ofBits .f32 0x43E00000#32) (max (Ideal.ofBits .f32 0xC3E00000#32)
    (normed row gain k * Ideal.exp2 (Ideal.ofBits .f32 0x00000000#32 - expo row gain ⟨k / 128, by omega⟩)))

/-- The value a code stands for. -/
def deq (row gain : Fin 6144 → EReal) (k : Fin 6144) : EReal := code row gain k * scale row gain ⟨k / 128, by omega⟩

/-- One entry of the dequantised weight: the code times the scale of its 128 × 128 block. -/
def weight (ws : FVec Ideal S21x48 .f32) (w : Vec Ideal S2624x6144 .fp8e4m3) (j : Fin 2624) (k : Fin 6144) : EReal :=
  (show EReal from w (ix2 j k)) * ws (ix2 (⟨j / 128, by omega⟩ : Fin 21) (⟨k / 128, by omega⟩ : Fin 48))

/-- A row of the residual stream. -/
def rowOf (x : FVec Ideal S3072x6144 .f32) (i : Fin 3072) (k : Fin 6144) : EReal := x (ix2 i k)

/-- The gain as a row. -/
def gainOf (g : FVec Ideal S1x6144 .f32) (k : Fin 6144) : EReal := g (ix2 (0 : Fin 1) k)

/-- One entry of the projection. -/
def qkvAt (ws : FVec Ideal S21x48 .f32) (w : Vec Ideal S2624x6144 .fp8e4m3) (g : FVec Ideal S1x6144 .f32) (x : FVec Ideal S3072x6144 .f32)
    (j : Fin 2624) (i : Fin 3072) : EReal :=
  ∑ k, weight ws w j k * deq (rowOf x i) (gainOf g) k

/-- The reference's normalised array, read at an entry. -/
theorem normed_at (x : FVec Ideal S3072x6144 .f32) (g : FVec Ideal S1x6144 .f32) (i : Fin 3072) (r : Fin 48) (l : Fin 128) :
    k0_pay5 (F := Ideal) x g (ix3 i r l) = normed (rowOf x i) (gainOf g) (col r l) := by
  pointwise [k0_pay5, normed, root, rowOf, gainOf, col]

/-- The largest magnitude of a run, read from the array of runs. -/
theorem amax_at (v : FVec Ideal S3072x48x128 .f32) (i : Fin 3072) (r : Fin 48) :
    multiReduction (F := Ideal) .maximumf [2] S3072x48 (absf v) 0xFF800000#32 reduces_S3072x48x128_S3072x48 (.inl rfl) rfl (ix2 i r)
      = (Finset.univ : Finset (Fin 128)).fold max (Ideal.ofBits .f32 0xFF800000#32) (fun l => max (v (ix3 i r l)) (-v (ix3 i r l))) := by
  pointwise []
  rfl

/-- The choice of nought where a value is nought, read at an entry. -/
theorem select_at (A B : FVec Ideal S3072x48 .f32) (q : S3072x48.Idx) :
    select (cmpf .oeq A (broadcast S3072x48 (Scalar.ofBits .f32 0x00000000#32 : Ideal .f32))) (broadcast S3072x48 (Scalar.ofBits .f32 0x00000000#32 : Ideal .f32)) B q
      = if A q = 0 then 0 else B q := by
  pointwise []

/-- The exponent of a power, read at an entry. -/
theorem power_at (A : FVec Ideal S3072x48 .f32) (q : S3072x48.Idx) :
    maximumf (addf (floor (divf (log A) (broadcast S3072x48 (Scalar.log (Scalar.ofBits .f32 0x40000000#32 : Ideal .f32)))))
        (broadcast S3072x48 (Scalar.ofBits .f32 0x3F800000#32 : Ideal .f32))) (broadcast S3072x48 (Scalar.ofBits .f32 0xC2FC0000#32 : Ideal .f32)) q
      = max (Ideal.liftRound Int.floor (Ideal.div (Ideal.log (A q)) (Ideal.log (Ideal.ofBits .f32 0x40000000#32))) + Ideal.ofBits .f32 0x3F800000#32)
        (Ideal.ofBits .f32 0xC2FC0000#32) := rfl

/-- The exponent of every entry of an array, nought where the entry is. -/
theorem exponent_at (A : FVec Ideal S3072x48 .f32) (q : S3072x48.Idx) :
    select (cmpf .oeq A (broadcast S3072x48 (Scalar.ofBits .f32 0x00000000#32 : Ideal .f32))) (broadcast S3072x48 (Scalar.ofBits .f32 0x00000000#32 : Ideal .f32))
      (maximumf (addf (floor (divf (log A) (broadcast S3072x48 (Scalar.log (Scalar.ofBits .f32 0x40000000#32 : Ideal .f32)))))
        (broadcast S3072x48 (Scalar.ofBits .f32 0x3F800000#32 : Ideal .f32))) (broadcast S3072x48 (Scalar.ofBits .f32 0xC2FC0000#32 : Ideal .f32))) q
      = exponent (A q) := by
  refine (select_at A _ q).trans ?_
  rw [power_at, exponent]

/-- The largest magnitudes of the runs, over the largest code. -/
def amaxes (v : FVec Ideal S3072x48x128 .f32) : FVec Ideal S3072x48 .f32 :=
  mulf (multiReduction (F := Ideal) .maximumf [2] S3072x48 (absf v) 0xFF800000#32 reduces_S3072x48x128_S3072x48 (.inl rfl) rfl)
    (broadcast S3072x48 (Scalar.ofBits .f32 0x3B124925#32 : Ideal .f32))

/-- An array over the largest code, read at an entry. -/
theorem over_at (A : FVec Ideal S3072x48 .f32) (q : S3072x48.Idx) :
    mulf A (broadcast S3072x48 (Scalar.ofBits .f32 0x3B124925#32 : Ideal .f32)) q = A q * Ideal.ofBits .f32 0x3B124925#32 := rfl

/-- They, read at an entry. -/
theorem amaxes_at (v : FVec Ideal S3072x48x128 .f32) (i : Fin 3072) (r : Fin 48) :
    amaxes v (ix2 i r) = amax fun l => v (ix3 i r l) := by
  unfold amaxes amax
  refine (over_at _ _).trans (congrArg (fun y : EReal => y * Ideal.ofBits .f32 0x3B124925#32) (amax_at v i r))

/-- The reference's exponents, as operations on the largest magnitudes. -/
theorem expo_form (x : FVec Ideal S3072x6144 .f32) (g : FVec Ideal S1x6144 .f32) :
    k0_pay6 (F := Ideal) x g = select (cmpf .oeq (amaxes (k0_pay5 x g)) (broadcast S3072x48 (Scalar.ofBits .f32 0x00000000#32 : Ideal .f32))) (broadcast S3072x48 (Scalar.ofBits .f32 0x00000000#32 : Ideal .f32))
      (maximumf (addf (floor (divf (log (amaxes (k0_pay5 x g))) (broadcast S3072x48 (Scalar.log (Scalar.ofBits .f32 0x40000000#32 : Ideal .f32)))))
        (broadcast S3072x48 (Scalar.ofBits .f32 0x3F800000#32 : Ideal .f32))) (broadcast S3072x48 (Scalar.ofBits .f32 0xC2FC0000#32 : Ideal .f32))) := by
  unfold k0_pay6 amaxes
  rfl

/-- The reference's exponent, read at an entry. -/
theorem expo_at (x : FVec Ideal S3072x6144 .f32) (g : FVec Ideal S1x6144 .f32) (i : Fin 3072) (r : Fin 48) :
    k0_pay6 (F := Ideal) x g (ix2 i r) = expo (rowOf x i) (gainOf g) r := by
  rw [expo_form, exponent_at, amaxes_at, expo]
  simp only [normed_at]

/-- Scaling and clipping, read at an entry. -/
theorem clip_at (v : FVec Ideal S3072x48x128 .f32) (e : FVec Ideal S3072x48 .f32) (i : Fin 3072) (r : Fin 48) (l : Fin 128) :
    truncf .fp8e4m3 (minimumf (broadcast S3072x48x128 (Scalar.ofBits .f32 0x43E00000#32 : Ideal .f32))
      (maximumf (broadcast S3072x48x128 (Scalar.ofBits .f32 0xC3E00000#32 : Ideal .f32))
        (mulf v (broadcastTo S3072x48x128 (shapeCast S3072x48x1 (exp2 (subf (broadcast S3072x48 (Scalar.ofBits .f32 0x00000000#32)) e))
          shapeCasts_S3072x48_S3072x48x1) broadcasts_S3072x48x1_S3072x48x128)))) bitsLt_fp8e4m3_f32 (ix3 i r l)
      = min (Ideal.ofBits .f32 0x43E00000#32) (max (Ideal.ofBits .f32 0xC3E00000#32) (v (ix3 i r l) * Ideal.exp2 (0 - e (ix2 i r)))) := by
  pointwise []
  rfl

/-- The reference's codes before the runs are joined, read at an entry. -/
theorem code_at (x : FVec Ideal S3072x6144 .f32) (g : FVec Ideal S1x6144 .f32) (i : Fin 3072) (r : Fin 48) (l : Fin 128) :
    k0_pay7 (F := Ideal) x g (ix3 i r l) = code (rowOf x i) (gainOf g) (col r l) := by
  unfold k0_pay7
  refine (clip_at (k0_pay5 x g) (k0_pay6 x g) i r l).trans ?_
  rw [normed_at, expo_at, code, Ideal.ofBits_zero_f32]
  have : (⟨(col r l).val / 128, by omega⟩ : Fin 48) = r := Fin.ext (by show (r.val * 128 + l.val) / 128 = r.val; omega)
  rw [this]

/-- The reference's codes, read at an entry. -/
theorem codes_at (v : FVec Ideal S3072x48x128 .fp8e4m3) (i : Fin 3072) (k : Fin 6144) :
    k0_pay1 (F := Ideal) v (ix2 i k) = v (ix3 i (⟨k / 128, by omega⟩ : Fin 48) (⟨k % 128, by omega⟩ : Fin 128)) := by
  pointwise [k0_pay1]

/-- The reference's codes are the codes of the rows. -/
theorem reference_code_at (x : FVec Ideal S3072x6144 .f32) (g : FVec Ideal S1x6144 .f32) (i : Fin 3072) (k : Fin 6144) :
    k0_pay1 (F := Ideal) (k0_pay7 x g) (ix2 i k) = code (rowOf x i) (gainOf g) k := by
  rw [codes_at, code_at]
  congr 1
  exact Fin.ext (by show k.val / 128 * 128 + k.val % 128 = k.val; omega)

/-- The reference's scales, transposed, read at an entry. -/
theorem scales_at (e : FVec Ideal S3072x48 .f32) (r : Fin 48) (i : Fin 3072) :
    k0_pay3 (F := Ideal) e (ix2 r i) = Ideal.exp2 (e (ix2 i r)) := by
  pointwise [k0_pay3, k0_pay2]
  rfl

/-- The reference's scales are the scales of the rows' runs. -/
theorem reference_scale_at (x : FVec Ideal S3072x6144 .f32) (g : FVec Ideal S1x6144 .f32) (r : Fin 48) (i : Fin 3072) :
    k0_pay3 (F := Ideal) (k0_pay6 x g) (ix2 r i) = scale (rowOf x i) (gainOf g) r := by
  rw [scales_at, expo_at]
  rfl

/-- The reference's product, read at an entry, over any codes and exponents. -/
theorem product_at (e : FVec Ideal S3072x48 .f32) (v : FVec Ideal S3072x48x128 .fp8e4m3) (ws : Vec Ideal S21x48 .f32) (w : Vec Ideal S2624x6144 .fp8e4m3)
    (j : Fin 2624) (i : Fin 3072) :
    k0_pay4 (F := Ideal) e v ws w (ix2 j i)
      = ∑ k : Fin 6144, weight ws w j k * ((show EReal from k0_pay1 (F := Ideal) v (ix2 i k)) * Ideal.exp2 (e (ix2 i (⟨k / 128, by omega⟩ : Fin 48)))) := by
  unfold k0_pay4
  generalize k0_pay1 (F := Ideal) v = c
  pointwise [weight, k0_pay2]
  rfl

/-- The reference's product is the projection. -/
theorem reference_qkv_at (ws : FVec Ideal S21x48 .f32) (w : Vec Ideal S2624x6144 .fp8e4m3) (g : FVec Ideal S1x6144 .f32) (x : FVec Ideal S3072x6144 .f32)
    (j : Fin 2624) (i : Fin 3072) :
    k0_pay4 (F := Ideal) (k0_pay6 x g) (k0_pay7 x g) ws w (ix2 j i) = qkvAt ws w g x j i := by
  rw [product_at]
  simp only [reference_code_at, expo_at]
  rfl

end Cert.ProjSpec

end
-- ==== Proof.ProjRow.lean ====
/- One run of the projecting call's quantising loop over the extended reals, entry by entry: the codes and scales of the
   specification. -/
module

public import proofs.«01_k».proof.Proof.ProjQuantise
public import proofs.«01_k».proof.Proof.ProjSpec
public import Idealize.ShloMosaic.Lib.Pipeline.ValueKit

@[expose] public section

set_option maxRecDepth 16384

noncomputable section

open Idealize.ShloMosaic Idealize.ShloMosaic.TcCoe Idealize.SL.Sem

namespace Cert.ProjQuantise

open Cert.ProjIdeal Cert.ProjIdeal.Gen Cert.ProjScale Cert.ProjSpec

/-- One step of the search, at an entry. -/
theorem searchV_at (a : FVec Ideal S32x128 .f32) (n : IVec S32x128 32) (b : BitVec 32) (q : S32x128.Idx) :
    searchV a n b q = if (show EReal from a q) < Ideal.ofBits .f32 ((n q + b) <<< (23 : ℕ)) then n q else n q + b := by
  pointwise [searchV]
  rfl

/-- The exponent field, at an entry. -/
theorem fieldV_at (a : FVec Ideal S32x128 .f32) (q : S32x128.Idx) : fieldV a q = BitVec.ofNat 32 (field (show EReal from a q)) := by
  have h : ∀ (b n : ℕ) (N : IVec S32x128 32), N q = BitVec.ofNat 32 n →
      searchV a N (BitVec.ofNat 32 b) q = BitVec.ofNat 32 (step (show EReal from a q) b n) := by
    intro b n N hN
    rw [searchV_at, hN]
    exact step_word _ b n
  unfold fieldV field
  exact h 1 _ _ (h 2 _ _ (h 4 _ _ (h 8 _ _ (h 16 _ _ (h 32 _ _ (h 64 _ _ (h 128 0 _ rfl)))))))

/-- The choice between two words where a value is nought, at an entry. -/
theorem expoSelect_at (a : FVec Ideal S32x128 .f32) (f : IVec S32x128 32) (q : S32x128.Idx) :
    select (cmpf .oeq a (broadcast S32x128 (Scalar.ofBits .f32 0x00000000#32 : Ideal .f32))) (broadcast S32x128 0#32)
      (subi f (broadcast S32x128 126#32)) q = if (show EReal from a q) = 0 then 0#32 else f q - 126#32 := by
  pointwise []
  rfl

/-- The exponent, at an entry. -/
theorem expoV_at (a : FVec Ideal S32x128 .f32) (q : S32x128.Idx) : expoV a q = word (show EReal from a q) := by
  refine (expoSelect_at a (fieldV a) q).trans ?_
  rw [fieldV_at, word]

/-- A scale from its exponent, at an entry. -/
theorem scaleBits_at (e : IVec S32x128 32) (q : S32x128.Idx) :
    (bitcastToFloat .f32 (shli (addi e (broadcast S32x128 127#32)) (broadcast S32x128 23#32)) : FVec Ideal S32x128 .f32) q
      = Ideal.ofBits .f32 ((e q + 127#32) <<< (23 : ℕ)) := by
  pointwise []
  rfl

/-- A scale's inverse from its exponent, at an entry. -/
theorem overBits_at (e : IVec S32x128 32) (q : S32x128.Idx) :
    (bitcastToFloat .f32 (shli (subi (broadcast S32x128 127#32) e) (broadcast S32x128 23#32)) : FVec Ideal S32x128 .f32) q
      = Ideal.ofBits .f32 ((127#32 - e q) <<< (23 : ℕ)) := by
  pointwise []
  rfl

/-- A value the search tells apart: a real from nought up to `2 ^ 126`. -/
def Small (a : EReal) : Prop := ∃ r : ℝ, a = r ∧ 0 ≤ r ∧ r < (2 : ℝ) ^ (126 : ℤ)

/-- The scale of a run, at an entry. -/
theorem scaleV_at (a : FVec Ideal S32x128 .f32) (q : S32x128.Idx) (h : Small (a q)) :
    scaleV a q = Ideal.exp2 (exponent (show EReal from a q)) := by
  refine (scaleBits_at (expoV a) q).trans ?_
  rw [expoV_at]
  obtain ⟨r, hr, h0, h1⟩ := h
  rw [hr]
  exact scale_bits r h0 h1

/-- The inverse of a run's scale, at an entry. -/
theorem overV_at (a : FVec Ideal S32x128 .f32) (q : S32x128.Idx) (h : Small (a q)) :
    overV a q = Ideal.exp2 (0 - exponent (show EReal from a q)) := by
  refine (overBits_at (expoV a) q).trans ?_
  rw [expoV_at]
  obtain ⟨r, hr, h0, h1⟩ := h
  rw [hr]
  exact over_bits r h0 h1

/-- The largest magnitude of a run, in every lane. -/
theorem amaxV_at (v : FVec Ideal S32x128 .f32) (i : Fin 32) (l : Fin 128) :
    amaxV v (ix2 i l) = amax fun l => v (ix2 i l) := by
  unfold amaxV amax
  pointwise []
  rfl

/-- The normalised run, at an entry. -/
theorem normV_at (inv x : FVec Ideal S32x128 .f32) (g : FVec Ideal S1x128 .f32) (i : Fin 32) (l : Fin 128) :
    normV inv x g (ix2 i l) = (show EReal from x (ix2 i l)) * (show EReal from inv (ix2 i l)) * (show EReal from g (ix2 (0 : Fin 1) l)) := by
  pointwise [normV]

/-- Scaling and clipping a run, at an entry. -/
theorem clipV_at (v o : FVec Ideal S32x128 .f32) (q : S32x128.Idx) :
    truncf .fp8e4m3 (minimumf (broadcast S32x128 (Scalar.ofBits .f32 0x43E00000#32 : Ideal .f32))
      (maximumf (broadcast S32x128 (Scalar.ofBits .f32 0xC3E00000#32 : Ideal .f32)) (mulf v o))) bitsLt_fp8e4m3_f32 q
      = min (Ideal.ofBits .f32 0x43E00000#32) (max (Ideal.ofBits .f32 0xC3E00000#32) ((show EReal from v q) * (show EReal from o q))) := by
  pointwise []

/-- Codes times scales, at an entry. -/
theorem deqMul_at (c : FVec Ideal S32x128 .fp8e4m3) (s : FVec Ideal S32x128 .f32) (i : Fin 32) (l : Fin 128) :
    shapeCast S32x128 (mulf (extf .bf16 c bitsLt_fp8e4m3_bf16) (truncf .bf16 s bitsLt_bf16_f32)) shapeCasts_S32x128_S32x128 (ix2 i l)
      = (show EReal from c (ix2 i l)) * (show EReal from s (ix2 i l)) := by
  pointwise []

/-- The sum of the squares before run `n`, at an entry. -/
theorem squaresV_at (x : ℕ → FVec Ideal S32x128 .f32) (n : ℕ) (q : S32x128.Idx) :
    (show EReal from squaresV x n q) = ∑ r ∈ Finset.range n, (show EReal from x r q) * (show EReal from x r q) := by
  induction n with
  | zero => exact (Ideal.ofBits_zero_f32).trans (Finset.sum_range_zero _).symm
  | succ n ih =>
    rw [Finset.sum_range_succ, ← ih]
    rfl

/-- The inverse root, in every lane. -/
theorem invV_at (s : FVec Ideal S32x128 .f32) (i : Fin 32) (l : Fin 128) :
    invV s (ix2 i l) = Ideal.div 1 (Ideal.sqrt ((∑ l : Fin 128, (show EReal from s (ix2 i l))) * Ideal.ofBits .f32 0x392AAAAB#32
      + Ideal.ofBits .f32 0x358637BD#32)) := by
  pointwise [invV]

/-- The choice of a scale in one lane, at an entry. -/
theorem lane_at (n : ℕ) (hn : n < 48) (s t : FVec Ideal S32x128 .f32) (i : Fin 32) (l : Fin 128) :
    select (cmpi .eq (iota .tc S32x128 32 [1] iota_S32x128_d1_w32) (broadcast S32x128 (BitVec.ofNat 32 n))) s t (ix2 i l)
      = if l.val = n then s (ix2 i l) else t (ix2 i l) := by
  pointwise []
  by_cases h : l.val = n
  · rw [if_pos h, h]
    exact Scalar.select_decide _ _ _ |>.trans (if_pos rfl)
  · rw [if_neg h]
    refine Scalar.select_decide _ _ _ |>.trans (if_neg fun hh => h ?_)
    have := congrArg BitVec.toNat hh
    simp only [BitVec.toNat_ofNat] at this
    omega

/-- The scales, at an entry: lane `r` holds run `r`'s. -/
theorem scalesV_at (v : ℕ → FVec Ideal S32x128 .f32) (n : ℕ) (hn : n ≤ 48) (i : Fin 32) (l : Fin 128) (hl : l.val < n) :
    scalesV v n (ix2 i l) = scaleV (amaxV (v l.val)) (ix2 i l) := by
  induction n with
  | zero => omega
  | succ n ih =>
    refine (lane_at n (by omega) _ _ i l).trans ?_
    by_cases h : l.val = n
    · rw [if_pos h, h]
    · rw [if_neg h]
      exact ih (by omega) (by omega)

end Cert.ProjQuantise

end
-- ==== Proof.ProjBound.lean ====
/- How large the normalised values are: the row's root is never nought and, with gains of at most about 1e30, every run's
   largest magnitude is a real the kernel's search for the exponent tells apart. -/
module

public import proofs.«01_k».proof.Proof.ProjRow

@[expose] public section

noncomputable section

open Idealize.ShloMosaic

namespace Cert.ProjBound

open Cert.ProjScale Cert.ProjSpec Cert.ProjQuantise

/-- The inverse of the row's length as a float: a little over 1e-4. -/
theorem mean_const : Ideal.ofBits .f32 0x392AAAAB#32 = ((11184811 * (2 : ℝ) ^ (-36 : ℤ) : ℝ) : EReal) := by
  simp [Ideal.ofBits, Ideal.ieee, -EReal.coe_mul]

/-- The small constant under the root, a positive real. -/
theorem eps_const : Ideal.ofBits .f32 0x358637BD#32 = ((8796093 * (2 : ℝ) ^ (-43 : ℤ) : ℝ) : EReal) := by
  simp [Ideal.ofBits, Ideal.ieee, -EReal.coe_mul]

/-- The inverse of the largest code as a float. -/
theorem code_const : Ideal.ofBits .f32 0x3B124925#32 = ((9586981 * (2 : ℝ) ^ (-32 : ℤ) : ℝ) : EReal) := by
  simp [Ideal.ofBits, Ideal.ieee, -EReal.coe_mul]

/-- The bound on the gains. -/
theorem gain_const : Ideal.ofBits .f32 0x7149F2CA#32 = ((13234890 * (2 : ℝ) ^ (76 : ℤ) : ℝ) : EReal) := by
  simp [Ideal.ofBits, Ideal.ieee, -EReal.coe_mul]

/-- Where a maximum starts. -/
theorem bot_const : Ideal.ofBits .f32 0xFF800000#32 = ⊥ := by
  simp [Ideal.ofBits, Ideal.ieee]

/-- A square is not negative. -/
theorem square_nonneg (x : EReal) : 0 ≤ x * x := by
  rcases le_total 0 x with h | h
  · exact mul_nonneg h h
  · induction x with
    | bot => simp
    | top => simp
    | coe r => rw [← EReal.coe_mul]; exact_mod_cast mul_self_nonneg r

/-- The root of a row is infinite, or a positive real no less than a hundredth of every magnitude in the row. -/
theorem root_cases (row : Fin 6144 → EReal) :
    root row = ⊤ ∨ ∃ s : ℝ, root row = s ∧ 0 < s ∧ ∀ k, ∃ x : ℝ, row k = x ∧ |x| ≤ 100 * s := by
  have hS : 0 ≤ ∑ k, row k * row k := Finset.sum_nonneg fun k _ => square_nonneg _
  have hle : ∀ k, row k * row k ≤ ∑ k, row k * row k := fun k =>
    Finset.single_le_sum (f := fun k => row k * row k) (fun k _ => square_nonneg _) (Finset.mem_univ k)
  unfold root
  rw [mean_const, eps_const]
  generalize (∑ k, row k * row k) = S at hS hle ⊢
  have hc : (0 : ℝ) < 11184811 * (2 : ℝ) ^ (-36 : ℤ) := by positivity
  have he : (0 : ℝ) < 8796093 * (2 : ℝ) ^ (-43 : ℤ) := by positivity
  have hc4 : (1 : ℝ) ≤ 10000 * (11184811 * (2 : ℝ) ^ (-36 : ℤ)) := by norm_num
  generalize (11184811 * (2 : ℝ) ^ (-36 : ℤ) : ℝ) = c at hc hc4 ⊢
  generalize (8796093 * (2 : ℝ) ^ (-43 : ℤ) : ℝ) = e at he ⊢
  induction S with
  | bot => simp at hS
  | top =>
    left
    rw [EReal.top_mul_coe_of_pos hc, EReal.top_add_coe]
    rfl
  | coe S =>
    right
    have hS' : (0 : ℝ) ≤ S := by exact_mod_cast hS
    have hp : 0 < S * c + e := by positivity
    refine ⟨Real.sqrt (S * c + e), ?_, Real.sqrt_pos.2 hp, fun k => ?_⟩
    · rw [← EReal.coe_mul, ← EReal.coe_add]
      show (if S * c + e < 0 then (⊥ : EReal) else (Real.sqrt (S * c + e) : EReal)) = _
      rw [if_neg (not_lt.2 hp.le)]
    · have hk := hle k
      generalize row k = x at hk
      induction x with
      | bot => simp at hk
      | top => simp at hk
      | coe x =>
        refine ⟨x, rfl, ?_⟩
        have hx : x * x ≤ S := by exact_mod_cast hk
        rw [show (100 : ℝ) = Real.sqrt 10000 by rw [show (10000 : ℝ) = 100 ^ 2 by norm_num, Real.sqrt_sq (by norm_num)],
          ← Real.sqrt_mul (by norm_num)]
        refine Real.abs_le_sqrt ?_
        nlinarith

/-- The root is positive. -/
theorem root_pos (row : Fin 6144 → EReal) : 0 < root row := by
  rcases root_cases row with h | ⟨s, h, hs, -⟩
  · rw [h]; exact EReal.zero_lt_top
  · rw [h]; exact_mod_cast hs

/-- Multiplying by the inverse root is dividing by the root. -/
theorem normed_eq (row gain : Fin 6144 → EReal) (k : Fin 6144) :
    row k * Ideal.div 1 (root row) * gain k = normed row gain k := by
  have h : root row ≠ 0 := (root_pos row).ne'
  rw [normed, Ideal.div, Ideal.div, if_neg h, if_neg h, one_mul]

/-- A normalised value's magnitude, with the gain bounded. -/
theorem normed_bound (row gain : Fin 6144 → EReal) (k : Fin 6144)
    (hg : max (gain k) (-gain k) ≤ Ideal.ofBits .f32 0x7149F2CA#32) :
    ∃ y : ℝ, normed row gain k = y ∧ |y| ≤ (10 : ℝ) ^ (33 : ℕ) := by
  have h : root row ≠ 0 := (root_pos row).ne'
  rw [gain_const] at hg
  obtain ⟨h1, h2⟩ := max_le_iff.1 hg
  have hb : (13234890 * (2 : ℝ) ^ (76 : ℤ) : ℝ) ≤ (10 : ℝ) ^ (31 : ℕ) := by norm_num
  generalize (13234890 * (2 : ℝ) ^ (76 : ℤ) : ℝ) = B at h1 h2 hb
  rw [normed, Ideal.div, if_neg h]
  generalize gain k = g at h1 h2
  have hgr : ∃ g' : ℝ, g = g' ∧ |g'| ≤ B := by
    induction g with
    | bot => simp at h2
    | top => simp at h1
    | coe g =>
      refine ⟨g, rfl, abs_le.2 ⟨?_, by exact_mod_cast h1⟩⟩
      have : -g ≤ B := by exact_mod_cast h2
      linarith
  obtain ⟨g', rfl, hg'⟩ := hgr
  rcases root_cases row with hr | ⟨s, hr, hs, hrow⟩
  · refine ⟨0, ?_, by norm_num⟩
    rw [hr, EReal.inv_top, mul_zero, zero_mul, EReal.coe_zero]
  · obtain ⟨x, hx, hxs⟩ := hrow k
    refine ⟨x * s⁻¹ * g', ?_, ?_⟩
    · rw [hr, hx, ← EReal.coe_inv, ← EReal.coe_mul, ← EReal.coe_mul]
    · rw [abs_mul, abs_mul, abs_of_pos (inv_pos.2 hs)]
      have h3 : |x| * s⁻¹ ≤ 100 := by
        rw [← div_eq_mul_inv, div_le_iff₀ hs]
        exact hxs
      calc |x| * s⁻¹ * |g'| ≤ 100 * (10 : ℝ) ^ (31 : ℕ) :=
            mul_le_mul h3 (hg'.trans hb) (abs_nonneg _) (by norm_num)
        _ = (10 : ℝ) ^ (33 : ℕ) := by norm_num

/-- A run of bounded values has a largest magnitude the search tells apart. -/
theorem amax_small (v : Fin 128 → EReal) (h : ∀ l, ∃ y : ℝ, v l = y ∧ |y| ≤ (10 : ℝ) ^ (33 : ℕ)) : Small (amax v) := by
  unfold amax
  rw [code_const, bot_const]
  have hB : (10 : ℝ) ^ (33 : ℕ) * (9586981 * (2 : ℝ) ^ (-32 : ℤ)) < (2 : ℝ) ^ (126 : ℤ) := by norm_num
  have hc : (0 : ℝ) < 9586981 * (2 : ℝ) ^ (-32 : ℤ) := by positivity
  generalize (9586981 * (2 : ℝ) ^ (-32 : ℤ) : ℝ) = c at hB hc ⊢
  have hle : (Finset.univ : Finset (Fin 128)).fold max ⊥ (fun l => max (v l) (-v l)) ≤ (((10 : ℝ) ^ (33 : ℕ) : ℝ) : EReal) := by
    refine (Finset.fold_max_le _).2 ⟨bot_le, fun l _ => ?_⟩
    obtain ⟨y, hy, hb⟩ := h l
    rw [hy, ← EReal.coe_neg]
    exact max_le (by exact_mod_cast (abs_le.1 hb).2) (by
      have := (abs_le.1 hb).1
      exact EReal.coe_le_coe_iff.2 (by linarith))
  have hge : 0 ≤ (Finset.univ : Finset (Fin 128)).fold max ⊥ (fun l => max (v l) (-v l)) := by
    refine (Finset.le_fold_max _).2 (.inr ⟨0, Finset.mem_univ _, ?_⟩)
    obtain ⟨y, hy, -⟩ := h 0
    rw [hy, ← EReal.coe_neg]
    rcases le_total 0 y with h0 | h0
    · exact le_max_of_le_left (by exact_mod_cast h0)
    · exact le_max_of_le_right (by exact_mod_cast (neg_nonneg.2 h0))
  generalize (Finset.univ : Finset (Fin 128)).fold max ⊥ (fun l => max (v l) (-v l)) = M at hle hge
  induction M with
  | bot => simp at hge
  | top => exact absurd hle (not_le.2 (EReal.coe_lt_top _))
  | coe M =>
    have h0 : (0 : ℝ) ≤ M := by exact_mod_cast hge
    have h1 : M ≤ (10 : ℝ) ^ (33 : ℕ) := EReal.coe_le_coe_iff.1 hle
    exact ⟨M * c, by rw [EReal.coe_mul], by positivity, lt_of_le_of_lt (mul_le_mul_of_nonneg_right h1 hc.le) hB⟩

end Cert.ProjBound

end
-- ==== Proof.ProjTrip.lean ====
/- The quantising loop of the projecting call over the extended reals: what its trips store, entry by entry. -/
module

public import proofs.«01_k».proof.Proof.ProjBound

@[expose] public section

set_option maxRecDepth 16384

noncomputable section

open Idealize.ShloMosaic Idealize.ShloMosaic.TcCoe Idealize.SL.Sem

namespace Cert.ProjQuantise

open Cert.ProjIdeal Cert.ProjIdeal.Gen Cert.ProjScale Cert.ProjSpec Cert.ProjBound

/-! ## One trip -/

/-- The loop has eight trips. -/
theorem trips_eq : k0_t1_loop.trips = 8 := by decide +kernel

/-- The row of the block that lane row `i` of trip `k` is. -/
def rowIx (k : Fin k0_t1_loop.trips) (i : Fin 32) : Fin 256 := ⟨32 * k.val + i.val, by have := lt_of_lt_of_eq k.isLt trips_eq; omega⟩

/-- Where a run's entry lies in the block. -/
theorem runR_idx (k : Fin k0_t1_loop.trips) (r : Fin 48) (i : Fin 32) (l : Fin 128) :
    (runR k r).idx (ix2 i l) = ix2 (rowIx k i) (col r l) := by
  refine funext fun a => Fin.ext ?_
  show offs k r a + 1 * (ix2 i l a).val = _
  rw [offs_eq]
  match a with
  | ⟨0, _⟩ => show 32 * k.val + 1 * i.val = 32 * k.val + i.val; omega
  | ⟨1, _⟩ => show 128 * r.val + 1 * l.val = r.val * 128 + l.val; omega

/-- Where a gain lies in the row of gains. -/
theorem gain_idx (r : Fin 48) (l : Fin 128) :
    (Rect.unit (s := S1x6144) ![0, 128 * r.val] S1x128.size (gain_inb r)).idx (ix2 (0 : Fin 1) l) = ix2 (0 : Fin 1) (col r l) := by
  refine funext fun a => Fin.ext ?_
  match a with
  | ⟨0, _⟩ => rfl
  | ⟨1, _⟩ => show 128 * r.val + 1 * l.val = r.val * 128 + l.val; omega

/-- A row of a block. -/
def blockRow (x : S256x6144.Idx → EReal) (i : Fin 256) (k : Fin 6144) : EReal := x (ix2 i k)

section
variable (arg3 : Memref sig .tc .vmem S1x6144 .f32) (arg4 : Memref sig .tc .vmem S256x6144 .f32)
  (X_arg3 : BufTy.Contents (Elt Ideal) arg3.view.ty) (X_arg4 : BufTy.Contents (Elt Ideal) arg4.view.ty)
  (x : S256x6144.Idx → EReal) (g : FVec Ideal S1x6144 .f32)

/-- The sum of a row's squares, run by run and lane by lane. -/
theorem row_sum (f : Fin 6144 → EReal) : ∑ l : Fin 128, ∑ r : Fin 48, f (col r l) = ∑ k, f k := by
  rw [Finset.sum_comm, ← Fintype.sum_prod_type']
  refine Fintype.sum_equiv (finProdFinEquiv (m := 48) (n := 128)) _ _ fun p => ?_
  refine congrArg f (Fin.ext ?_)
  show p.1.val * 128 + p.2.val = p.2.val + 128 * p.1.val
  omega

/-- A run's inputs, read at an entry. -/
theorem xRun_at (hx : arg4.view.read (Elt Ideal) X_arg4 = x) (k : Fin k0_t1_loop.trips) (r : Fin 48) (i : Fin 32) (l : Fin 128) :
    xRun arg4 X_arg4 k r (ix2 i l) = blockRow x (rowIx k i) (col r l) := by
  refine (congrArg (arg4.view.read (Elt Ideal) X_arg4) (runR_idx k r i l)).trans ?_
  rw [hx]; rfl

/-- A run's gains, read at an entry. -/
theorem gRun_at (hg : arg3.view.read (Elt Ideal) X_arg3 = g) (r : Fin 48) (l : Fin 128) :
    gRun arg3 X_arg3 r (ix2 (0 : Fin 1) l) = gainOf g (col r l) := by
  refine (congrArg (arg3.view.read (Elt Ideal) X_arg3) (gain_idx r l)).trans ?_
  rw [hg]; rfl

/-- The inverse root of a trip, in every lane of a row. -/
theorem invRun_at (hx : arg4.view.read (Elt Ideal) X_arg4 = x) (k : Fin k0_t1_loop.trips) (i : Fin 32) (l : Fin 128) :
    invRun arg4 X_arg4 k (ix2 i l) = Ideal.div 1 (root (blockRow x (rowIx k i))) := by
  unfold invRun root
  refine (invV_at _ i l).trans ?_
  have h : ∀ l : Fin 128, (show EReal from squaresV (fun n => if h : n < 48 then xRun arg4 X_arg4 k ⟨n, h⟩ else xRun arg4 X_arg4 k 0) 48 (ix2 i l))
      = ∑ r : Fin 48, blockRow x (rowIx k i) (col r l) * blockRow x (rowIx k i) (col r l) := by
    intro l
    refine (squaresV_at _ 48 (ix2 i l)).trans ?_
    rw [Finset.sum_range]
    refine Finset.sum_congr rfl fun r _ => ?_
    rw [dif_pos r.isLt]
    exact congrArg (fun y : EReal => y * y) (xRun_at arg4 X_arg4 x hx k r i l)
  rw [Finset.sum_congr rfl fun l _ => h l, row_sum fun k' => blockRow x (rowIx k i) k' * blockRow x (rowIx k i) k']

/-- A run normalised, read at an entry. -/
theorem vRun_at (hx : arg4.view.read (Elt Ideal) X_arg4 = x) (hg : arg3.view.read (Elt Ideal) X_arg3 = g)
    (k : Fin k0_t1_loop.trips) (r : Fin 48) (i : Fin 32) (l : Fin 128) :
    vRun arg3 arg4 X_arg3 X_arg4 k r (ix2 i l) = normed (blockRow x (rowIx k i)) (gainOf g) (col r l) := by
  unfold vRun
  refine (normV_at _ _ _ i l).trans ?_
  rw [← normed_eq]
  refine congrArg₂ (fun a b : EReal => a * b) (congrArg₂ (fun a b : EReal => a * b) ?_ ?_) ?_
  · exact xRun_at arg4 X_arg4 x hx k r i l
  · exact invRun_at arg4 X_arg4 x hx k i l
  · exact gRun_at arg3 X_arg3 g hg r l

/-- The gains are bounded. -/
def Bounded (g : FVec Ideal S1x6144 .f32) : Prop := ∀ k, max (gainOf g k) (-gainOf g k) ≤ Ideal.ofBits .f32 0x7149F2CA#32

/-- A run's largest magnitude, in every lane. -/
theorem amaxRun_at (hx : arg4.view.read (Elt Ideal) X_arg4 = x) (hg : arg3.view.read (Elt Ideal) X_arg3 = g)
    (k : Fin k0_t1_loop.trips) (r : Fin 48) (i : Fin 32) (l : Fin 128) :
    amaxV (vRun arg3 arg4 X_arg3 X_arg4 k r) (ix2 i l) = amax fun l => normed (blockRow x (rowIx k i)) (gainOf g) (col r l) := by
  refine (amaxV_at _ i l).trans (congrArg amax (funext fun l => ?_))
  exact vRun_at arg3 arg4 X_arg3 X_arg4 x g hx hg k r i l

/-- It is one the search tells apart. -/
theorem amaxRun_small (hx : arg4.view.read (Elt Ideal) X_arg4 = x) (hg : arg3.view.read (Elt Ideal) X_arg3 = g) (hB : Bounded g)
    (k : Fin k0_t1_loop.trips) (r : Fin 48) (i : Fin 32) (l : Fin 128) :
    Small (amaxV (vRun arg3 arg4 X_arg3 X_arg4 k r) (ix2 i l)) := by
  rw [amaxRun_at arg3 arg4 X_arg3 X_arg4 x g hx hg]
  exact amax_small _ fun l => normed_bound _ _ _ (hB _)

/-- A run's scale, in every lane. -/
theorem scaleRun_at (hx : arg4.view.read (Elt Ideal) X_arg4 = x) (hg : arg3.view.read (Elt Ideal) X_arg3 = g) (hB : Bounded g)
    (k : Fin k0_t1_loop.trips) (r : Fin 48) (i : Fin 32) (l : Fin 128) :
    scaleV (amaxV (vRun arg3 arg4 X_arg3 X_arg4 k r)) (ix2 i l) = scale (blockRow x (rowIx k i)) (gainOf g) r := by
  refine (scaleV_at _ _ (amaxRun_small arg3 arg4 X_arg3 X_arg4 x g hx hg hB k r i l)).trans ?_
  exact congrArg (fun y => Ideal.exp2 (exponent y)) (amaxRun_at arg3 arg4 X_arg3 X_arg4 x g hx hg k r i l)

/-- The run of a column. -/
theorem run_of_col (r : Fin 48) (l : Fin 128) (h : (col r l).val / 128 < 48) : (⟨(col r l).val / 128, h⟩ : Fin 48) = r :=
  Fin.ext (by show (r.val * 128 + l.val) / 128 = r.val; omega)

/-- A run's codes, read at an entry. -/
theorem codeRun_at (hx : arg4.view.read (Elt Ideal) X_arg4 = x) (hg : arg3.view.read (Elt Ideal) X_arg3 = g) (hB : Bounded g)
    (k : Fin k0_t1_loop.trips) (r : Fin 48) (i : Fin 32) (l : Fin 128) :
    codeV (vRun arg3 arg4 X_arg3 X_arg4 k r) (ix2 i l) = code (blockRow x (rowIx k i)) (gainOf g) (col r l) := by
  unfold codeV code
  refine (clipV_at _ _ _).trans ?_
  rw [run_of_col, Ideal.ofBits_zero_f32]
  refine congrArg (fun y : EReal => min (Ideal.ofBits .f32 0x43E00000#32) (max (Ideal.ofBits .f32 0xC3E00000#32) y)) ?_
  refine congrArg₂ (fun a b : EReal => a * b) (vRun_at arg3 arg4 X_arg3 X_arg4 x g hx hg k r i l) ?_
  refine (overV_at _ _ (amaxRun_small arg3 arg4 X_arg3 X_arg4 x g hx hg hB k r i l)).trans ?_
  exact congrArg (fun y => Ideal.exp2 (0 - exponent y)) (amaxRun_at arg3 arg4 X_arg3 X_arg4 x g hx hg k r i l)

/-- A run's codes times its scale, read at an entry. -/
theorem deqRun_at (hx : arg4.view.read (Elt Ideal) X_arg4 = x) (hg : arg3.view.read (Elt Ideal) X_arg3 = g) (hB : Bounded g)
    (k : Fin k0_t1_loop.trips) (r : Fin 48) (i : Fin 32) (l : Fin 128) :
    deqV (vRun arg3 arg4 X_arg3 X_arg4 k r) (ix2 i l) = deq (blockRow x (rowIx k i)) (gainOf g) (col r l) := by
  unfold deqV deq
  refine (deqMul_at _ _ i l).trans ?_
  rw [run_of_col]
  exact congrArg₂ (fun a b : EReal => a * b) (codeRun_at arg3 arg4 X_arg3 X_arg4 x g hx hg hB k r i l)
    (scaleRun_at arg3 arg4 X_arg3 X_arg4 x g hx hg hB k r i l)

/-- The scales of a block's row by lane, nought beyond the runs. -/
def laneScale (row gain : Fin 6144 → EReal) (l : Fin 128) : EReal := if h : l.val < 48 then scale row gain ⟨l.val, h⟩ else 0

/-- Beyond the runs so far the lanes are nought. -/
theorem scalesV_rest (v : ℕ → FVec Ideal S32x128 .f32) (n : ℕ) (hn : n ≤ 48) (i : Fin 32) (l : Fin 128) (hl : n ≤ l.val) :
    scalesV v n (ix2 i l) = (0 : EReal) := by
  induction n with
  | zero => exact Ideal.ofBits_zero_f32
  | succ n ih =>
    refine (lane_at n (by omega) _ _ i l).trans ?_
    rw [if_neg (by omega)]
    exact ih (by omega) (by omega)

/-- The scales a trip stores, read at an entry. -/
theorem scalesRun_at (hx : arg4.view.read (Elt Ideal) X_arg4 = x) (hg : arg3.view.read (Elt Ideal) X_arg3 = g) (hB : Bounded g)
    (k : Fin k0_t1_loop.trips) (i : Fin 32) (l : Fin 128) :
    shapeCast S32x128 (scalesV (fun n => if h : n < 48 then vRun arg3 arg4 X_arg3 X_arg4 k ⟨n, h⟩ else vRun arg3 arg4 X_arg3 X_arg4 k 0) 48)
      shapeCasts_S32x128_S32x128 (ix2 i l) = laneScale (blockRow x (rowIx k i)) (gainOf g) l := by
  have e : ∀ V : FVec Ideal S32x128 .f32, shapeCast S32x128 V shapeCasts_S32x128_S32x128 (ix2 i l) = V (ix2 i l) := by
    intro V
    pointwise []
  refine (e _).trans ?_
  unfold laneScale
  by_cases h : l.val < 48
  · rw [dif_pos h]
    refine (scalesV_at _ 48 le_rfl i l h).trans ?_
    simp only [dif_pos h]
    exact scaleRun_at arg3 arg4 X_arg3 X_arg4 x g hx hg hB k ⟨l.val, h⟩ i l
  · rw [dif_neg h]
    exact scalesV_rest _ 48 le_rfl i l (by omega)

end

/-! ## All trips -/

/-- The values at the runs are those at some run. -/
theorem mem_descending {α : Type} (f : Fin 48 → α) (p : α) : p ∈ descending f ↔ ∃ r, f r = p := by
  rw [show descending f = List.map f (descending id) from rfl, List.mem_map]
  have : ∀ r : Fin 48, r ∈ descending (id : Fin 48 → Fin 48) := by decide +kernel
  exact ⟨fun ⟨r, _, h⟩ => ⟨r, h⟩, fun ⟨r, h⟩ => ⟨r, this r, h⟩⟩

variable (𝒱 : Variants) (c : Dev nD) (bd : Option 𝒱.V) (i : grid0.Coords) (arg1 : Memref sig .tc .smem S21x48 .f32) (harg1 : arg1.IsWhole) (arg2 : Memref sig .tc .hbm S2624x6144 .fp8e4m3) (harg2 : arg2.IsWhole) (arg3 : Memref sig .tc .vmem S1x6144 .f32) (harg3 : arg3.IsWhole) (arg4 : Memref sig .tc .vmem S256x6144 .f32) (harg4 : arg4.IsWhole) (arg5 : Memref sig .tc .vmem S256x6144 .fp8e4m3) (harg5 : arg5.IsWhole) (arg6 : Memref sig .tc .vmem S48x256 .f32) (harg6 : arg6.IsWhole) (arg7 : Memref sig .tc .vmem S2624x256 .bf16) (harg7 : arg7.IsWhole) (arg8 : Memref sig .tc .vmem S2624x6144 .bf16) (harg8 : arg8.IsWhole) (arg9 : Memref sig .tc .vmem S5248x512 .fp8e4m3) (harg9 : arg9.IsWhole) (arg10 : Memref sig .tc .vmem S256x6144 .bf16) (harg10 : arg10.IsWhole) (arg11 : Memref sig .tc .vmem S256x128 .f32) (harg11 : arg11.IsWhole) (arg12 : DmaSems sig S2) (X_arg3 : BufTy.Contents (Elt Ideal) arg3.view.ty) (X_arg4 : BufTy.Contents (Elt Ideal) arg4.view.ty)

/-- The pieces the trips before `n` store are those of some trip. -/
theorem pb_mem (n : ℕ) (hn : n ≤ k0_t1_loop.trips) :
    (∀ p, p ∈ (pb_k0_t1 (F := Ideal) 𝒱 c bd i arg1 harg1 arg2 harg2 arg3 harg3 arg4 harg4 arg5 harg5 arg6 harg6 arg7 harg7 arg8 harg8 arg9 harg9 arg10 harg10 arg11 harg11 arg12 X_arg3 X_arg4 n).1 ↔ ∃ k : Fin k0_t1_loop.trips, k.val < n ∧ p ∈ (trip_k0_t1 (F := Ideal) 𝒱 c bd i arg1 harg1 arg2 harg2 arg3 harg3 arg4 harg4 arg5 harg5 arg6 harg6 arg7 harg7 arg8 harg8 arg9 harg9 arg10 harg10 arg11 harg11 arg12 X_arg3 X_arg4 k).1)
    ∧ (∀ p, p ∈ (pb_k0_t1 (F := Ideal) 𝒱 c bd i arg1 harg1 arg2 harg2 arg3 harg3 arg4 harg4 arg5 harg5 arg6 harg6 arg7 harg7 arg8 harg8 arg9 harg9 arg10 harg10 arg11 harg11 arg12 X_arg3 X_arg4 n).2.1 ↔ ∃ k : Fin k0_t1_loop.trips, k.val < n ∧ p ∈ (trip_k0_t1 (F := Ideal) 𝒱 c bd i arg1 harg1 arg2 harg2 arg3 harg3 arg4 harg4 arg5 harg5 arg6 harg6 arg7 harg7 arg8 harg8 arg9 harg9 arg10 harg10 arg11 harg11 arg12 X_arg3 X_arg4 k).2.1)
    ∧ (∀ p, p ∈ (pb_k0_t1 (F := Ideal) 𝒱 c bd i arg1 harg1 arg2 harg2 arg3 harg3 arg4 harg4 arg5 harg5 arg6 harg6 arg7 harg7 arg8 harg8 arg9 harg9 arg10 harg10 arg11 harg11 arg12 X_arg3 X_arg4 n).2.2 ↔ ∃ k : Fin k0_t1_loop.trips, k.val < n ∧ p ∈ (trip_k0_t1 (F := Ideal) 𝒱 c bd i arg1 harg1 arg2 harg2 arg3 harg3 arg4 harg4 arg5 harg5 arg6 harg6 arg7 harg7 arg8 harg8 arg9 harg9 arg10 harg10 arg11 harg11 arg12 X_arg3 X_arg4 k).2.2.1) := by
  induction n with
  | zero =>
    refine ⟨fun p => ⟨fun h => absurd h List.not_mem_nil, fun ⟨k, h, _⟩ => absurd h (by omega)⟩,
      fun p => ⟨fun h => absurd h List.not_mem_nil, fun ⟨k, h, _⟩ => absurd h (by omega)⟩,
      fun p => ⟨fun h => absurd h List.not_mem_nil, fun ⟨k, h, _⟩ => absurd h (by omega)⟩⟩
  | succ n ih =>
    obtain ⟨i1, i2, i3⟩ := ih (by omega)
    rw [pb_k0_t1_succ (F := Ideal) 𝒱 c bd i arg1 harg1 arg2 harg2 arg3 harg3 arg4 harg4 arg5 harg5 arg6 harg6 arg7 harg7 arg8 harg8 arg9 harg9 arg10 harg10 arg11 harg11 arg12 X_arg3 X_arg4 ⟨n, hn⟩]
    have key : ∀ {α : Type} (L M : List α) (T : Fin k0_t1_loop.trips → List α) (hM : ∀ p, p ∈ M ↔ ∃ k : Fin k0_t1_loop.trips, k.val < n ∧ p ∈ T k)
        (hL : L = T ⟨n, hn⟩) (p : α), p ∈ L ++ M ↔ ∃ k : Fin k0_t1_loop.trips, k.val < n + 1 ∧ p ∈ T k := by
      intro α L M T hM hL p
      rw [List.mem_append, hM, hL]
      constructor
      · rintro (h | ⟨k, hk, h⟩)
        · exact ⟨⟨n, hn⟩, by show n < n + 1; omega, h⟩
        · exact ⟨k, by omega, h⟩
      · rintro ⟨k, hk, h⟩
        rcases Nat.lt_or_ge k.val n with hlt | hge
        · exact .inr ⟨k, hlt, h⟩
        · have : k = ⟨n, hn⟩ := Fin.ext (by show k.val = n; omega)
          exact .inl (this ▸ h)
    exact ⟨key _ _ _ i1 rfl, key _ _ _ i2 rfl, key _ _ _ i3 rfl⟩

variable (x : S256x6144.Idx → EReal) (g : FVec Ideal S1x6144 .f32)

/-- The codes of a block. -/
def codesBlk (x : S256x6144.Idx → EReal) (g : FVec Ideal S1x6144 .f32) (y : S256x6144.Idx) : EReal :=
  code (blockRow x (show Fin 256 from y 0)) (gainOf g) (show Fin 6144 from y 1)

/-- The codes times scales of a block. -/
def deqBlk (x : S256x6144.Idx → EReal) (g : FVec Ideal S1x6144 .f32) (y : S256x6144.Idx) : EReal :=
  deq (blockRow x (show Fin 256 from y 0)) (gainOf g) (show Fin 6144 from y 1)

/-- The scales of a block. -/
def scalesBlk (x : S256x6144.Idx → EReal) (g : FVec Ideal S1x6144 .f32) (y : S256x128.Idx) : EReal :=
  laneScale (blockRow x (show Fin 256 from y 0)) (gainOf g) (show Fin 128 from y 1)

/-- An index of a run's rectangle is a pair. -/
theorem exists_pair (z : S32x128.Idx) : ∃ (i : Fin 32) (l : Fin 128), z = ix2 i l := by
  idx_vars z
  exact ⟨_, _, rfl⟩

/-- Every entry of the block lies in a run of a trip. -/
theorem run_covers (y : S256x6144.Idx) : ∃ (k : Fin k0_t1_loop.trips) (r : Fin 48), y ∈ (runR k r).set := by
  obtain ⟨a, b, rfl⟩ : ∃ (a : Fin 256) (b : Fin 6144), y = ix2 a b := by
    idx_vars y
    exact ⟨_, _, rfl⟩
  have hk : a.val / 32 < k0_t1_loop.trips := lt_of_lt_of_eq (by omega) trips_eq.symm
  refine ⟨⟨a.val / 32, hk⟩, ⟨b.val / 128, by omega⟩, ?_⟩
  have h := (runR ⟨a.val / 32, hk⟩ ⟨b.val / 128, by omega⟩).idx_mem (ix2 (⟨a.val % 32, by omega⟩ : Fin 32) (⟨b.val % 128, by omega⟩ : Fin 128))
  rw [runR_idx] at h
  have e : ix2 (rowIx ⟨a.val / 32, hk⟩ ⟨a.val % 32, by omega⟩) (col ⟨b.val / 128, by omega⟩ ⟨b.val % 128, by omega⟩) = ix2 a b := by
    refine congrArg₂ ix2 (Fin.ext ?_) (Fin.ext ?_)
    · show 32 * (a.val / 32) + a.val % 32 = a.val
      omega
    · show b.val / 128 * 128 + b.val % 128 = b.val
      omega
  rw [e] at h
  exact h

/-- The rows of a trip, as a rectangle of the scratch of scales. -/
def laneR (k : Fin k0_t1_loop.trips) : Rect S256x128 := Rect.unit (s := S256x128) (k0_off49 k) S32x128.size (k0_off49_inb k)

/-- Where an entry lies in the scratch of scales. -/
theorem laneR_idx (k : Fin k0_t1_loop.trips) (i : Fin 32) (l : Fin 128) :
    (laneR k).idx (ix2 i l) = ix2 (rowIx k i) l := by
  refine funext fun a => Fin.ext ?_
  show k0_off49 k a + 1 * (ix2 i l a).val = _
  rw [k0_off49_eq]
  match a with
  | ⟨0, _⟩ => show 32 * k.val + 1 * i.val = 32 * k.val + i.val; omega
  | ⟨1, _⟩ => show 0 + 1 * l.val = l.val; omega

/-- Every entry of the scratch of scales lies in the rows of a trip. -/
theorem lane_covers (y : S256x128.Idx) : ∃ k : Fin k0_t1_loop.trips, y ∈ (laneR k).set := by
  obtain ⟨a, b, rfl⟩ : ∃ (a : Fin 256) (b : Fin 128), y = ix2 a b := by
    idx_vars y
    exact ⟨_, _, rfl⟩
  have hk : a.val / 32 < k0_t1_loop.trips := lt_of_lt_of_eq (by omega) trips_eq.symm
  refine ⟨⟨a.val / 32, hk⟩, ?_⟩
  have h := (laneR ⟨a.val / 32, hk⟩).idx_mem (ix2 (⟨a.val % 32, by omega⟩ : Fin 32) b)
  rw [laneR_idx] at h
  have e : ix2 (rowIx ⟨a.val / 32, hk⟩ ⟨a.val % 32, by omega⟩) b = ix2 a b := by
    refine congrArg₂ ix2 (Fin.ext ?_) rfl
    show 32 * (a.val / 32) + a.val % 32 = a.val
    omega
  rw [e] at h
  exact h

/-- A block's codes, read at an entry. -/
theorem codesBlk_at (i : Fin 256) (k : Fin 6144) : codesBlk x g (ix2 i k) = code (blockRow x i) (gainOf g) k := rfl

/-- A block's codes times scales, read at an entry. -/
theorem deqBlk_at (i : Fin 256) (k : Fin 6144) : deqBlk x g (ix2 i k) = deq (blockRow x i) (gainOf g) k := rfl

/-- A block's scales by lane, read at an entry. -/
theorem scalesBlk_at (i : Fin 256) (l : Fin 128) : scalesBlk x g (ix2 i l) = laneScale (blockRow x i) (gainOf g) l := rfl

/-- A stored run of codes holds the block's codes. -/
theorem codes_piece (hx : arg4.view.read (Elt Ideal) X_arg4 = x) (hg : arg3.view.read (Elt Ideal) X_arg3 = g) (hB : Bounded g)
    (k : Fin k0_t1_loop.trips) (r : Fin 48) (i : Fin 32) (l : Fin 128) :
    codeV (vRun arg3 arg4 X_arg3 X_arg4 k r) (ix2 i l) = codesBlk x g ((runR k r).emb (ix2 i l)) := by
  have e : (runR k r).emb (ix2 i l) = ix2 (rowIx k i) (col r l) := runR_idx k r i l
  rw [e, codesBlk_at]
  exact codeRun_at arg3 arg4 X_arg3 X_arg4 x g hx hg hB k r i l

/-- A stored run of codes times scales holds the block's. -/
theorem deq_piece (hx : arg4.view.read (Elt Ideal) X_arg4 = x) (hg : arg3.view.read (Elt Ideal) X_arg3 = g) (hB : Bounded g)
    (k : Fin k0_t1_loop.trips) (r : Fin 48) (i : Fin 32) (l : Fin 128) :
    deqV (vRun arg3 arg4 X_arg3 X_arg4 k r) (ix2 i l) = deqBlk x g ((runR k r).emb (ix2 i l)) := by
  have e : (runR k r).emb (ix2 i l) = ix2 (rowIx k i) (col r l) := runR_idx k r i l
  rw [e, deqBlk_at]
  exact deqRun_at arg3 arg4 X_arg3 X_arg4 x g hx hg hB k r i l

/-- The rows of scales a trip stores hold the block's. -/
theorem scales_piece (hx : arg4.view.read (Elt Ideal) X_arg4 = x) (hg : arg3.view.read (Elt Ideal) X_arg3 = g) (hB : Bounded g)
    (k : Fin k0_t1_loop.trips) (i : Fin 32) (l : Fin 128) :
    shapeCast S32x128 (scalesV (fun n => if h : n < 48 then vRun arg3 arg4 X_arg3 X_arg4 k ⟨n, h⟩ else vRun arg3 arg4 X_arg3 X_arg4 k 0) 48)
      shapeCasts_S32x128_S32x128 (ix2 i l) = scalesBlk x g ((laneR k).emb (ix2 i l)) := by
  have e : (laneR k).emb (ix2 i l) = ix2 (rowIx k i) l := laneR_idx k i l
  rw [e, scalesBlk_at]
  exact scalesRun_at arg3 arg4 X_arg3 X_arg4 x g hx hg hB k i l

/-- The codes the loop stores. -/
theorem codes_canon (hx : arg4.view.read (Elt Ideal) X_arg4 = x) (hg : arg3.view.read (Elt Ideal) X_arg3 = g) (hB : Bounded g) (y : S256x6144.Idx) :
    View.canon (pb_k0_t1 (F := Ideal) 𝒱 c bd i arg1 harg1 arg2 harg2 arg3 harg3 arg4 harg4 arg5 harg5 arg6 harg6 arg7 harg7 arg8 harg8 arg9 harg9 arg10 harg10 arg11 harg11 arg12 X_arg3 X_arg4 k0_t1_loop.trips).1 y = codesBlk x g y := by
  refine View.canon_apply_of_pieces (Val := Elt Ideal) (S := S256x6144) (e := .fp8e4m3) (codesBlk x g) _ (fun p hp => ?_) y ?_
  · obtain ⟨k, -, hk⟩ := ((pb_mem 𝒱 c bd i arg1 harg1 arg2 harg2 arg3 harg3 arg4 harg4 arg5 harg5 arg6 harg6 arg7 harg7 arg8 harg8 arg9 harg9 arg10 harg10 arg11 harg11 arg12 X_arg3 X_arg4 _ le_rfl).1 p).1 hp
    rw [trip_codes, mem_descending] at hk
    obtain ⟨r, rfl⟩ := hk
    intro z
    obtain ⟨i, l, rfl⟩ := exists_pair z
    exact codes_piece arg3 arg4 X_arg3 X_arg4 x g hx hg hB k r i l
  · obtain ⟨k, r, h⟩ := run_covers y
    refine ⟨⟨runR k r, codeV (vRun arg3 arg4 X_arg3 X_arg4 k r)⟩, ((pb_mem 𝒱 c bd i arg1 harg1 arg2 harg2 arg3 harg3 arg4 harg4 arg5 harg5 arg6 harg6 arg7 harg7 arg8 harg8 arg9 harg9 arg10 harg10 arg11 harg11 arg12 X_arg3 X_arg4 _ le_rfl).1 _).2 ⟨k, k.isLt, ?_⟩, h⟩
    rw [trip_codes, mem_descending]
    exact ⟨r, rfl⟩

/-- The codes times scales the loop stores. -/
theorem deq_canon (hx : arg4.view.read (Elt Ideal) X_arg4 = x) (hg : arg3.view.read (Elt Ideal) X_arg3 = g) (hB : Bounded g) (y : S256x6144.Idx) :
    View.canon (pb_k0_t1 (F := Ideal) 𝒱 c bd i arg1 harg1 arg2 harg2 arg3 harg3 arg4 harg4 arg5 harg5 arg6 harg6 arg7 harg7 arg8 harg8 arg9 harg9 arg10 harg10 arg11 harg11 arg12 X_arg3 X_arg4 k0_t1_loop.trips).2.1 y = deqBlk x g y := by
  refine View.canon_apply_of_pieces (Val := Elt Ideal) (S := S256x6144) (e := .bf16) (deqBlk x g) _ (fun p hp => ?_) y ?_
  · obtain ⟨k, -, hk⟩ := ((pb_mem 𝒱 c bd i arg1 harg1 arg2 harg2 arg3 harg3 arg4 harg4 arg5 harg5 arg6 harg6 arg7 harg7 arg8 harg8 arg9 harg9 arg10 harg10 arg11 harg11 arg12 X_arg3 X_arg4 _ le_rfl).2.1 p).1 hp
    rw [trip_deq, mem_descending] at hk
    obtain ⟨r, rfl⟩ := hk
    intro z
    obtain ⟨i, l, rfl⟩ := exists_pair z
    exact deq_piece arg3 arg4 X_arg3 X_arg4 x g hx hg hB k r i l
  · obtain ⟨k, r, h⟩ := run_covers y
    refine ⟨⟨runR k r, deqV (vRun arg3 arg4 X_arg3 X_arg4 k r)⟩, ((pb_mem 𝒱 c bd i arg1 harg1 arg2 harg2 arg3 harg3 arg4 harg4 arg5 harg5 arg6 harg6 arg7 harg7 arg8 harg8 arg9 harg9 arg10 harg10 arg11 harg11 arg12 X_arg3 X_arg4 _ le_rfl).2.1 _).2 ⟨k, k.isLt, ?_⟩, h⟩
    rw [trip_deq, mem_descending]
    exact ⟨r, rfl⟩

/-- The scales the loop stores, by lane. -/
theorem scales_canon (hx : arg4.view.read (Elt Ideal) X_arg4 = x) (hg : arg3.view.read (Elt Ideal) X_arg3 = g) (hB : Bounded g) (y : S256x128.Idx) :
    View.canon (pb_k0_t1 (F := Ideal) 𝒱 c bd i arg1 harg1 arg2 harg2 arg3 harg3 arg4 harg4 arg5 harg5 arg6 harg6 arg7 harg7 arg8 harg8 arg9 harg9 arg10 harg10 arg11 harg11 arg12 X_arg3 X_arg4 k0_t1_loop.trips).2.2 y = scalesBlk x g y := by
  refine View.canon_apply_of_pieces (Val := Elt Ideal) (S := S256x128) (e := .f32) (scalesBlk x g) _ (fun p hp => ?_) y ?_
  · obtain ⟨k, -, hk⟩ := ((pb_mem 𝒱 c bd i arg1 harg1 arg2 harg2 arg3 harg3 arg4 harg4 arg5 harg5 arg6 harg6 arg7 harg7 arg8 harg8 arg9 harg9 arg10 harg10 arg11 harg11 arg12 X_arg3 X_arg4 _ le_rfl).2.2 p).1 hp
    rw [trip_scales, List.mem_singleton] at hk
    subst hk
    intro z
    obtain ⟨i, l, rfl⟩ := exists_pair z
    exact scales_piece arg3 arg4 X_arg3 X_arg4 x g hx hg hB k i l
  · obtain ⟨k, h⟩ := lane_covers y
    refine ⟨⟨laneR k, shapeCast S32x128
      (scalesV (fun n => if h : n < 48 then vRun arg3 arg4 X_arg3 X_arg4 k ⟨n, h⟩ else vRun arg3 arg4 X_arg3 X_arg4 k 0) 48)
      shapeCasts_S32x128_S32x128⟩, ((pb_mem 𝒱 c bd i arg1 harg1 arg2 harg2 arg3 harg3 arg4 harg4 arg5 harg5 arg6 harg6 arg7 harg7 arg8 harg8 arg9 harg9 arg10 harg10 arg11 harg11 arg12 X_arg3 X_arg4 _ le_rfl).2.2 _).2 ⟨k, k.isLt, ?_⟩, h⟩
    rw [trip_scales, List.mem_singleton]
    rfl

end Cert.ProjQuantise

end
-- ==== Proof.ProjScratch.lean ====
/- The scratch the projecting call carries from point to point: the whole dequantised weight. -/
module

public import proofs.«01_k».proof.Proof.ProjValue
public import proofs.«01_k».proof.Proof.ProjTrip
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.ProjRun

open Cert.ProjIdeal Cert.ProjIdeal.Gen

variable (m : (ℓ : Loc nD τ sig) → Buf (Elt Ideal) ℓ)

/-! ## The tiles of the dequantised weight -/

/-- The half of the staging copy that chunk `n` of the weight goes to lies inside it. -/
theorem half_inb (n : ℕ) : ∀ a, (![n % 2 * 2624, 0] : Fin 2 → ℕ) a + (![2624, 512] : Fin 2 → ℕ) a ≤ S5248x512.size a := by
  intro a
  match a with
  | ⟨0, _⟩ => show n % 2 * 2624 + 2624 ≤ 5248; omega
  | ⟨1, _⟩ => show 0 + 512 ≤ 512; omega

/-- Chunk `n` of the weight lies inside it. -/
theorem chunk_inb (n : ℕ) : ∀ a, (![0, 512 * (n % 12)] : Fin 2 → ℕ) a + (![2624, 512] : Fin 2 → ℕ) a ≤ S2624x6144.size a := by
  intro a
  match a with
  | ⟨0, _⟩ => show 0 + 2624 ≤ 2624; omega
  | ⟨1, _⟩ => show 512 * (n % 12) + 512 ≤ 6144; omega

/-- Chunk `n`: 512 columns of the weight. -/
def chunkR (n : ℕ) : Rect S2624x6144 := Rect.unit (s := S2624x6144) ![0, 512 * (n % 12)] ![2624, 512] (chunk_inb n)

/-- The half of the staging copy it goes to. -/
def halfR (n : ℕ) : Rect S5248x512 := Rect.unit (s := S5248x512) ![n % 2 * 2624, 0] ![2624, 512] (half_inb n)

/-- The copies of the chunks before `n`, the last first. -/
def staged (w : (main_arg1).ty.Contents (Elt Ideal)) : ℕ → List (View.Piece (Elt Ideal) S5248x512 .fp8e4m3)
  | 0 => []
  | n + 1 => ⟨halfR n, ReadAs.same.apply (View.read (Elt Ideal) ((View.whole main_arg1).slice (chunkR n)) w)⟩ :: staged w n

/-- Where the scale of the tile at run `r` and block of rows `b` lies. -/
theorem scale_inb (n : ℕ) : ∀ a, (![n % 21, n / 21 % 48] : Fin 2 → ℕ) a + (![1, 1] : Fin 2 → ℕ) a ≤ S21x48.size a := by
  intro a
  match a with
  | ⟨0, _⟩ => show n % 21 + 1 ≤ 21; omega
  | ⟨1, _⟩ => show n / 21 % 48 + 1 ≤ 48; omega

/-- Tile `n` lies inside the scratch. -/
theorem tile_inb (n : ℕ) (h : n % 21 < 20) : ∀ a, (![128 * (n % 21), 128 * (n / 21 % 48)] : Fin 2 → ℕ) a + (![128, 128] : Fin 2 → ℕ) a ≤ S2624x6144.size a := by
  intro a
  match a with
  | ⟨0, _⟩ => show 128 * (n % 21) + 128 ≤ 2624; omega
  | ⟨1, _⟩ => show 128 * (n / 21 % 48) + 128 ≤ 6144; omega

/-- So does a tile of the last 64 rows. -/
theorem last_inb (n : ℕ) : ∀ a, (![2560, 128 * (n / 21 % 48)] : Fin 2 → ℕ) a + (![64, 128] : Fin 2 → ℕ) a ≤ S2624x6144.size a := by
  intro a
  match a with
  | ⟨0, _⟩ => show 2560 + 64 ≤ 2624; omega
  | ⟨1, _⟩ => show 128 * (n / 21 % 48) + 128 ≤ 6144; omega

/-- Tile `n`'s codes lie inside the staging copy. -/
theorem codes_inb (n : ℕ) (h : n % 21 < 20) : ∀ a, (![n / 21 % 48 / 4 % 2 * 2624 + 128 * (n % 21), n / 21 % 48 % 4 * 128] : Fin 2 → ℕ) a + (![128, 128] : Fin 2 → ℕ) a ≤ S5248x512.size a := by
  intro a
  match a with
  | ⟨0, _⟩ => show n / 21 % 48 / 4 % 2 * 2624 + 128 * (n % 21) + 128 ≤ 5248; omega
  | ⟨1, _⟩ => show n / 21 % 48 % 4 * 128 + 128 ≤ 512; omega

/-- So do those of the last 64 rows. -/
theorem lastCodes_inb (n : ℕ) : ∀ a, (![n / 21 % 48 / 4 % 2 * 2624 + 2560, n / 21 % 48 % 4 * 128] : Fin 2 → ℕ) a + (![64, 128] : Fin 2 → ℕ) a ≤ S5248x512.size a := by
  intro a
  match a with
  | ⟨0, _⟩ => show n / 21 % 48 / 4 % 2 * 2624 + 2560 + 64 ≤ 5248; omega
  | ⟨1, _⟩ => show n / 21 % 48 % 4 * 128 + 128 ≤ 512; omega

/-- The scale of tile `n`. -/
def tileScale (s : Vec Ideal S21x48 .f32) (n : ℕ) : Ideal .f32 :=
  View.ld s (Rect.unit (s := S21x48) ![n % 21, n / 21 % 48] ![1, 1] (scale_inb n))
    (Shape.Idx.first (s := S1x1) (lt_of_lt_of_eq Nat.zero_lt_one numel1_S1x1.symm))

/-- Tile `n` as stored: the codes of run `n / 21` and block of rows `n % 21`, out of the staging copy, times their scale. -/
def tile (s : Vec Ideal S21x48 .f32) (w : (main_arg1).ty.Contents (Elt Ideal)) (n : ℕ) : View.Piece (Elt Ideal) S2624x6144 .bf16 :=
  if h : n % 21 < 20 then
    ⟨Rect.unit (s := S2624x6144) ![128 * (n % 21), 128 * (n / 21 % 48)] ![128, 128] (tile_inb n h),
      k0_pay9 (tileScale s n) ((View.whole cc0_scratch1).readCov (staged w (min (n / 21 % 48 / 4 + 2) 12))
        (Rect.unit (s := S5248x512) ![n / 21 % 48 / 4 % 2 * 2624 + 128 * (n % 21), n / 21 % 48 % 4 * 128] ![128, 128] (codes_inb n h)).toLoadRect)⟩
  else
    ⟨Rect.unit (s := S2624x6144) ![2560, 128 * (n / 21 % 48)] ![64, 128] (last_inb n),
      k0_pay2 (tileScale s n) ((View.whole cc0_scratch1).readCov (staged w (min (n / 21 % 48 / 4 + 2) 12))
        (Rect.unit (s := S5248x512) ![n / 21 % 48 / 4 % 2 * 2624 + 2560, n / 21 % 48 % 4 * 128] ![64, 128] (lastCodes_inb n)).toLoadRect)⟩

/-- The tiles before `n`, the last first. -/
def tiles (s : Vec Ideal S21x48 .f32) (w : (main_arg1).ty.Contents (Elt Ideal)) : ℕ → List (View.Piece (Elt Ideal) S2624x6144 .bf16)
  | 0 => []
  | n + 1 => tile s w n :: tiles s w n

/-- A tile is among the tiles if it comes before. -/
theorem mem_tiles (s : Vec Ideal S21x48 .f32) (w : (main_arg1).ty.Contents (Elt Ideal)) (n : ℕ) (p : View.Piece (Elt Ideal) S2624x6144 .bf16) :
    p ∈ tiles s w n ↔ ∃ k, k < n ∧ p = tile s w k := by
  induction n with
  | zero => exact ⟨fun h => absurd h List.not_mem_nil, fun ⟨k, h, _⟩ => absurd h (by omega)⟩
  | succ n ih =>
    show p ∈ tile s w n :: tiles s w n ↔ _
    rw [List.mem_cons, ih]
    constructor
    · rintro (h | ⟨k, hk, h⟩)
      · exact ⟨n, by omega, h⟩
      · exact ⟨k, by omega, h⟩
    · rintro ⟨k, hk, h⟩
      rcases Nat.lt_or_ge k n with hlt | hge
      · exact .inr ⟨k, hlt, h⟩
      · exact .inl (by rw [h, show k = n by omega])

/-! ## What they hold -/

/-- One entry of the dequantised weight. -/
def weightAt (s : Vec Ideal S21x48 .f32) (w : S2624x6144.Idx → EReal) (j : Fin 2624) (k : Fin 6144) : EReal :=
  w (ix2 j k) * (show EReal from s (ix2 (⟨j / 128, by omega⟩ : Fin 21) (⟨k / 128, by omega⟩ : Fin 48)))

/-- The dequantised weight. -/
def weightBlk (s : Vec Ideal S21x48 .f32) (w : S2624x6144.Idx → EReal) (y : S2624x6144.Idx) : EReal :=
  weightAt s w (show Fin 2624 from y 0) (show Fin 6144 from y 1)

/-- It, read at an entry. -/
theorem weightBlk_at (s : Vec Ideal S21x48 .f32) (w : S2624x6144.Idx → EReal) (j : Fin 2624) (k : Fin 6144) :
    weightBlk s w (ix2 j k) = weightAt s w j k := rfl

/-- A tile of 128 rows, read at an entry. -/
theorem pay9_at (a : Ideal .f32) (b : Vec Ideal S128x128 .fp8e4m3) (i l : Fin 128) :
    k0_pay9 a b (ix2 i l) = (show EReal from b (ix2 i l)) * (show EReal from a) := by
  pointwise [k0_pay9]

/-- A tile of the last 64 rows, read at an entry. -/
theorem pay2_at (a : Ideal .f32) (b : Vec Ideal S64x128 .fp8e4m3) (i : Fin 64) (l : Fin 128) :
    k0_pay2 a b (ix2 i l) = (show EReal from b (ix2 i l)) * (show EReal from a) := by
  pointwise [k0_pay2]

/-- The scale of a tile is an entry of the table. -/
theorem tileScale_at (s : Vec Ideal S21x48 .f32) (n : ℕ) :
    tileScale s n = s (ix2 (⟨n % 21, by omega⟩ : Fin 21) (⟨n / 21 % 48, by omega⟩ : Fin 48)) := by
  refine congrArg s (funext fun a => Fin.ext ?_)
  match a with
  | ⟨0, _⟩ => show n % 21 + 1 * 0 = n % 21; omega
  | ⟨1, _⟩ => show n / 21 % 48 + 1 * 0 = n / 21 % 48; omega

/-- The last chunk copied, read at an entry of its half. -/
theorem staged_at (w : (main_arg1).ty.Contents (Elt Ideal)) (n : ℕ) (y : S5248x512.Idx) (j : Fin 2624) (l : Fin 512)
    (h0 : (y 0).val = n % 2 * 2624 + j.val) (h1 : (y 1).val = l.val) :
    View.canon (staged w (n + 1)) y = (View.whole main_arg1).read (Elt Ideal) w (ix2 j (⟨512 * (n % 12) + l.val, by omega⟩ : Fin 6144)) := by
  have e : y = (halfR n).emb (ix2 j l) := by
    refine funext fun a => Fin.ext ?_
    match a with
    | ⟨0, _⟩ => show (y 0).val = n % 2 * 2624 + 1 * j.val; omega
    | ⟨1, _⟩ => show (y 1).val = 0 + 1 * l.val; omega
  refine (congrArg (View.canon (staged w (n + 1))) e).trans ?_
  refine (View.canon_cons_emb (Val := Elt Ideal) (halfR n) _ (staged w n) (ix2 j l)).trans ?_
  refine congrArg ((View.whole main_arg1).read (Elt Ideal) w) (funext fun a => Fin.ext ?_)
  match a with
  | ⟨0, _⟩ => show 0 + 1 * j.val = j.val; omega
  | ⟨1, _⟩ => show 512 * (n % 12) + 1 * l.val = 512 * (n % 12) + l.val; omega

/-- A chunk whose successor is already copied too, read at an entry of its half: the successor went to the other half. -/
theorem staged_seen (w : (main_arg1).ty.Contents (Elt Ideal)) (n : ℕ) (hn : n < 12) (y : S5248x512.Idx) (j : Fin 2624) (l : Fin 512)
    (h0 : (y 0).val = n % 2 * 2624 + j.val) (h1 : (y 1).val = l.val) :
    View.canon (staged w (min (n + 2) 12)) y = (View.whole main_arg1).read (Elt Ideal) w (ix2 j (⟨512 * (n % 12) + l.val, by omega⟩ : Fin 6144)) := by
  rcases Nat.lt_or_ge n 11 with h | h
  · rw [show min (n + 2) 12 = n + 1 + 1 by omega]
    refine (View.canon_cons_of_not_mem (Val := Elt Ideal) _ (staged w (n + 1)) ?_).trans (staged_at w n y j l h0 h1)
    intro hm
    obtain ⟨x, hx0, hx⟩ := (halfR (n + 1)).mem_set.mp hm 0
    have hx0' : x < 2624 := hx0
    have e : (y 0).val = (n + 1) % 2 * 2624 + 1 * x := hx
    have := j.isLt
    omega
  · rw [show min (n + 2) 12 = n + 1 by omega]
    exact staged_at w n y j l h0 h1

/-- An index of a tile of 128 rows is a pair. -/
theorem exists_pair (z : S128x128.Idx) : ∃ (i l : Fin 128), z = ix2 i l := by
  idx_vars z
  exact ⟨_, _, rfl⟩

/-- An index of a tile of 64 rows is a pair. -/
theorem exists_pair' (z : S64x128.Idx) : ∃ (i : Fin 64) (l : Fin 128), z = ix2 i l := by
  idx_vars z
  exact ⟨_, _, rfl⟩

/-- Two products of a weight and a scale are equal when their indices are. -/
theorem weightAt_of (s : Vec Ideal S21x48 .f32) (w : S2624x6144.Idx → EReal) (j j' : Fin 2624) (k k' : Fin 6144) (a : Fin 21) (b : Fin 48)
    (hj : j.val = j'.val) (hk : k.val = k'.val) (ha : a.val = j'.val / 128) (hb : b.val = k'.val / 128) :
    w (ix2 j k) * (show EReal from s (ix2 a b)) = weightAt s w j' k' := by
  have e1 : j = j' := Fin.ext hj
  have e2 : k = k' := Fin.ext hk
  subst e1 e2
  rw [weightAt]
  rw [show a = ⟨j.val / 128, by omega⟩ from Fin.ext ha, show b = ⟨k.val / 128, by omega⟩ from Fin.ext hb]

/-- Each tile holds the dequantised weight. -/
theorem tile_holds (s : Vec Ideal S21x48 .f32) (w : (main_arg1).ty.Contents (Elt Ideal)) (n : ℕ) (hn : n < 1008) :
    ∀ x, (tile s w n).2 x = weightBlk s ((View.whole main_arg1).read (Elt Ideal) w) ((tile s w n).1.emb x) := by
  by_cases h : n % 21 < 20
  · rw [tile, dif_pos h]
    intro x
    obtain ⟨i, l, rfl⟩ := exists_pair x
    have e : (Rect.unit (s := S2624x6144) ![128 * (n % 21), 128 * (n / 21 % 48)] ![128, 128] (tile_inb n h)).emb (ix2 i l)
        = ix2 (⟨128 * (n % 21) + i.val, by omega⟩ : Fin 2624) (⟨128 * (n / 21 % 48) + l.val, by omega⟩ : Fin 6144) := by
      refine funext fun a => Fin.ext ?_
      match a with
      | ⟨0, _⟩ => show 128 * (n % 21) + 1 * i.val = 128 * (n % 21) + i.val; omega
      | ⟨1, _⟩ => show 128 * (n / 21 % 48) + 1 * l.val = 128 * (n / 21 % 48) + l.val; omega
    refine Eq.trans ?_ (congrArg (weightBlk s ((View.whole main_arg1).read (Elt Ideal) w)) e.symm)
    rw [weightBlk_at]
    refine (pay9_at _ _ i l).trans ?_
    rw [tileScale_at, View.readCov_eq_canon']
    have hc := staged_seen w (n / 21 % 48 / 4) (by omega)
      ((Rect.unit (s := S5248x512) ![n / 21 % 48 / 4 % 2 * 2624 + 128 * (n % 21), n / 21 % 48 % 4 * 128] ![128, 128] (codes_inb n h)).toLoadRect.idx (ix2 i l))
      ⟨128 * (n % 21) + i.val, by omega⟩ ⟨n / 21 % 48 % 4 * 128 + l.val, by omega⟩
      (by show n / 21 % 48 / 4 % 2 * 2624 + 128 * (n % 21) + 1 * i.val = n / 21 % 48 / 4 % 2 * 2624 + (128 * (n % 21) + i.val); omega)
      (by show n / 21 % 48 % 4 * 128 + 1 * l.val = n / 21 % 48 % 4 * 128 + l.val; omega)
    refine (congrArg₂ (fun a b : EReal => a * b) hc rfl).trans ?_
    refine weightAt_of s _ _ _ _ _ _ _ rfl ?_ ?_ ?_ <;> dsimp only <;> omega
  · rw [tile, dif_neg h]
    intro x
    obtain ⟨i, l, rfl⟩ := exists_pair' x
    have e : (Rect.unit (s := S2624x6144) ![2560, 128 * (n / 21 % 48)] ![64, 128] (last_inb n)).emb (ix2 i l)
        = ix2 (⟨2560 + i.val, by omega⟩ : Fin 2624) (⟨128 * (n / 21 % 48) + l.val, by omega⟩ : Fin 6144) := by
      refine funext fun a => Fin.ext ?_
      match a with
      | ⟨0, _⟩ => show 2560 + 1 * i.val = 2560 + i.val; omega
      | ⟨1, _⟩ => show 128 * (n / 21 % 48) + 1 * l.val = 128 * (n / 21 % 48) + l.val; omega
    refine Eq.trans ?_ (congrArg (weightBlk s ((View.whole main_arg1).read (Elt Ideal) w)) e.symm)
    rw [weightBlk_at]
    refine (pay2_at _ _ i l).trans ?_
    rw [tileScale_at, View.readCov_eq_canon']
    have hc := staged_seen w (n / 21 % 48 / 4) (by omega)
      ((Rect.unit (s := S5248x512) ![n / 21 % 48 / 4 % 2 * 2624 + 2560, n / 21 % 48 % 4 * 128] ![64, 128] (lastCodes_inb n)).toLoadRect.idx (ix2 i l))
      ⟨2560 + i.val, by omega⟩ ⟨n / 21 % 48 % 4 * 128 + l.val, by omega⟩
      (by show n / 21 % 48 / 4 % 2 * 2624 + 2560 + 1 * i.val = n / 21 % 48 / 4 % 2 * 2624 + (2560 + i.val); omega)
      (by show n / 21 % 48 % 4 * 128 + 1 * l.val = n / 21 % 48 % 4 * 128 + l.val; omega)
    refine (congrArg₂ (fun a b : EReal => a * b) hc rfl).trans ?_
    refine weightAt_of s _ _ _ _ _ _ _ rfl ?_ ?_ ?_ <;> dsimp only <;> omega

/-- Every entry lies in a tile. -/
theorem tile_covers (s : Vec Ideal S21x48 .f32) (w : (main_arg1).ty.Contents (Elt Ideal)) (j : Fin 2624) (k : Fin 6144) :
    ∃ n, n < 1008 ∧ ix2 j k ∈ (tile s w n).1.set := by
  refine ⟨k.val / 128 * 21 + j.val / 128, by omega, ?_⟩
  by_cases h : (k.val / 128 * 21 + j.val / 128) % 21 < 20
  · rw [tile, dif_pos h]
    have hm := (Rect.unit (s := S2624x6144) ![128 * ((k.val / 128 * 21 + j.val / 128) % 21), 128 * ((k.val / 128 * 21 + j.val / 128) / 21 % 48)] ![128, 128] (tile_inb _ h)).idx_mem
      (ix2 (⟨j.val % 128, by omega⟩ : Fin 128) (⟨k.val % 128, by omega⟩ : Fin 128))
    refine (congrArg (· ∈ _) (funext fun a => Fin.ext ?_)).mp hm
    match a with
    | ⟨0, _⟩ => show 128 * ((k.val / 128 * 21 + j.val / 128) % 21) + 1 * (j.val % 128) = j.val; omega
    | ⟨1, _⟩ => show 128 * ((k.val / 128 * 21 + j.val / 128) / 21 % 48) + 1 * (k.val % 128) = k.val; omega
  · rw [tile, dif_neg h]
    have hm := (Rect.unit (s := S2624x6144) ![2560, 128 * ((k.val / 128 * 21 + j.val / 128) / 21 % 48)] ![64, 128] (last_inb _)).idx_mem
      (ix2 (⟨j.val % 128, by omega⟩ : Fin 64) (⟨k.val % 128, by omega⟩ : Fin 128))
    refine (congrArg (· ∈ _) (funext fun a => Fin.ext ?_)).mp hm
    match a with
    | ⟨0, _⟩ => show 2560 + 1 * (j.val % 128) = j.val; omega
    | ⟨1, _⟩ => show 128 * ((k.val / 128 * 21 + j.val / 128) / 21 % 48) + 1 * (k.val % 128) = k.val; omega

/-- All tiles together hold the dequantised weight. -/
theorem tiles_canon (s : Vec Ideal S21x48 .f32) (w : (main_arg1).ty.Contents (Elt Ideal)) (j : Fin 2624) (k : Fin 6144) :
    View.canon (tiles s w 1008) (ix2 j k) = weightAt s ((View.whole main_arg1).read (Elt Ideal) w) j k := by
  rw [← weightBlk_at]
  refine View.canon_apply_of_pieces (Val := Elt Ideal) (S := S2624x6144) (e := .bf16) (weightBlk s ((View.whole main_arg1).read (Elt Ideal) w)) _ (fun p hp => ?_) _ ?_
  · obtain ⟨n, hn, rfl⟩ := (mem_tiles s w 1008 p).1 hp
    exact tile_holds s w n hn
  · obtain ⟨n, hn, h⟩ := tile_covers s w j k
    exact ⟨_, (mem_tiles s w 1008 _).2 ⟨n, hn, rfl⟩, h⟩

end Cert.ProjRun

end
-- ==== Proof.ProjProduct.lean ====
/- The product loop of the projecting call over the extended reals: what its trips store, entry by entry. -/
module

public import proofs.«01_k».proof.Proof.ProjTrip

@[expose] public section

set_option maxRecDepth 16384

noncomputable section

open Idealize.ShloMosaic Idealize.ShloMosaic.TcCoe Idealize.SL.Sem

namespace Cert.ProjProduct

open Cert.ProjIdeal Cert.ProjIdeal.Gen

/-- The loop has four trips. -/
theorem trips_eq : k0_t2_loop.trips = 4 := by decide +kernel

/-- The offsets of a trip's rows of the weight and of the result. -/
theorem offs_eq : ∀ k : Fin k0_t2_loop.trips, k0_off50 k = ![656 * k.val, 0] ∧ k0_off51 k = ![656 * k.val, 0] := by decide +kernel

/-- Row `j` of trip `k`. -/
def rowIx (k : Fin k0_t2_loop.trips) (j : Fin 656) : Fin 2624 := ⟨656 * k.val + j.val, by have := lt_of_lt_of_eq k.isLt trips_eq; omega⟩

/-- A trip's rows of the weight. -/
def weightR (k : Fin k0_t2_loop.trips) : Rect S2624x6144 := Rect.unit (s := S2624x6144) (k0_off50 k) S656x6144.size (k0_off50_inb k)

/-- A trip's rows of the result. -/
def resultR (k : Fin k0_t2_loop.trips) : Rect S2624x256 := Rect.unit (s := S2624x256) (k0_off51 k) S656x256.size (k0_off51_inb k)

/-- The whole block of activations. -/
def wholeR : Rect S256x6144 := Rect.unit (s := S256x6144) ![0, 0] S256x6144.size inb_S256x6144_S256x6144_0_0

/-- Where an entry of the rows of the weight lies. -/
theorem weightR_idx (k : Fin k0_t2_loop.trips) (j : Fin 656) (l : Fin 6144) : (weightR k).idx (ix2 j l) = ix2 (rowIx k j) l := by
  refine funext fun a => Fin.ext ?_
  show k0_off50 k a + 1 * (ix2 j l a).val = _
  rw [(offs_eq k).1]
  match a with
  | ⟨0, _⟩ => show 656 * k.val + 1 * j.val = 656 * k.val + j.val; omega
  | ⟨1, _⟩ => show 0 + 1 * l.val = l.val; omega

/-- Where an entry of the rows of the result lies. -/
theorem resultR_idx (k : Fin k0_t2_loop.trips) (j : Fin 656) (i : Fin 256) : (resultR k).idx (ix2 j i) = ix2 (rowIx k j) i := by
  refine funext fun a => Fin.ext ?_
  show k0_off51 k a + 1 * (ix2 j i a).val = _
  rw [(offs_eq k).2]
  match a with
  | ⟨0, _⟩ => show 656 * k.val + 1 * j.val = 656 * k.val + j.val; omega
  | ⟨1, _⟩ => show 0 + 1 * i.val = i.val; omega

/-- Where an entry of the whole block lies. -/
theorem wholeR_idx (i : Fin 256) (l : Fin 6144) : wholeR.idx (ix2 i l) = ix2 i l := by
  refine funext fun a => Fin.ext ?_
  match a with
  | ⟨0, _⟩ => show 0 + 1 * i.val = i.val; omega
  | ⟨1, _⟩ => show 0 + 1 * l.val = l.val; omega

/-- The product of one trip, read at an entry. -/
theorem pay8_at (A : Vec Ideal S656x6144 .bf16) (B : Vec Ideal S256x6144 .bf16) (j : Fin 656) (i : Fin 256) :
    k0_pay8 A B (ix2 j i) = ∑ l : Fin 6144, (show EReal from A (ix2 j l)) * (show EReal from B (ix2 i l)) := by
  pointwise [k0_pay8]

variable (𝒱 : Variants) (c : Dev nD) (bd : Option 𝒱.V) (i : grid0.Coords) (arg1 : Memref sig .tc .smem S21x48 .f32) (harg1 : arg1.IsWhole) (arg2 : Memref sig .tc .hbm S2624x6144 .fp8e4m3) (harg2 : arg2.IsWhole) (arg3 : Memref sig .tc .vmem S1x6144 .f32) (harg3 : arg3.IsWhole) (arg4 : Memref sig .tc .vmem S256x6144 .f32) (harg4 : arg4.IsWhole) (arg5 : Memref sig .tc .vmem S256x6144 .fp8e4m3) (harg5 : arg5.IsWhole) (arg6 : Memref sig .tc .vmem S48x256 .f32) (harg6 : arg6.IsWhole) (arg7 : Memref sig .tc .vmem S2624x256 .bf16) (harg7 : arg7.IsWhole) (arg8 : Memref sig .tc .vmem S2624x6144 .bf16) (harg8 : arg8.IsWhole) (arg9 : Memref sig .tc .vmem S5248x512 .fp8e4m3) (harg9 : arg9.IsWhole) (arg10 : Memref sig .tc .vmem S256x6144 .bf16) (harg10 : arg10.IsWhole) (arg11 : Memref sig .tc .vmem S256x128 .f32) (harg11 : arg11.IsWhole) (arg12 : DmaSems sig S2) (X_arg8 : BufTy.Contents (Elt Ideal) arg8.view.ty) (X_arg10 : BufTy.Contents (Elt Ideal) arg10.view.ty)

/-- A trip stores the product of its rows of the weight and the block of activations. -/
theorem trip_product (k : Fin k0_t2_loop.trips) : (trip_k0_t2 (F := Ideal) 𝒱 c bd i arg1 harg1 arg2 harg2 arg3 harg3 arg4 harg4 arg5 harg5 arg6 harg6 arg7 harg7 arg8 harg8 arg9 harg9 arg10 harg10 arg11 harg11 arg12 X_arg8 X_arg10 k).1
    = [(⟨resultR k, k0_pay8 (View.readAt (Elt Ideal) arg8.view (weightR k).toLoadRect X_arg8)
        (View.readAt (Elt Ideal) arg10.view wholeR.toLoadRect X_arg10)⟩ : View.Piece (Elt Ideal) S2624x256 .bf16)] := by
  unfold trip_k0_t2
  sl_kernel_rfl

/-- The pieces the trips before `n` store are those of some trip. -/
theorem pb_mem (n : ℕ) (hn : n ≤ k0_t2_loop.trips) :
    ∀ p, p ∈ pb_k0_t2 (F := Ideal) 𝒱 c bd i arg1 harg1 arg2 harg2 arg3 harg3 arg4 harg4 arg5 harg5 arg6 harg6 arg7 harg7 arg8 harg8 arg9 harg9 arg10 harg10 arg11 harg11 arg12 X_arg8 X_arg10 n ↔ ∃ k : Fin k0_t2_loop.trips, k.val < n ∧ p ∈ (trip_k0_t2 (F := Ideal) 𝒱 c bd i arg1 harg1 arg2 harg2 arg3 harg3 arg4 harg4 arg5 harg5 arg6 harg6 arg7 harg7 arg8 harg8 arg9 harg9 arg10 harg10 arg11 harg11 arg12 X_arg8 X_arg10 k).1 := by
  induction n with
  | zero => exact fun p => ⟨fun h => absurd h List.not_mem_nil, fun ⟨k, h, _⟩ => absurd h (by omega)⟩
  | succ n ih =>
    intro p
    rw [pb_k0_t2_succ (F := Ideal) 𝒱 c bd i arg1 harg1 arg2 harg2 arg3 harg3 arg4 harg4 arg5 harg5 arg6 harg6 arg7 harg7 arg8 harg8 arg9 harg9 arg10 harg10 arg11 harg11 arg12 X_arg8 X_arg10 ⟨n, hn⟩, List.mem_append]
    constructor
    · rintro (h | h)
      · exact ⟨⟨n, hn⟩, by show n < n + 1; omega, h⟩
      · obtain ⟨k, hk, h⟩ := (ih (by omega) p).1 h
        exact ⟨k, by omega, h⟩
    · rintro ⟨k, hk, h⟩
      rcases Nat.lt_or_ge k.val n with hlt | hge
      · exact .inr ((ih (by omega) p).2 ⟨k, hlt, h⟩)
      · have : k = ⟨n, hn⟩ := Fin.ext (by show k.val = n; omega)
        exact .inl (this ▸ h)

/-- The product of a weight and a block of activations. -/
def productBlk (w : Fin 2624 → Fin 6144 → EReal) (d : Fin 256 → Fin 6144 → EReal) (y : S2624x256.Idx) : EReal :=
  ∑ l, w (show Fin 2624 from y 0) l * d (show Fin 256 from y 1) l

/-- It, read at an entry. -/
theorem productBlk_at (w : Fin 2624 → Fin 6144 → EReal) (d : Fin 256 → Fin 6144 → EReal) (j : Fin 2624) (i : Fin 256) :
    productBlk w d (ix2 j i) = ∑ l, w j l * d i l := rfl

/-- An index of the rows of a trip is a pair. -/
theorem exists_pair (z : S656x256.Idx) : ∃ (j : Fin 656) (i : Fin 256), z = ix2 j i := by
  idx_vars z
  exact ⟨_, _, rfl⟩

/-- Every entry of the result lies in the rows of a trip. -/
theorem covers (y : S2624x256.Idx) : ∃ k : Fin k0_t2_loop.trips, y ∈ (resultR k).set := by
  obtain ⟨a, b, rfl⟩ : ∃ (a : Fin 2624) (b : Fin 256), y = ix2 a b := by
    idx_vars y
    exact ⟨_, _, rfl⟩
  have hk : a.val / 656 < k0_t2_loop.trips := lt_of_lt_of_eq (by omega) trips_eq.symm
  refine ⟨⟨a.val / 656, hk⟩, ?_⟩
  have h := (resultR ⟨a.val / 656, hk⟩).idx_mem (ix2 (⟨a.val % 656, by omega⟩ : Fin 656) b)
  rw [resultR_idx] at h
  have e : ix2 (rowIx ⟨a.val / 656, hk⟩ ⟨a.val % 656, by omega⟩) b = ix2 a b := by
    refine congrArg₂ ix2 (Fin.ext ?_) rfl
    show 656 * (a.val / 656) + a.val % 656 = a.val
    omega
  rw [e] at h
  exact h

variable (w : Fin 2624 → Fin 6144 → EReal) (d : Fin 256 → Fin 6144 → EReal)

/-- A trip's product, read at an entry. -/
theorem product_piece (hw : ∀ j l, arg8.view.read (Elt Ideal) X_arg8 (ix2 j l) = w j l)
    (hd : ∀ i l, arg10.view.read (Elt Ideal) X_arg10 (ix2 i l) = d i l) (k : Fin k0_t2_loop.trips) (j : Fin 656) (i : Fin 256) :
    k0_pay8 (View.readAt (Elt Ideal) arg8.view (weightR k).toLoadRect X_arg8)
        (View.readAt (Elt Ideal) arg10.view wholeR.toLoadRect X_arg10) (ix2 j i)
      = productBlk w d ((resultR k).emb (ix2 j i)) := by
  have e : (resultR k).emb (ix2 j i) = ix2 (rowIx k j) i := resultR_idx k j i
  rw [e, productBlk_at]
  refine (pay8_at _ _ j i).trans (Finset.sum_congr rfl fun l _ => congrArg₂ (fun a b : EReal => a * b) ?_ ?_)
  · exact (congrArg (arg8.view.read (Elt Ideal) X_arg8) (weightR_idx k j l)).trans (hw _ _)
  · exact (congrArg (arg10.view.read (Elt Ideal) X_arg10) (wholeR_idx i l)).trans (hd _ _)

/-- What the loop stores. -/
theorem product_canon (hw : ∀ j l, arg8.view.read (Elt Ideal) X_arg8 (ix2 j l) = w j l)
    (hd : ∀ i l, arg10.view.read (Elt Ideal) X_arg10 (ix2 i l) = d i l) (y : S2624x256.Idx) :
    View.canon (pb_k0_t2 (F := Ideal) 𝒱 c bd i arg1 harg1 arg2 harg2 arg3 harg3 arg4 harg4 arg5 harg5 arg6 harg6 arg7 harg7 arg8 harg8 arg9 harg9 arg10 harg10 arg11 harg11 arg12 X_arg8 X_arg10 k0_t2_loop.trips) y = productBlk w d y := by
  refine View.canon_apply_of_pieces (Val := Elt Ideal) (S := S2624x256) (e := .bf16) (productBlk w d) _ (fun p hp => ?_) y ?_
  · obtain ⟨k, -, hk⟩ := (pb_mem 𝒱 c bd i arg1 harg1 arg2 harg2 arg3 harg3 arg4 harg4 arg5 harg5 arg6 harg6 arg7 harg7 arg8 harg8 arg9 harg9 arg10 harg10 arg11 harg11 arg12 X_arg8 X_arg10 _ le_rfl p).1 hp
    rw [trip_product, List.mem_singleton] at hk
    subst hk
    intro z
    obtain ⟨j, i, rfl⟩ := exists_pair z
    exact product_piece arg8 arg10 X_arg8 X_arg10 w d hw hd k j i
  · obtain ⟨k, h⟩ := covers y
    refine ⟨⟨resultR k, k0_pay8 (View.readAt (Elt Ideal) arg8.view (weightR k).toLoadRect X_arg8)
        (View.readAt (Elt Ideal) arg10.view wholeR.toLoadRect X_arg10)⟩, (pb_mem 𝒱 c bd i arg1 harg1 arg2 harg2 arg3 harg3 arg4 harg4 arg5 harg5 arg6 harg6 arg7 harg7 arg8 harg8 arg9 harg9 arg10 harg10 arg11 harg11 arg12 X_arg8 X_arg10 _ le_rfl _).2 ⟨k, k.isLt, ?_⟩, h⟩
    rw [trip_product, List.mem_singleton]

end Cert.ProjProduct

end
-- ==== Proof.ProjBody.lean ====
/- What the body of the projecting call stores at each grid point. -/
module

public import proofs.«01_k».proof.Proof.ProjScratch
public import proofs.«01_k».proof.Proof.ProjProduct

@[expose] public section

set_option maxRecDepth 65536

noncomputable section

open Idealize.ShloMosaic Idealize.ShloMosaic.TcCoe Idealize.SL.Sem
open Idealize.ShloMosaic.Pipeline (Dat)

namespace Cert.ProjRun

open Cert.ProjIdeal Cert.ProjIdeal.Gen Cert.ProjQuantise Cert.ProjProduct Cert.ProjSpec

variable (m : (ℓ : Loc nD τ sig) → Buf (Elt Ideal) ℓ)

/-- The stored scales: the lanes of the scratch, transposed, the first 48 kept. -/
theorem pay7_at (V : Vec Ideal S256x128 .f32) (r : Fin 48) (i : Fin 256) :
    k0_pay7 (F := Ideal) V (ix2 r i) = V (ix2 i (⟨r.val, by omega⟩ : Fin 128)) := by
  pointwise [k0_pay7]

/-- An index of the scratch of scales lies where it says. -/
theorem lanes_idx (i : Fin 256) (l : Fin 128) :
    (Rect.unit (s := S256x128) ![0, 0] ![256, 128] inb_S256x128_S256x128_0_0).toLoadRect.idx (ix2 i l) = ix2 i l := by
  refine funext fun a => Fin.ext ?_
  match a with
  | ⟨0, _⟩ => show 0 + 1 * i.val = i.val; omega
  | ⟨1, _⟩ => show 0 + 1 * l.val = l.val; omega

/-- The scales stored from lanes that hold a block's scales. -/
theorem scales_of (L : List (View.Piece (Elt Ideal) S256x128 .f32)) (x : S256x6144.Idx → EReal) (g : FVec Ideal S1x6144 .f32)
    (h : ∀ y, View.canon (Val := Elt Ideal) L y = scalesBlk x g y) (r : Fin 48) (i : Fin 256) :
    k0_pay7 (F := Ideal) ((View.whole cc0_scratch3).readCov L (Rect.unit (s := S256x128) ![0, 0] ![256, 128] inb_S256x128_S256x128_0_0).toLoadRect) (ix2 r i)
      = scale (blockRow x i) (gainOf g) r := by
  refine (pay7_at _ r i).trans ?_
  refine (congrFun (View.readCov_eq_canon' _ _ _) _).trans ?_
  refine (h _).trans ((congrArg (scalesBlk x g) (lanes_idx i _)).trans ?_)
  rw [scalesBlk_at, laneScale, dif_pos r.isLt]

set_option maxHeartbeats 0

section later

variable (c : Dev nD) (t : Fin cfg0.N) (h0 : ¬ t.val % 12 = 0) (hB : Bounded (iblk m c 1 t))
include h0 hB

/-- The codes stored at a later point. -/
theorem codes_next (y : S256x6144.Idx) :
    (outsAt0 m c t.val t.isLt).1 y = codesBlk (iblk m c 2 t) (iblk m c 1 t) y := by
  rw [outsAt0_B m c t h0]
  frame_out
  exact codes_canon _ _ _ _ _ _ _ _ _ _ _ _ _ _ _ _ _ _ _ _ _ _ _ _ _ _ _ _ _ (iblk m c 2 t) (iblk m c 1 t) ((hs0_2 t).read_unread _) ((hs0_1 t).read_unread _) hB y

/-- The scales stored at a later point. -/
theorem scales_next (r : Fin 48) (i : Fin 256) :
    (outsAt0 m c t.val t.isLt).2.1 (ix2 r i) = scale (blockRow (iblk m c 2 t) i) (gainOf (iblk m c 1 t)) r := by
  rw [outsAt0_B m c t h0]
  frame_out
  refine scales_of _ (iblk m c 2 t) (iblk m c 1 t) (fun y => ?_) r i
  exact scales_canon _ _ _ _ _ _ _ _ _ _ _ _ _ _ _ _ _ _ _ _ _ _ _ _ _ _ _ _ _ (iblk m c 2 t) (iblk m c 1 t) ((hs0_2 t).read_unread _) ((hs0_1 t).read_unread _) hB y

/-- The product stored at a later point, over the scratch it finds. -/
theorem product_next (y : S2624x256.Idx) :
    (outsAt0 m c t.val t.isLt).2.2.1 y
      = productBlk (fun j k => (outsAt0 m c (t.val - 1) (Nat.lt_of_le_of_lt (Nat.sub_le _ _) t.isLt)).2.2.2 (ix2 j k))
          (fun i k => deq (blockRow (iblk m c 2 t) i) (gainOf (iblk m c 1 t)) k) y := by
  rw [outsAt0_B m c t h0]
  frame_out
  refine product_canon _ _ _ _ _ _ _ _ _ _ _ _ _ _ _ _ _ _ _ _ _ _ _ _ _ _ _ _ _ _ _ (fun j k => ?_) (fun i k => ?_) y
  · exact congrFun ((Memref.isWhole_whole cc0_scratch0).read_unread _) (ix2 j k)
  · refine (View.read_writes_junk_apply_eq_canon _ _ _).trans ?_
    exact deq_canon _ _ _ _ _ _ _ _ _ _ _ _ _ _ _ _ _ _ _ _ _ _ _ _ _ _ _ _ _ (iblk m c 2 t) (iblk m c 1 t) ((hs0_2 t).read_unread _) ((hs0_1 t).read_unread _) hB (ix2 i k)

omit hB in
/-- A later point keeps the scratch. -/
theorem scratch_next : (outsAt0 m c t.val t.isLt).2.2.2 = (outsAt0 m c (t.val - 1) (Nat.lt_of_le_of_lt (Nat.sub_le _ _) t.isLt)).2.2.2 := by
  rw [outsAt0_B m c t h0]
  rfl

end later

end Cert.ProjRun
end
-- ==== Proof.ProjBodyA.lean ====
/- What the body of the projecting call stores at its first grid point. -/
module

public import proofs.«01_k».proof.Proof.ProjBody

@[expose] public section

set_option maxRecDepth 65536

noncomputable section

open Idealize.ShloMosaic Idealize.ShloMosaic.TcCoe Idealize.SL.Sem
open Idealize.ShloMosaic.Pipeline (Dat)

namespace Cert.ProjRun

open Cert.ProjIdeal Cert.ProjIdeal.Gen Cert.ProjQuantise Cert.ProjProduct Cert.ProjSpec

variable (m : (ℓ : Loc nD τ sig) → Buf (Elt Ideal) ℓ)

set_option maxHeartbeats 0

section first

variable (c : Dev nD) (t : Fin cfg0.N) (h0 : t.val % 12 = 0) (hB : Bounded (iblk m c 1 t))
include h0 hB

/-- The codes stored at the first point. -/
theorem codes_first (y : S256x6144.Idx) :
    (outsAt0 m c t.val t.isLt).1 y = codesBlk (iblk m c 2 t) (iblk m c 1 t) y := by
  rw [outsAt0_A m c t h0]
  frame_out
  exact codes_canon _ _ _ _ _ _ _ _ _ _ _ _ _ _ _ _ _ _ _ _ _ _ _ _ _ _ _ _ _ (iblk m c 2 t) (iblk m c 1 t) ((hs0_2 t).read_unread _) ((hs0_1 t).read_unread _) hB y

/-- The scales stored at the first point. -/
theorem scales_first (r : Fin 48) (i : Fin 256) :
    (outsAt0 m c t.val t.isLt).2.1 (ix2 r i) = scale (blockRow (iblk m c 2 t) i) (gainOf (iblk m c 1 t)) r := by
  rw [outsAt0_A m c t h0]
  frame_out
  refine scales_of _ (iblk m c 2 t) (iblk m c 1 t) (fun y => ?_) r i
  exact scales_canon _ _ _ _ _ _ _ _ _ _ _ _ _ _ _ _ _ _ _ _ _ _ _ _ _ _ _ _ _ (iblk m c 2 t) (iblk m c 1 t) ((hs0_2 t).read_unread _) ((hs0_1 t).read_unread _) hB y

/-- The product stored at the first point. -/
theorem product_first (y : S2624x256.Idx) :
    (outsAt0 m c t.val t.isLt).2.2.1 y
      = productBlk (weightAt (iblk m c 0 t) ((View.whole main_arg1).read (Elt Ideal) (V m c main_arg1)))
          (fun i k => deq (blockRow (iblk m c 2 t) i) (gainOf (iblk m c 1 t)) k) y := by
  rw [outsAt0_A m c t h0]
  frame_out
  refine product_canon _ _ _ _ _ _ _ _ _ _ _ _ _ _ _ _ _ _ _ _ _ _ _ _ _ _ _ _ _ _ _ (fun j k => ?_) (fun i k => ?_) y
  · refine (View.read_writes_junk_apply_eq_canon _ _ _).trans (Eq.trans ?_ (tiles_canon (iblk m c 0 t) (V m c main_arg1) j k))
    refine congrArg (fun L => View.canon L (ix2 j k)) ?_
    sl_kernel_rfl
  · refine (View.read_writes_junk_apply_eq_canon _ _ _).trans ?_
    exact deq_canon _ _ _ _ _ _ _ _ _ _ _ _ _ _ _ _ _ _ _ _ _ _ _ _ _ _ _ _ _ (iblk m c 2 t) (iblk m c 1 t) ((hs0_2 t).read_unread _) ((hs0_1 t).read_unread _) hB (ix2 i k)

omit hB in
/-- At the first point the scratch is filled with the dequantised weight. -/
theorem scratch_first (j : Fin 2624) (k : Fin 6144) :
    (outsAt0 m c t.val t.isLt).2.2.2 (ix2 j k)
      = weightAt (iblk m c 0 t) ((View.whole main_arg1).read (Elt Ideal) (V m c main_arg1)) j k := by
  rw [outsAt0_A m c t h0]
  frame_out
  refine Eq.trans ?_ (tiles_canon (iblk m c 0 t) (V m c main_arg1) j k)
  refine congrArg (fun L => View.canon L (ix2 j k)) ?_
  sl_kernel_rfl

end first

end Cert.ProjRun
end
-- ==== Proof.ProjKernel.lean ====
module

public import proofs.«01_k».proof.Proof.ProjBodyA
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.ProjRun

open Cert.ProjIdeal Cert.ProjIdeal.Gen Cert.ProjQuantise Cert.ProjProduct Cert.ProjSpec

variable (m : (ℓ : Loc nD τ sig) → Buf (Elt Ideal) ℓ)

/-- Grid points count to 12. -/
theorem point_lt (t : Fin cfg0.N) : t.val < 12 := lt_of_lt_of_eq t.isLt N_0

/-- Argument 0, at its type. -/
abbrev A0 (c : Dev nD) : FVec Ideal S21x48 .f32 := m ((c : Thread nD τ).loc main_arg0)
/-- Argument 1, at its type. -/
abbrev A1 (c : Dev nD) : Vec Ideal S2624x6144 .fp8e4m3 := m ((c : Thread nD τ).loc main_arg1)
/-- Argument 2, at its type. -/
abbrev A2 (c : Dev nD) : FVec Ideal S1x6144 .f32 := m ((c : Thread nD τ).loc main_arg2)
/-- Argument 3, at its type. -/
abbrev A3 (c : Dev nD) : FVec Ideal S3072x6144 .f32 := m ((c : Thread nD τ).loc main_arg3)

/-- Row `i` of the block of grid point `t`. -/
def rowAt (t : Fin cfg0.N) (i : Fin 256) : Fin 3072 := ⟨t.val * 256 + i.val, by have := point_lt t; omega⟩

/-- Where the windows lie. -/
theorem idx (t : Fin cfg0.N) : win0_0.index t = ![0, 0] ∧ win0_1.index t = ![0, 0] ∧ win0_2.index t = ![t.val, 0]
    ∧ win0_3.index t = ![t.val, 0] ∧ win0_4.index t = ![0, t.val] ∧ win0_5.index t = ![0, t.val] := by
  revert t
  decide +kernel

/-- The gain's window holds the gain at every point. -/
theorem gain_eq (c : Dev nD) (t : Fin cfg0.N) : gainOf (iblk m c 1 t) = gainOf (A2 m c) := by
  refine funext fun k => ?_
  unfold gainOf
  blk_ext [iblk, V, idx t]

/-- The rows of a block are rows of the residual stream. -/
theorem row_eq (c : Dev nD) (t : Fin cfg0.N) (i : Fin 256) : blockRow (iblk m c 2 t) i = rowOf (A3 m c) (rowAt t i) := by
  refine funext fun k => ?_
  have := point_lt t
  unfold blockRow rowOf rowAt
  blk_ext [iblk, V, idx t]

/-- The tiles hold the dequantised weight. -/
theorem weight_eq (c : Dev nD) (t : Fin cfg0.N) (j : Fin 2624) (k : Fin 6144) :
    weightAt (iblk m c 0 t) ((View.whole main_arg1).read (Elt Ideal) (V m c main_arg1)) j k = weight (A0 m c) (A1 m c) j k := by
  unfold weightAt weight
  refine congrArg₂ (fun a b : EReal => a * b) rfl ?_
  blk_ext [iblk, V, idx t]

/-- The carried scratch holds, after every grid point, the dequantised weight. -/
theorem scratch (c : Dev nD) : ∀ (n : ℕ) (hn : n < cfg0.N) (j : Fin 2624) (k : Fin 6144),
    (outsAt0 m c n hn).2.2.2 (ix2 j k) = weight (A0 m c) (A1 m c) j k := by
  intro n
  induction n with
  | zero => intro hn j k; exact (scratch_first m c ⟨0, hn⟩ rfl j k).trans (weight_eq m c _ j k)
  | succ n ih =>
    intro hn j k
    have h12 : n + 1 < 12 := lt_of_lt_of_eq hn N_0
    have h0 : ¬ (n + 1) % 12 = 0 := by omega
    exact (congrFun (scratch_next m c ⟨n + 1, hn⟩ h0) (ix2 j k)).trans (ih (by omega) j k)

section bounded

variable (c : Dev nD) (hB : Bounded (A2 m c))
include hB

/-- The gain's window is bounded as the gain is. -/
theorem bounded_at (t : Fin cfg0.N) : Bounded (iblk m c 1 t) := by
  intro k
  rw [gain_eq m c t]
  exact hB k

/-- The codes stored at a point. -/
theorem codes_eq (t : Fin cfg0.N) (i : Fin 256) (k : Fin 6144) :
    (outsAt0 m c t.val t.isLt).1 (ix2 i k) = code (rowOf (A3 m c) (rowAt t i)) (gainOf (A2 m c)) k := by
  have e : (outsAt0 m c t.val t.isLt).1 (ix2 i k) = codesBlk (iblk m c 2 t) (iblk m c 1 t) (ix2 i k) := by
    by_cases h0 : t.val % 12 = 0
    · exact codes_first m c t h0 (bounded_at m c hB t) _
    · exact codes_next m c t h0 (bounded_at m c hB t) _
  rw [e, codesBlk_at, row_eq, gain_eq]

/-- The scales stored at a point. -/
theorem scales_eq (t : Fin cfg0.N) (r : Fin 48) (i : Fin 256) :
    (outsAt0 m c t.val t.isLt).2.1 (ix2 r i) = scale (rowOf (A3 m c) (rowAt t i)) (gainOf (A2 m c)) r := by
  have e : (outsAt0 m c t.val t.isLt).2.1 (ix2 r i) = scale (blockRow (iblk m c 2 t) i) (gainOf (iblk m c 1 t)) r := by
    by_cases h0 : t.val % 12 = 0
    · exact scales_first m c t h0 (bounded_at m c hB t) r i
    · exact scales_next m c t h0 (bounded_at m c hB t) r i
  rw [e, row_eq, gain_eq]

/-- The product stored at a point. -/
theorem product_eq (t : Fin cfg0.N) (j : Fin 2624) (i : Fin 256) :
    (outsAt0 m c t.val t.isLt).2.2.1 (ix2 j i) = qkvAt (A0 m c) (A1 m c) (A2 m c) (A3 m c) j (rowAt t i) := by
  have e : (outsAt0 m c t.val t.isLt).2.2.1 (ix2 j i)
      = ∑ k, weight (A0 m c) (A1 m c) j k * deq (blockRow (iblk m c 2 t) i) (gainOf (iblk m c 1 t)) k := by
    by_cases h0 : t.val % 12 = 0
    · refine (product_first m c t h0 (bounded_at m c hB t) _).trans ((productBlk_at _ _ j i).trans ?_)
      exact Finset.sum_congr rfl fun k _ => congrArg₂ (fun a b : EReal => a * b) (weight_eq m c t j k) rfl
    · refine (product_next m c t h0 (bounded_at m c hB t) _).trans ((productBlk_at _ _ j i).trans ?_)
      exact Finset.sum_congr rfl fun k _ => congrArg₂ (fun a b : EReal => a * b) (scratch m c _ _ j k) rfl
  rw [e, row_eq, gain_eq]
  rfl

/-- The array of codes. -/
def codesArr (y : S3072x6144.Idx) : EReal :=
  code (rowOf (A3 m c) (show Fin 3072 from y 0)) (gainOf (A2 m c)) (show Fin 6144 from y 1)

/-- The array of scales. -/
def scalesArr (y : S48x3072.Idx) : EReal :=
  scale (rowOf (A3 m c) (show Fin 3072 from y 1)) (gainOf (A2 m c)) (show Fin 48 from y 0)

/-- The projected array. -/
def qkvArr (y : S2624x3072.Idx) : EReal :=
  qkvAt (A0 m c) (A1 m c) (A2 m c) (A3 m c) (show Fin 2624 from y 0) (show Fin 3072 from y 1)

omit hB in
/-- An entry of the array of codes, named by its two indices. -/
theorem codesArr_of (y : S3072x6144.Idx) (i : Fin 3072) (k : Fin 6144) (hi : (y 0).val = i.val) (hk : (y 1).val = k.val) :
    code (rowOf (A3 m c) i) (gainOf (A2 m c)) k = codesArr m c y := by
  unfold codesArr
  rw [show i = (show Fin 3072 from y 0) from Fin.ext hi.symm, show k = (show Fin 6144 from y 1) from Fin.ext hk.symm]

omit hB in
/-- An entry of the array of scales, named by its two indices. -/
theorem scalesArr_of (y : S48x3072.Idx) (r : Fin 48) (i : Fin 3072) (hr : (y 0).val = r.val) (hi : (y 1).val = i.val) :
    scale (rowOf (A3 m c) i) (gainOf (A2 m c)) r = scalesArr m c y := by
  unfold scalesArr
  rw [show r = (show Fin 48 from y 0) from Fin.ext hr.symm, show i = (show Fin 3072 from y 1) from Fin.ext hi.symm]

omit hB in
/-- An entry of the projected array, named by its two indices. -/
theorem qkvArr_of (y : S2624x3072.Idx) (j : Fin 2624) (i : Fin 3072) (hj : (y 0).val = j.val) (hi : (y 1).val = i.val) :
    qkvAt (A0 m c) (A1 m c) (A2 m c) (A3 m c) j i = qkvArr m c y := by
  unfold qkvArr
  rw [show j = (show Fin 2624 from y 0) from Fin.ext hj.symm, show i = (show Fin 3072 from y 1) from Fin.ext hi.symm]

/-- The first result array after the run: the codes. -/
theorem result_codes : (dats m 0 c).arrAt 3 (cfgs 0).N = codesArr m c := by
  refine (dats m 0 c).arrAt_eq_of_covers 3 _ (by decide +kernel) fun t _ y => ?_
  have := point_lt t
  blk_simp
  rw [after0_3]
  idx_vars y
  rw [codes_eq m c hB]
  refine codesArr_of m c _ _ _ ?_ ?_
  · blk_simp [idx t, rowAt]
  · blk_simp [idx t, rowAt]

/-- The second result array after the run: the scales. -/
theorem result_scales : (dats m 0 c).arrAt 4 (cfgs 0).N = scalesArr m c := by
  refine (dats m 0 c).arrAt_eq_of_covers 4 _ (by decide +kernel) fun t _ y => ?_
  have := point_lt t
  blk_simp
  rw [after0_4]
  idx_vars y
  rw [scales_eq m c hB]
  refine scalesArr_of m c _ _ _ ?_ ?_
  · blk_simp [idx t, rowAt]
  · blk_simp [idx t, rowAt]

/-- The third result array after the run: the projection. -/
theorem result_qkv : (dats m 0 c).arrAt 5 (cfgs 0).N = qkvArr m c := by
  refine (dats m 0 c).arrAt_eq_of_covers 5 _ (by decide +kernel) fun t _ y => ?_
  have := point_lt t
  blk_simp
  rw [after0_5]
  idx_vars y
  rw [product_eq m c hB]
  refine qkvArr_of m c _ _ _ ?_ ?_
  · blk_simp [idx t, rowAt]
  · blk_simp [idx t, rowAt]

end bounded

end Cert.ProjRun

end
-- ==== Proof.ProjAlgebraic.lean ====
module

public import proofs.«01_k».proof.Defs
public import proofs.«01_k».proof.Proof.ProjKernel
public import proofs.«01_k».proof.Proof.Gen.ProjReferenceIdeal.Value

@[expose] public section

set_option maxRecDepth 16384

noncomputable section

open Idealize.ShloMosaic Idealize.ShloMosaic.TcCoe Idealize.SL.Sem

namespace Cert.Proof

instance proj_facts : Cert.ProjIdeal.Facts := Cert.ProjIdeal.Gen.facts
instance proj_reference_facts : Cert.ProjReferenceIdeal.Facts := Cert.ProjReferenceIdeal.Gen.facts
/-- The side condition of the precondition's broadcast. -/
instance gain_facts : Cert.Pre_gain_bounded.Facts := ⟨by decide⟩

/-- A gain the precondition holds of is at most the bound in magnitude. -/
theorem bounded_of (a0 : FVec Ideal Cert.ProjIdeal.S21x48 .f32) (a1 : FVec Ideal Cert.ProjIdeal.S2624x6144 .fp8e4m3) (a2 : FVec Ideal Cert.ProjIdeal.S1x6144 .f32)
    (a3 : FVec Ideal Cert.ProjIdeal.S3072x6144 .f32) (h : ∀ i, Cert.Pre_gain_bounded.fn (F := Ideal) a0 a1 a2 a3 i = 1#1) : Cert.ProjQuantise.Bounded a2 := by
  intro k
  have e := h (ix2 (0 : Fin 1) k)
  have e' : BitVec.ofBool (decide (max (a2 (ix2 (0 : Fin 1) k)) (-(a2 (ix2 (0 : Fin 1) k))) ≤ Ideal.ofBits .f32 0x7149F2CA#32)) = 1#1 := e
  by_contra hn
  rw [show decide (max (a2 (ix2 (0 : Fin 1) k)) (-(a2 (ix2 (0 : Fin 1) k))) ≤ Ideal.ofBits .f32 0x7149F2CA#32) = false from decide_eq_false hn] at e'
  exact absurd e' (by decide)

section reference

variable (a0 : FVec Ideal Cert.ProjIdeal.S21x48 .f32) (a1 : Vec Ideal Cert.ProjIdeal.S2624x6144 .fp8e4m3) (a2 : FVec Ideal Cert.ProjIdeal.S1x6144 .f32)
  (a3 : FVec Ideal Cert.ProjIdeal.S3072x6144 .f32)

/-- The reference's exponents are of the whole arrays. -/
theorem exponents_whole : Cert.ProjReferenceIdeal.Gen.k0_pay8 (F := Ideal) a0 a1 a2 a3 = Cert.ProjReferenceIdeal.Gen.k0_pay6 a3 a2 := by
  unfold Cert.ProjReferenceIdeal.Gen.k0_pay8
  have e1 : View.ld (Val := Elt Ideal) (e' := .f32) a3 Cert.ProjReferenceIdeal.Gen.r0_0 = a3 := by
    refine funext fun y => congrArg a3 (funext fun a => Fin.ext ?_)
    match a with
    | ⟨0, _⟩ => show 0 + 1 * (y 0).val = (y 0).val; omega
    | ⟨1, _⟩ => show 0 + 1 * (y 1).val = (y 1).val; omega
  have e2 : View.ld (Val := Elt Ideal) (e' := .f32) a2 Cert.ProjReferenceIdeal.Gen.r0_1 = a2 := by
    refine funext fun y => congrArg a2 (funext fun a => Fin.ext ?_)
    match a with
    | ⟨0, _⟩ => show 0 + 1 * (y 0).val = (y 0).val; omega
    | ⟨1, _⟩ => show 0 + 1 * (y 1).val = (y 1).val; omega
  rw [e1, e2]

/-- The reference's codes are of the whole arrays. -/
theorem codes_whole : Cert.ProjReferenceIdeal.Gen.k0_pay9 (F := Ideal) a0 a1 a2 a3 = Cert.ProjReferenceIdeal.Gen.k0_pay7 a3 a2 := by
  unfold Cert.ProjReferenceIdeal.Gen.k0_pay9
  have e1 : View.ld (Val := Elt Ideal) (e' := .f32) a3 Cert.ProjReferenceIdeal.Gen.r0_0 = a3 := by
    refine funext fun y => congrArg a3 (funext fun a => Fin.ext ?_)
    match a with
    | ⟨0, _⟩ => show 0 + 1 * (y 0).val = (y 0).val; omega
    | ⟨1, _⟩ => show 0 + 1 * (y 1).val = (y 1).val; omega
  have e2 : View.ld (Val := Elt Ideal) (e' := .f32) a2 Cert.ProjReferenceIdeal.Gen.r0_1 = a2 := by
    refine funext fun y => congrArg a2 (funext fun a => Fin.ext ?_)
    match a with
    | ⟨0, _⟩ => show 0 + 1 * (y 0).val = (y 0).val; omega
    | ⟨1, _⟩ => show 0 + 1 * (y 1).val = (y 1).val; omega
  rw [e1, e2]

/-- The reference's first result is the array of codes. -/
theorem reference_codes (y : Cert.ProjIdeal.S3072x6144.Idx) :
    Cert.ProjReferenceIdeal.Value.G4 (F := Ideal) a0 a1 a2 a3 y
      = Cert.ProjSpec.code (Cert.ProjSpec.rowOf a3 (show Fin 3072 from y 0)) (Cert.ProjSpec.gainOf a2) (show Fin 6144 from y 1) := by
  unfold Cert.ProjReferenceIdeal.Value.G4
  rw [codes_whole, eq_ix2 y]
  exact Cert.ProjSpec.reference_code_at a3 a2 (y 0) (y 1)

/-- The reference's second result is the array of scales. -/
theorem reference_scales (y : Cert.ProjIdeal.S48x3072.Idx) :
    Cert.ProjReferenceIdeal.Value.G5 (F := Ideal) a0 a1 a2 a3 y
      = Cert.ProjSpec.scale (Cert.ProjSpec.rowOf a3 (show Fin 3072 from y 1)) (Cert.ProjSpec.gainOf a2) (show Fin 48 from y 0) := by
  unfold Cert.ProjReferenceIdeal.Value.G5
  rw [exponents_whole, eq_ix2 y]
  exact Cert.ProjSpec.reference_scale_at a3 a2 (y 0) (y 1)

/-- The reference's third result is the projected array. -/
theorem reference_qkv (y : Cert.ProjIdeal.S2624x3072.Idx) :
    Cert.ProjReferenceIdeal.Value.G6 (F := Ideal) a0 a1 a2 a3 y
      = Cert.ProjSpec.qkvAt a0 a1 a2 a3 (show Fin 2624 from y 0) (show Fin 3072 from y 1) := by
  unfold Cert.ProjReferenceIdeal.Value.G6
  rw [exponents_whole, codes_whole, eq_ix2 y]
  exact Cert.ProjSpec.reference_qkv_at a0 a1 a2 a3 (y 0) (y 1)

end reference

/-- Kernel and reference of the projecting call end with the same arrays over the reals, for every bounded gain. -/
theorem proj_algebraic :
    Cert.algebraic_ProjIdeal_ProjReferenceIdeal_pre_gain_bounded (hProjIdeal := Cert.ProjIdeal.Gen.facts)
      (hProjReferenceIdeal := Cert.ProjReferenceIdeal.Gen.facts) (hPre_gain_bounded := gain_facts) := by
  intro m g m' g' hp hag
  have hB : ∀ c, Cert.ProjQuantise.Bounded (Cert.ProjRun.A2 m c) := fun c => bounded_of (Cert.ProjRun.A0 m c) (Cert.ProjRun.A1 m c) (Cert.ProjRun.A2 m c) (Cert.ProjRun.A3 m c) (fun i => congrFun (hp c) i)
  refine ⟨fun c => Cert.ProjRun.codesArr m c, fun c => Cert.ProjRun.scalesArr m c, fun c => Cert.ProjRun.qkvArr m c, ?_, ?_⟩
  · exact (θ_run (Cert.ProjIdeal.defs (F := Ideal)) _ _).mono
      (fun _ h c => ⟨(h c).1.trans (Cert.ProjRun.result_codes m c (hB c)), (h c).2.1.trans (Cert.ProjRun.result_scales m c (hB c)),
        (h c).2.2.1.trans (Cert.ProjRun.result_qkv m c (hB c)), (h c).2.2.2⟩)
      (Cert.ProjRun.Value.run_blocks (F := Ideal) m g)
  refine (θ_run (Cert.ProjReferenceIdeal.defs (F := Ideal)) _ _).mono (fun _ h c => ⟨(h c).1.trans ?_, (h c).2.1.trans ?_, (h c).2.2.1.trans ?_, (h c).2.2.2⟩)
    (Cert.ProjReferenceIdeal.Value.run (F := Ideal) m' g')
  · obtain ⟨e0, e1, e2, e3⟩ := hag c
    rw [e0, e1, e2, e3]
    exact funext fun y => reference_codes _ _ _ _ y
  · obtain ⟨e0, e1, e2, e3⟩ := hag c
    rw [e0, e1, e2, e3]
    exact funext fun y => reference_scales _ _ _ _ y
  · obtain ⟨e0, e1, e2, e3⟩ := hag c
    rw [e0, e1, e2, e3]
    exact funext fun y => reference_qkv _ _ _ _ y

end Cert.Proof

end
-- ==== Proof.lean ====
module

public import proofs.«01_k».proof.Defs
public import proofs.«01_k».proof.Proof.Gen.Residual
public import proofs.«01_k».proof.Proof.Gen.Residual.Skeleton
public import proofs.«01_k».proof.Proof.Gen.Residual.Launch
public import proofs.«01_k».proof.Proof.Gen.Residual.Points
public import proofs.«01_k».proof.Proof.Gen.Residual.Frame
public import proofs.«01_k».proof.Proof.Gen.ResidualIdeal
public import proofs.«01_k».proof.Proof.Gen.ResidualIdeal.Skeleton
public import proofs.«01_k».proof.Proof.Gen.ResidualIdeal.Launch
public import proofs.«01_k».proof.Proof.Gen.ResidualIdeal.Points
public import proofs.«01_k».proof.Proof.Gen.ResidualIdeal.Frame
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.FloatFrame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.ProjFrame
public import Idealize.ShloMosaic.Adequacy
public import Idealize.ShloMosaic.Init
public import proofs.«01_k».proof.Proof.Gen.ResidualIdeal.Value
public import proofs.«01_k».proof.Proof.Gen.ResidualReferenceIdeal.Value
public import proofs.«01_k».proof.Proof.Gen.ProjReferenceIdeal.Value
public import proofs.«01_k».proof.Proof.ResidualAlgebraic
public import proofs.«01_k».proof.Proof.ProjAlgebraic

@[expose] public section

noncomputable section

namespace Cert.Proof

open Idealize.ShloMosaic Idealize.SL.Sem

/-- Every claim of the certificate. -/
theorem claim : Cert.Claim :=
  ⟨Cert.Residual.Gen.facts, Cert.ResidualIdeal.Gen.facts, Cert.ResidualReferenceIdeal.Gen.facts,
    Cert.Proj.Gen.facts, Cert.ProjIdeal.Gen.facts, Cert.ProjReferenceIdeal.Gen.facts, gain_facts,
    fun m ρ _ => Cert.Residual.Gen.frame m ρ,
    fun m ρ _ => Cert.ResidualIdeal.Gen.frame m ρ,
    fun m ρ _ => Cert.ResidualReferenceIdeal.Gen.frame m ρ,
    fun m ρ _ => Cert.FloatRun.frame m ρ,
    fun m ρ _ => Cert.ProjRun.frame m ρ,
    fun m ρ _ => Cert.ProjRun.frame m ρ,
    fun m ρ _ => Cert.ProjReferenceIdeal.Gen.frame m ρ,
    fun m ρ _ => Cert.ProjReferenceIdeal.Gen.frame m ρ,
    trivial,
    residual_algebraic,
    trivial,
    proj_algebraic⟩

end Cert.Proof

end
